-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v25) = v2 c
          ∧ r.2.mem ((c.tc : Thread Cert.Reference2Ideal.nD Cert.Reference2Ideal.τ).loc Cert.Reference2Ideal.main_v26) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.named_const.Statement Cert.Kernel3Ideal.κ "zscale" .f32 0x3E38AA3B#32 (((8 * (Real.log 2))⁻¹ : ℝ) : EReal)
  ∧ IdealRules.named_const.Statement Cert.Kernel3Ideal.κ "log2e" .f32 0x3FB8AA3B#32 (((Real.log 2)⁻¹ : ℝ) : EReal)
  ∧ IdealRules.named_const.Statement Cert.Kernel3Ideal.κ "skip" .f32 0xC3180000#32 ⊥

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v21_0)) (v1 : (c : Dev Cert.Kernel4Ideal.nD) → Buf (Elt Ideal) ((c.tc : Thread Cert.Kernel4Ideal.nD Cert.Kernel4Ideal.τ).loc Cert.Kernel4Ideal.main_v21_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_0) = v0 c
          ∧ r.2.mem ((c.tc : Thread Cert.Kernel4Ideal.nD Cert.Kernel4Ideal.τ).loc Cert.Kernel4Ideal.main_v21_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v53) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_in_range : Cert.Pre_in_range.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
-- ==== Pre_finite.lean ====
abbrev S32768x1536 : Shape := ⟨2, ![32768, 1536]⟩
abbrev S32768x1024 : Shape := ⟨2, ![32768, 1024]⟩
abbrev S_ : Shape := ⟨0, ![]⟩

class Facts : Prop where
  slices_S32768x1536_S32768x1024_0_0 : S32768x1536.Slices ![0, 0] S32768x1024
  bitsLt_bf16_f32 : FTy.bits .bf16 < FTy.bits .f32
  bcast_S_S32768x1024 : S_.BroadcastsInDim S32768x1024 (![] : Fin 0 → Fin S32768x1024.rank)

variable [Facts]

def fn {F : FTy → Type} [FloatOps F] (main_arg0 : FVec F S32768x1536 .bf16) : IVec S32768x1024 1 :=
  let main_v0 : FVec F S32768x1024 .bf16 := (extractStridedSlice S32768x1024 ![0, 0] · slices_S32768x1536_S32768x1024_0_0) main_arg0
  let main_v1 : FVec F S32768x1024 .f32 := (extf .f32 · bitsLt_bf16_f32) main_v0
  let main_v2 : FVec F S32768x1024 .f32 := Host.absf main_v1
  let main_cst : FVec F S_ .f32 := constant S_ .f32 0x7F800000#32
  let main_v3 : FVec F S32768x1024 .f32 := broadcastInDim S32768x1024 ![] bcast_S_S32768x1024 main_cst
  let main_v4 : IVec S32768x1024 1 := cmpf .olt main_v2 main_v3
  main_v4
-- ==== Pre_in_range.lean ====
abbrev S219 : Shape := ⟨1, ![219]⟩
abbrev S1 : Shape := ⟨1, ![1]⟩
abbrev S112128x1024 : Shape := ⟨2, ![112128, 1024]⟩
abbrev S2x32x1024x256 : Shape := ⟨4, ![2, 32, 1024, 256]⟩
abbrev S2x32x256x1024 : Shape := ⟨4, ![2, 32, 256, 1024]⟩
abbrev S_ : Shape := ⟨0, ![]⟩

class Facts : Prop where
  bcast_S_S219 : S_.BroadcastsInDim S219 (![] : Fin 0 → Fin S219.rank)
  bcast_S_S1 : S_.BroadcastsInDim S1 (![] : Fin 0 → Fin S1.rank)
  bcast_S1_S219_0 : S1.BroadcastsInDim S219 (![0] : Fin 1 → Fin S219.rank)

variable [Facts]

def fn {F : FTy → Type} [FloatOps F] (main_arg0 : IVec S219 32) (main_arg1 : IVec S1 32) (main_arg2 : FVec F S112128x1024 .bf16) (main_arg3 : FVec F S2x32x1024x256 .f32) (main_arg4 : FVec F S2x32x1024x256 .f32) (main_arg5 : FVec F S2x32x256x1024 .f32) : IVec S219 1 :=
  let main_c : IVec S_ 32 := constantI S_ 32 0#32
  let main_v0 : IVec S219 32 := broadcastInDim S219 ![] bcast_S_S219 main_c
  let main_v1 : IVec S219 1 := cmpi .sge main_arg0 main_v0
  let main_c_0 : IVec S_ 32 := constantI S_ 32 32#32
  let main_v2 : IVec S219 32 := broadcastInDim S219 ![] bcast_S_S219 main_c_0
  let main_v3 : IVec S219 1 := cmpi .slt main_arg0 main_v2
  let main_v4 : IVec S219 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S219 1 := broadcastInDim S219 ![0] bcast_S1_S219_0 main_v6
  let main_v8 : IVec S219 1 := andi main_v4 main_v7
  main_v8
-- ==== Kernel.lean ====
abbrev S219 : Shape := ⟨1, ![219]⟩
abbrev S1 : Shape := ⟨1, ![1]⟩
abbrev S112128x1024 : Shape := ⟨2, ![112128, 1024]⟩
abbrev S2x32x1024x256 : Shape := ⟨4, ![2, 32, 1024, 256]⟩
abbrev S2x32x256x1024 : Shape := ⟨4, ![2, 32, 256, 1024]⟩
abbrev S512x1024 : Shape := ⟨2, ![512, 1024]⟩
abbrev S1x1x1024x256 : Shape := ⟨4, ![1, 1, 1024, 256]⟩
abbrev S1x1x256x1024 : Shape := ⟨4, ![1, 1, 256, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 5
  | .vmem => 10
  | .smem => 2
  | _ => 0

abbrev bufTy : (tb : Table) → Fin (tcTables nBuf tb) → BufTy
  | .hbm, ⟨0, _⟩ => ⟨S112128x1024, .bf16⟩
  | .hbm, ⟨1, _⟩ => ⟨S2x32x1024x256, .f32⟩
  | .hbm, ⟨2, _⟩ => ⟨S2x32x1024x256, .f32⟩
  | .hbm, ⟨3, _⟩ => ⟨S2x32x256x1024, .f32⟩
  | .hbm, ⟨4, _⟩ => ⟨S112128x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S512x1024, .bf16⟩
  | .local _ .vmem, ⟨9, _⟩ => ⟨S512x1024, .bf16⟩
  | .local _ .smem, ⟨0, _⟩ => ⟨S219, .i32⟩
  | .local _ .smem, ⟨1, _⟩ => ⟨S1, .i32⟩
  | _, _ => ⟨S112128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![219], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S219.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S219) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S219.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S219) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S219.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S219) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S219 : Shape := ⟨1, ![219]⟩
abbrev S1 : Shape := ⟨1, ![1]⟩
abbrev S112128x1024 : Shape := ⟨2, ![112128, 1024]⟩
abbrev S2x32x1024x256 : Shape := ⟨4, ![2, 32, 1024, 256]⟩
abbrev S2x32x256x1024 : Shape := ⟨4, ![2, 32, 256, 1024]⟩
abbrev S112128 : Shape := ⟨1, ![112128]⟩
abbrev S112128x1 : Shape := ⟨2, ![112128, 1]⟩
abbrev S_ : Shape := ⟨0, ![]⟩
abbrev S219x512 : Shape := ⟨2, ![219, 512]⟩
abbrev S32 : Shape := ⟨1, ![32]⟩
abbrev S1x32 : Shape := ⟨2, ![1, 32]⟩
abbrev S112128x32 : Shape := ⟨2, ![112128, 32]⟩
abbrev S1x32x1024x256 : Shape := ⟨4, ![1, 32, 1024, 256]⟩
abbrev S32x1024x256 : Shape := ⟨3, ![32, 1024, 256]⟩
abbrev S32x256x112128 : Shape := ⟨3, ![32, 256, 112128]⟩
abbrev S32x112128x256 : Shape := ⟨3, ![32, 112128, 256]⟩
abbrev S1x32x256x1024 : Shape := ⟨4, ![1, 32, 256, 1024]⟩
abbrev S32x256x1024 : Shape := ⟨3, ![32, 256, 1024]⟩
abbrev S32x112128x1024 : Shape := ⟨3, ![32, 112128, 1024]⟩
abbrev S32x112128 : Shape := ⟨2, ![32, 112128]⟩
abbrev S32x112128x1 : Shape := ⟨3, ![32, 112128, 1]⟩

abbrev nBuf : Space → Nat
  | .hbm => 74
  | .vmem => 0
  | .smem => 0
  | _ => 0

abbrev bufTy : (tb : Table) → Fin (tcTables nBuf tb) → BufTy
  | .hbm, ⟨0, _⟩ => ⟨S219, .i32⟩
  | .hbm, ⟨1, _⟩ => ⟨S1, .i32⟩
  | .hbm, ⟨2, _⟩ => ⟨S112128x1024, .bf16⟩
  | .hbm, ⟨3, _⟩ => ⟨S2x32x1024x256, .f32⟩
  | .hbm, ⟨4, _⟩ => ⟨S2x32x1024x256, .f32⟩
  | .hbm, ⟨5, _⟩ => ⟨S2x32x256x1024, .f32⟩
  | .hbm, ⟨6, _⟩ => ⟨S112128x1024, .f32⟩
  | .hbm, ⟨7, _⟩ => ⟨S112128, .i32⟩
  | .hbm, ⟨8, _⟩ => ⟨S112128x1, .i32⟩
  | .hbm, ⟨9, _⟩ => ⟨S_, .i32⟩
  | .hbm, ⟨10, _⟩ => ⟨S_, .i32⟩
  | .hbm, ⟨11, _⟩ => ⟨S112128x1, .i32⟩
  | .hbm, ⟨12, _⟩ => ⟨S112128x1, .i32⟩
  | .hbm, ⟨13, _⟩ => ⟨S112128x1, .i32⟩
  | .hbm, ⟨14, _⟩ => ⟨S_, .i32⟩
  | .hbm, ⟨15, _⟩ => ⟨S112128x1, .i32⟩
  | .hbm, ⟨16, _⟩ => ⟨S112128x1, .i1⟩
  | .hbm, ⟨17, _⟩ => ⟨S112128x1, .i32⟩
  | .hbm, ⟨18, _⟩ => ⟨S112128x1, .i32⟩
  | .hbm, ⟨19, _⟩ => ⟨S_, .i32⟩
  | .hbm, ⟨20, _⟩ => ⟨S112128x1, .i32⟩
  | .hbm, ⟨21, _⟩ => ⟨S112128x1, .i1⟩
  | .hbm, ⟨22, _⟩ => ⟨S112128x1, .i1⟩
  | .hbm, ⟨23, _⟩ => ⟨S_, .i32⟩
  | .hbm, ⟨24, _⟩ => ⟨S112128x1, .i32⟩
  | .hbm, ⟨25, _⟩ => ⟨S112128x1, .i32⟩
  | .hbm, ⟨26, _⟩ => ⟨S112128x1, .i32⟩
  | .hbm, ⟨27, _⟩ => ⟨S219x512, .i32⟩
  | .hbm, ⟨28, _⟩ => ⟨S112128, .i32⟩
  | .hbm, ⟨29, _⟩ => ⟨S112128x1, .i32⟩
  | .hbm, ⟨30, _⟩ => ⟨S32, .i32⟩
  | .hbm, ⟨31, _⟩ => ⟨S1x32, .i32⟩
  | .hbm, ⟨32, _⟩ => ⟨S112128x32, .i32⟩
  | .hbm, ⟨33, _⟩ => ⟨S112128x32, .i32⟩
  | .hbm, ⟨34, _⟩ => ⟨S112128x32, .i1⟩
  | .hbm, ⟨35, _⟩ => ⟨S_, .i32⟩
  | .hbm, ⟨36, _⟩ => ⟨S112128x1, .i32⟩
  | .hbm, ⟨37, _⟩ => ⟨S112128x1, .i1⟩
  | .hbm, ⟨38, _⟩ => ⟨S112128x32, .i1⟩
  | .hbm, ⟨39, _⟩ => ⟨S112128x32, .i1⟩
  | .hbm, ⟨40, _⟩ => ⟨S_, .f32⟩
  | .hbm, ⟨41, _⟩ => ⟨S_, .f32⟩
  | .hbm, ⟨42, _⟩ => ⟨S112128x32, .f32⟩
  | .hbm, ⟨43, _⟩ => ⟨S112128x32, .f32⟩
  | .hbm, ⟨44, _⟩ => ⟨S112128x32, .f32⟩
  | .hbm, ⟨45, _⟩ => ⟨S1x32x1024x256, .f32⟩
  | .hbm, ⟨46, _⟩ => ⟨S32x1024x256, .f32⟩
  | .hbm, ⟨47, _⟩ => ⟨S32x256x112128, .f32⟩
  | .hbm, ⟨48, _⟩ => ⟨S32x112128x256, .f32⟩
  | .hbm, ⟨49, _⟩ => ⟨S1x32x1024x256, .f32⟩
  | .hbm, ⟨50, _⟩ => ⟨S32x1024x256, .f32⟩
  | .hbm, ⟨51, _⟩ => ⟨S32x256x112128, .f32⟩
  | .hbm, ⟨52, _⟩ => ⟨S32x112128x256, .f32⟩
  | .hbm, ⟨53, _⟩ => ⟨S32x112128x256, .f32⟩
  | .hbm, ⟨54, _⟩ => ⟨S32x112128x256, .f32⟩
  | .hbm, ⟨55, _⟩ => ⟨S_, .f32⟩
  | .hbm, ⟨56, _⟩ => ⟨S32x112128x256, .f32⟩
  | .hbm, ⟨57, _⟩ => ⟨S32x112128x256, .f32⟩
  | .hbm, ⟨58, _⟩ => ⟨S_, .f32⟩
  | .hbm, ⟨59, _⟩ => ⟨S32x112128x256, .f32⟩
  | .hbm, ⟨60, _⟩ => ⟨S32x112128x256, .f32⟩
  | .hbm, ⟨61, _⟩ => ⟨S32x112128x256, .f32⟩
  | .hbm, ⟨62, _⟩ => ⟨S32x112128x256, .f32⟩
  | .hbm, ⟨63, _⟩ => ⟨S1x32x256x1024, .f32⟩
  | .hbm, ⟨64, _⟩ => ⟨S32x256x1024, .f32⟩
  | .hbm, ⟨65, _⟩ => ⟨S32x112128x1024, .f32⟩
  | .hbm, ⟨66, _⟩ => ⟨S32x112128, .f32⟩
  | .hbm, ⟨67, _⟩ => ⟨S32x112128x1, .f32⟩
  | .hbm, ⟨68, _⟩ => ⟨S32x112128x1, .f32⟩
  | .hbm, ⟨69, _⟩ => ⟨S32x112128x1024, .f32⟩
  | .hbm, ⟨70, _⟩ => ⟨S32x112128x1024, .f32⟩
  | .hbm, ⟨71, _⟩ => ⟨S_, .f32⟩
  | .hbm, ⟨72, _⟩ => ⟨S112128x1024, .f32⟩
  | .hbm, ⟨73, _⟩ => ⟨S112128x1024, .bf16⟩
  | _, _ => ⟨S219, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_call2_v0 : Ref sig .tc := ⟨.hbm, 53, rfl⟩
abbrev main_call2_v1 : Ref sig .tc := ⟨.hbm, 54, rfl⟩
abbrev main_call2_cst : Ref sig .tc := ⟨.hbm, 55, rfl⟩
abbrev main_call2_v2 : Ref sig .tc := ⟨.hbm, 56, rfl⟩
abbrev main_call2_v3 : Ref sig .tc := ⟨.hbm, 57, rfl⟩
abbrev main_call2_cst_0 : Ref sig .tc := ⟨.hbm, 58, rfl⟩
abbrev main_call2_v4 : Ref sig .tc := ⟨.hbm, 59, rfl⟩
abbrev main_call2_v5 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_1 : Ref sig .tc := ⟨.hbm, 71, rfl⟩
abbrev main_v36 : Ref sig .tc := ⟨.hbm, 72, rfl⟩
abbrev main_v37 : Ref sig .tc := ⟨.hbm, 73, rfl⟩

abbrev nD : Nat := 1
abbrev τ : Topo := Topo.v7x

variable {F : FTy → Type} [FloatOps F]
-- ==== Kernel2.lean ====
abbrev S32768x1024 : Shape := ⟨2, ![32768, 1024]⟩
abbrev S2x1024 : Shape := ⟨2, ![2, 1024]⟩
abbrev S2x1024x7168 : Shape := ⟨3, ![2, 1024, 7168]⟩
abbrev S2x1x1024 : Shape := ⟨3, ![2, 1, 1024]⟩
abbrev S32768x1536 : Shape := ⟨2, ![32768, 1536]⟩
abbrev S4x32768x128 : Shape := ⟨3, ![4, 32768, 128]⟩
abbrev S32768x2048 : Shape := ⟨2, ![32768, 2048]⟩
abbrev S32768x3072 : Shape := ⟨2, ![32768, 3072]⟩
abbrev S512x1024 : Shape := ⟨2, ![512, 1024]⟩
abbrev S1x1x1024 : Shape := ⟨3, ![1, 1, 1024]⟩
abbrev S1x1024x7168 : Shape := ⟨3, ![1, 1024, 7168]⟩
abbrev S512x1536 : Shape := ⟨2, ![512, 1536]⟩
abbrev S4x512x128 : Shape := ⟨3, ![4, 512, 128]⟩
abbrev S512x2048 : Shape := ⟨2, ![512, 2048]⟩
abbrev S512x3072 : Shape := ⟨2, ![512, 3072]⟩
abbrev S512 : Shape := ⟨1, ![512]⟩
abbrev S512x1 : Shape := ⟨2, ![512, 1]⟩
abbrev S1x1024 : Shape := ⟨2, ![1, 1024]⟩
abbrev S1x1024x512 : Shape := ⟨3, ![1, 1024, 512]⟩
abbrev S1024x512 : Shape := ⟨2, ![1024, 512]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 9
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x7168, .f32⟩
  | .hbm, ⟨3, _⟩ => ⟨S2x1x1024, .f32⟩
  | .hbm, ⟨4, _⟩ => ⟨S2x1024x7168, .bf16⟩
  | .hbm, ⟨5, _⟩ => ⟨S32768x1536, .bf16⟩
  | .hbm, ⟨6, _⟩ => ⟨S4x32768x128, .f32⟩
  | .hbm, ⟨7, _⟩ => ⟨S32768x2048, .bf16⟩
  | .hbm, ⟨8, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x7168, .bf16⟩
  | .local _ .vmem, ⟨4, _⟩ => ⟨S512x1536, .bf16⟩
  | .local _ .vmem, ⟨5, _⟩ => ⟨S512x1536, .bf16⟩
  | .local _ .vmem, ⟨6, _⟩ => ⟨S4x512x128, .f32⟩
  | .local _ .vmem, ⟨7, _⟩ => ⟨S4x512x128, .f32⟩
  | .local _ .vmem, ⟨8, _⟩ => ⟨S512x2048, .bf16⟩
  | .local _ .vmem, ⟨9, _⟩ => ⟨S512x2048, .bf16⟩
  | .local _ .vmem, ⟨10, _⟩ => ⟨S512x3072, .bf16⟩
  | .local _ .vmem, ⟨11, _⟩ => ⟨S512x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32768x1024 : Shape := ⟨2, ![32768, 1024]⟩
abbrev S2x1024 : Shape := ⟨2, ![2, 1024]⟩
abbrev S2x1024x7168 : Shape := ⟨3, ![2, 1024, 7168]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024 : Shape := ⟨1, ![1024]⟩
abbrev S1x1024x7168 : Shape := ⟨3, ![1, 1024, 7168]⟩
abbrev S1024x7168 : Shape := ⟨2, ![1024, 7168]⟩
abbrev S32768x7168 : Shape := ⟨2, ![32768, 7168]⟩
abbrev S32768x1536 : Shape := ⟨2, ![32768, 1536]⟩
abbrev S32768x512 : Shape := ⟨2, ![32768, 512]⟩
abbrev S32768x2048 : Shape := ⟨2, ![32768, 2048]⟩
abbrev S32768x3072 : Shape := ⟨2, ![32768, 3072]⟩
abbrev S32768x4x128 : Shape := ⟨3, ![32768, 4, 128]⟩
abbrev S4x32768x128 : Shape := ⟨3, ![4, 32768, 128]⟩

abbrev nBuf : Space → Nat
  | .hbm => 33
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x7168, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1x1024x7168, .f32⟩
  | .hbm, ⟨22, _⟩ => ⟨S1024x7168, .f32⟩
  | .hbm, ⟨23, _⟩ => ⟨S32768x7168, .f32⟩
  | .hbm, ⟨24, _⟩ => ⟨S32768x1536, .f32⟩
  | .hbm, ⟨25, _⟩ => ⟨S32768x512, .f32⟩
  | .hbm, ⟨26, _⟩ => ⟨S32768x2048, .f32⟩
  | .hbm, ⟨27, _⟩ => ⟨S32768x3072, .f32⟩
  | .hbm, ⟨28, _⟩ => ⟨S32768x4x128, .f32⟩
  | .hbm, ⟨29, _⟩ => ⟨S4x32768x128, .f32⟩
  | .hbm, ⟨30, _⟩ => ⟨S32768x1536, .bf16⟩
  | .hbm, ⟨31, _⟩ => ⟨S32768x2048, .bf16⟩
  | .hbm, ⟨32, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel3.lean ====
abbrev S32768x1536 : Shape := ⟨2, ![32768, 1536]⟩
abbrev S4x8192x1536 : Shape := ⟨3, ![4, 8192, 1536]⟩
abbrev S256x256 : Shape := ⟨2, ![256, 256]⟩
abbrev S4x8192x512 : Shape := ⟨3, ![4, 8192, 512]⟩
abbrev S1x2048x128 : Shape := ⟨3, ![1, 2048, 128]⟩
abbrev S1x8192x128 : Shape := ⟨3, ![1, 8192, 128]⟩
abbrev S8x2x256x128 : Shape := ⟨4, ![8, 2, 256, 128]⟩
abbrev S8x2x256x1 : Shape := ⟨4, ![8, 2, 256, 1]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S1x1x256x128 : Shape := ⟨4, ![1, 1, 256, 128]⟩
abbrev S1x1x256x1 : Shape := ⟨4, ![1, 1, 256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 8
  | .vmem => 11
  | .smem => 0
  | _ => 0

abbrev bufTy : (tb : Table) → Fin (tcTables nBuf tb) → BufTy
  | .hbm, ⟨0, _⟩ => ⟨S32768x1536, .bf16⟩
  | .hbm, ⟨1, _⟩ => ⟨S4x8192x1536, .bf16⟩
  | .hbm, ⟨2, _⟩ => ⟨S256x256, .i32⟩
  | .hbm, ⟨3, _⟩ => ⟨S256x256, .i32⟩
  | .hbm, ⟨4, _⟩ => ⟨S256x256, .i1⟩
  | .hbm, ⟨5, _⟩ => ⟨S256x256, .f32⟩
  | .hbm, ⟨6, _⟩ => ⟨S256x256, .bf16⟩
  | .hbm, ⟨7, _⟩ => ⟨S4x8192x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S256x256, .bf16⟩
  | .local _ .vmem, ⟨7, _⟩ => ⟨S1x2048x128, .bf16⟩
  | .local _ .vmem, ⟨8, _⟩ => ⟨S1x2048x128, .bf16⟩
  | .local _ .vmem, ⟨9, _⟩ => ⟨S8x2x256x128, .f32⟩
  | .local _ .vmem, ⟨10, _⟩ => ⟨S8x2x256x1, .f32⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 4, 4], ![false, false, false]⟩

def k0_cond1 (i : grid0.Coords) : BitVec 1 :=
  let arg2 : BitVec 32 := BitVec.ofNat 32 (i 2).val
  let c0_i32 : BitVec 32 := 0#32
  let v75 : BitVec 1 := Scalar.cmpi .eq arg2 c0_i32
  let v76 : BitVec 32 := Scalar.extui v75
  let c0_i32_40 : BitVec 32 := 0#32
  let v77 : BitVec 1 := Scalar.cmpi .ne v76 c0_i32_40
  v77

def k0_mult1 (i : grid0.Coords) : BitVec 32 :=
  let arg2 : BitVec 32 := BitVec.ofNat 32 (i 2).val
  let c8_i32_236 : BitVec 32 := 8#32
  let v321 : BitVec 32 := Scalar.muli arg2 c8_i32_236
  let c0_i32_237 : BitVec 32 := 0#32
  let v322 : BitVec 32 := Scalar.addi v321 c0_i32_237
  let c256_i32 : BitVec 32 := 256#32
  let v333 : BitVec 32 := Scalar.muli v322 c256_i32
  v333
def k0_off1 (i : grid0.Coords) (c0_i32_237 : BitVec 32) : Fin 3 → Nat :=
  let c0_245 : Index := 0#32
  let arg2 : BitVec 32 := BitVec.ofNat 32 (i 2).val
  let c8_i32_236 : BitVec 32 := 8#32
  let v321 : BitVec 32 := Scalar.muli arg2 c8_i32_236
  let v322 : BitVec 32 := Scalar.addi v321 c0_i32_237
  let c256_i32 : BitVec 32 := 256#32
  let v333 : BitVec 32 := Scalar.muli v322 c256_i32
  let v334 : BitVec 32 := v333
  let v335 : Index := Scalar.indexCast v334
  let c0_246 : Index := 0#32
  ![0, v335.toNat, 0]
def k0_mult2 (i : grid0.Coords) : BitVec 32 :=
  let arg2 : BitVec 32 := BitVec.ofNat 32 (i 2).val
  let c8_i32_236 : BitVec 32 := 8#32
  let v321 : BitVec 32 := Scalar.muli arg2 c8_i32_236
  let c1_i32_238 : BitVec 32 := 1#32
  let v323 : BitVec 32 := Scalar.addi v321 c1_i32_238
  let c256_i32_249 : BitVec 32 := 256#32
  let v341 : BitVec 32 := Scalar.muli v323 c256_i32_249
  v341
def k0_mult3 (i : grid0.Coords) : BitVec 32 :=
  let arg2 : BitVec 32 := BitVec.ofNat 32 (i 2).val
  let c8_i32_236 : BitVec 32 := 8#32
  let v321 : BitVec 32 := Scalar.muli arg2 c8_i32_236
  let c2_i32_239 : BitVec 32 := 2#32
  let v324 : BitVec 32 := Scalar.addi v321 c2_i32_239
  let c256_i32_254 : BitVec 32 := 256#32
  let v349 : BitVec 32 := Scalar.muli v324 c256_i32_254
  v349
def k0_mult4 (i : grid0.Coords) : BitVec 32 :=
  let arg2 : BitVec 32 := BitVec.ofNat 32 (i 2).val
  let c8_i32_236 : BitVec 32 := 8#32
  let v321 : BitVec 32 := Scalar.muli arg2 c8_i32_236
  let c3_i32_240 : BitVec 32 := 3#32
  let v325 : BitVec 32 := Scalar.addi v321 c3_i32_240
  let c256_i32_259 : BitVec 32 := 256#32
  let v357 : BitVec 32 := Scalar.muli v325 c256_i32_259
  v357
def k0_mult5 (i : grid0.Coords) : BitVec 32 :=
  let arg2 : BitVec 32 := BitVec.ofNat 32 (i 2).val
  let c8_i32_236 : BitVec 32 := 8#32
  let v321 : BitVec 32 := Scalar.muli arg2 c8_i32_236
  let c4_i32_241 : BitVec 32 := 4#32
  let v326 : BitVec 32 := Scalar.addi v321 c4_i32_241
  let c256_i32_264 : BitVec 32 := 256#32
  let v365 : BitVec 32 := Scalar.muli v326 c256_i32_264
  v365
def k0_mult6 (i : grid0.Coords) : BitVec 32 :=
  let arg2 : BitVec 32 := BitVec.ofNat 32 (i 2).val
  let c8_i32_236 : BitVec 32 := 8#32
  let v321 : BitVec 32 := Scalar.muli arg2 c8_i32_236
  let c5_i32_242 : BitVec 32 := 5#32
  let v327 : BitVec 32 := Scalar.addi v321 c5_i32_242
  let c256_i32_269 : BitVec 32 := 256#32
  let v373 : BitVec 32 := Scalar.muli v327 c256_i32_269
  v373
def k0_mult7 (i : grid0.Coords) : BitVec 32 :=
  let arg2 : BitVec 32 := BitVec.ofNat 32 (i 2).val
  let c8_i32_236 : BitVec 32 := 8#32
  let v321 : BitVec 32 := Scalar.muli arg2 c8_i32_236
  let c6_i32_243 : BitVec 32 := 6#32
  let v328 : BitVec 32 := Scalar.addi v321 c6_i32_243
  let c256_i32_274 : BitVec 32 := 256#32
  let v381 : BitVec 32 := Scalar.muli v328 c256_i32_274
  v381
def k0_mult8 (i : grid0.Coords) : BitVec 32 :=
  let arg2 : BitVec 32 := BitVec.ofNat 32 (i 2).val
  let c8_i32_236 : BitVec 32 := 8#32
  let v321 : BitVec 32 := Scalar.muli arg2 c8_i32_236
  let c7_i32_244 : BitVec 32 := 7#32
  let v329 : BitVec 32 := Scalar.addi v321 c7_i32_244
  let c256_i32_279 : BitVec 32 := 256#32
  let v389 : BitVec 32 := Scalar.muli v329 c256_i32_279
  v389
def k0_cond2 (i : grid0.Coords) : BitVec 1 :=
  let arg2 : BitVec 32 := BitVec.ofNat 32 (i 2).val
  let c0_i32_41 : BitVec 32 := 0#32
  let v78 : BitVec 1 := Scalar.cmpi .sgt arg2 c0_i32_41
  let v79 : BitVec 32 := Scalar.extui v78
  let c0_i32_42 : BitVec 32 := 0#32
  let v80 : BitVec 1 := Scalar.cmpi .ne v79 c0_i32_42
  v80

def k0_mult9 (i : grid0.Coords) : BitVec 32 :=
  let arg2 : BitVec 32 := BitVec.ofNat 32 (i 2).val
  let c8_i32_236 : BitVec 32 := 8#32
  let v321 : BitVec 32 := Scalar.muli arg2 c8_i32_236
  let c0_i32_237 : BitVec 32 := 0#32
  let v322 : BitVec 32 := Scalar.addi v321 c0_i32_237
  let c256_i32 : BitVec 32 := 256#32
  let v334 : BitVec 32 := Scalar.muli v322 c256_i32
  v334
def k0_off2 (i : grid0.Coords) (c0_i32_237 : BitVec 32) : Fin 3 → Nat :=
  let c0_246 : Index := 0#32
  let arg2 : BitVec 32 := BitVec.ofNat 32 (i 2).val
  let c8_i32_236 : BitVec 32 := 8#32
  let v321 : BitVec 32 := Scalar.muli arg2 c8_i32_236
  let v322 : BitVec 32 := Scalar.addi v321 c0_i32_237
  let c256_i32 : BitVec 32 := 256#32
  let v334 : BitVec 32 := Scalar.muli v322 c256_i32
  let v335 : BitVec 32 := v334
  let v336 : Index := Scalar.indexCast v335
  let c0_247 : Index := 0#32
  ![0, v336.toNat, 0]
def k0_mult10 (i : grid0.Coords) : BitVec 32 :=
  let arg2 : BitVec 32 := BitVec.ofNat 32 (i 2).val
  let c8_i32_236 : BitVec 32 := 8#32
  let v321 : BitVec 32 := Scalar.muli arg2 c8_i32_236
  let c1_i32_238 : BitVec 32 := 1#32
  let v323 : BitVec 32 := Scalar.addi v321 c1_i32_238
  let c256_i32_250 : BitVec 32 := 256#32
  let v342 : BitVec 32 := Scalar.muli v323 c256_i32_250
  v342
def k0_mult11 (i : grid0.Coords) : BitVec 32 :=
  let arg2 : BitVec 32 := BitVec.ofNat 32 (i 2).val
  let c8_i32_236 : BitVec 32 := 8#32
  let v321 : BitVec 32 := Scalar.muli arg2 c8_i32_236
  let c2_i32_239 : BitVec 32 := 2#32
  let v324 : BitVec 32 := Scalar.addi v321 c2_i32_239
  let c256_i32_255 : BitVec 32 := 256#32
  let v350 : BitVec 32 := Scalar.muli v324 c256_i32_255
  v350
def k0_mult12 (i : grid0.Coords) : BitVec 32 :=
  let arg2 : BitVec 32 := BitVec.ofNat 32 (i 2).val
  let c8_i32_236 : BitVec 32 := 8#32
  let v321 : BitVec 32 := Scalar.muli arg2 c8_i32_236
  let c3_i32_240 : BitVec 32 := 3#32
  let v325 : BitVec 32 := Scalar.addi v321 c3_i32_240
  let c256_i32_260 : BitVec 32 := 256#32
  let v358 : BitVec 32 := Scalar.muli v325 c256_i32_260
  v358
def k0_mult13 (i : grid0.Coords) : BitVec 32 :=
  let arg2 : BitVec 32 := BitVec.ofNat 32 (i 2).val
  let c8_i32_236 : BitVec 32 := 8#32
  let v321 : BitVec 32 := Scalar.muli arg2 c8_i32_236
  let c4_i32_241 : BitVec 32 := 4#32
  let v326 : BitVec 32 := Scalar.addi v321 c4_i32_241
  let c256_i32_265 : BitVec 32 := 256#32
  let v366 : BitVec 32 := Scalar.muli v326 c256_i32_265
  v366
def k0_mult14 (i : grid0.Coords) : BitVec 32 :=
  let arg2 : BitVec 32 := BitVec.ofNat 32 (i 2).val
  let c8_i32_236 : BitVec 32 := 8#32
  let v321 : BitVec 32 := Scalar.muli arg2 c8_i32_236
  let c5_i32_242 : BitVec 32 := 5#32
  let v327 : BitVec 32 := Scalar.addi v321 c5_i32_242
  let c256_i32_270 : BitVec 32 := 256#32
  let v374 : BitVec 32 := Scalar.muli v327 c256_i32_270
  v374
def k0_mult15 (i : grid0.Coords) : BitVec 32 :=
  let arg2 : BitVec 32 := BitVec.ofNat 32 (i 2).val
  let c8_i32_236 : BitVec 32 := 8#32
  let v321 : BitVec 32 := Scalar.muli arg2 c8_i32_236
  let c6_i32_243 : BitVec 32 := 6#32
  let v328 : BitVec 32 := Scalar.addi v321 c6_i32_243
  let c256_i32_275 : BitVec 32 := 256#32
  let v382 : BitVec 32 := Scalar.muli v328 c256_i32_275
  v382
def k0_mult16 (i : grid0.Coords) : BitVec 32 :=
  let arg2 : BitVec 32 := BitVec.ofNat 32 (i 2).val
  let c8_i32_236 : BitVec 32 := 8#32
  let v321 : BitVec 32 := Scalar.muli arg2 c8_i32_236
  let c7_i32_244 : BitVec 32 := 7#32
  let v329 : BitVec 32 := Scalar.addi v321 c7_i32_244
  let c256_i32_280 : BitVec 32 := 256#32
  let v390 : BitVec 32 := Scalar.muli v329 c256_i32_280
  v390
def k0_mult17 (i : grid0.Coords) : BitVec 32 :=
  let arg2 : BitVec 32 := BitVec.ofNat 32 (i 2).val
  let c8_i32_236 : BitVec 32 := 8#32
  let v321 : BitVec 32 := Scalar.muli arg2 c8_i32_236
  let c1_i32_245 : BitVec 32 := 1#32
  let v330 : BitVec 32 := Scalar.subi v321 c1_i32_245
  let c256_i32_285 : BitVec 32 := 256#32
  let v398 : BitVec 32 := Scalar.muli v330 c256_i32_285
  v398
def k0_off3 (i : grid0.Coords) : Fin 3 → Nat :=
  let c0_286 : Index := 0#32
  let arg2 : BitVec 32 := BitVec.ofNat 32 (i 2).val
  let c8_i32_236 : BitVec 32 := 8#32
  let v321 : BitVec 32 := Scalar.muli arg2 c8_i32_236
  let c1_i32_245 : BitVec 32 := 1#32
  let v330 : BitVec 32 := Scalar.subi v321 c1_i32_245
  let c256_i32_285 : BitVec 32 := 256#32
  let v398 : BitVec 32 := Scalar.muli v330 c256_i32_285
  let v399 : BitVec 32 := v398
  let v400 : Index := Scalar.indexCast v399
  let c0_287 : Index := 0#32
  ![0, v400.toNat, 0]
def k0_mult18 (arg10 : BitVec 32) : BitVec 32 :=
  let c256_i32 : BitVec 32 := 256#32
  let v328 : BitVec 32 := Scalar.muli arg10 c256_i32
  v328

def k0_off4 (arg10 : BitVec 32) : Fin 3 → Nat :=
  let c0_244 : Index := 0#32
  let c256_i32 : BitVec 32 := 256#32
  let v328 : BitVec 32 := Scalar.muli arg10 c256_i32
  let v329 : BitVec 32 := v328
  let v330 : Index := Scalar.indexCast v329
  let c0_245 : Index := 0#32
  ![0, v330.toNat, 0]

def k0_chk1 (arg10 : BitVec 32) : Prop :=
  (256 ∣ (k0_mult18 arg10).toNat) ∧
  (∀ a, (k0_off4 arg10) a + S1x256x128.size a ≤ S1x8192x128.size a)
theorem k0_mult18_dvd : ∀ (arg10 : BitVec 32) (k0_hw1 : k0_chk1 arg10), 256 ∣ (k0_mult18 arg10).toNat := fun arg10 k0_hw1 => k0_hw1.1
theorem k0_off4_inb : ∀ (arg10 : BitVec 32) (k0_hw1 : k0_chk1 arg10), ∀ a, (k0_off4 arg10) a + S1x256x128.size a ≤ S1x8192x128.size a := fun arg10 k0_hw1 => k0_hw1.2

def k0_mult19 (arg10 : BitVec 32) : BitVec 32 :=
  let c256_i32 : BitVec 32 := 256#32
  let v328 : BitVec 32 := Scalar.muli arg10 c256_i32
  v328

def k0_off5 (arg10 : BitVec 32) : Fin 3 → Nat :=
  let c0_244 : Index := 0#32
  let c256_i32 : BitVec 32 := 256#32
  let v328 : BitVec 32 := Scalar.muli arg10 c256_i32
  let v329 : BitVec 32 := v328
  let v330 : Index := Scalar.indexCast v329
  let c0_245 : Index := 0#32
  ![0, v330.toNat, 0]

def k0_chk2 (arg10 : BitVec 32) : Prop :=
  (256 ∣ (k0_mult19 arg10).toNat) ∧
  (∀ a, (k0_off5 arg10) a + S1x256x128.size a ≤ S1x8192x128.size a)
theorem k0_mult19_dvd : ∀ (arg10 : BitVec 32) (k0_hw2 : k0_chk2 arg10), 256 ∣ (k0_mult19 arg10).toNat := fun arg10 k0_hw2 => k0_hw2.1
theorem k0_off5_inb : ∀ (arg10 : BitVec 32) (k0_hw2 : k0_chk2 arg10), ∀ a, (k0_off5 arg10) a + S1x256x128.size a ≤ S1x8192x128.size a := fun arg10 k0_hw2 => k0_hw2.2

def k0_mult20 (arg10 : BitVec 32) : BitVec 32 :=
  let c256_i32 : BitVec 32 := 256#32
  let v328 : BitVec 32 := Scalar.muli arg10 c256_i32
  v328

def k0_off6 (arg10 : BitVec 32) : Fin 3 → Nat :=
  let c0_244 : Index := 0#32
  let c256_i32 : BitVec 32 := 256#32
  let v328 : BitVec 32 := Scalar.muli arg10 c256_i32
  let v329 : BitVec 32 := v328
  let v330 : Index := Scalar.indexCast v329
  let c0_245 : Index := 0#32
  ![0, v330.toNat, 0]

def k0_chk3 (arg10 : BitVec 32) : Prop :=
  (256 ∣ (k0_mult20 arg10).toNat) ∧
  (∀ a, (k0_off6 arg10) a + S1x256x128.size a ≤ S1x8192x128.size a)
theorem k0_mult20_dvd : ∀ (arg10 : BitVec 32) (k0_hw3 : k0_chk3 arg10), 256 ∣ (k0_mult20 arg10).toNat := fun arg10 k0_hw3 => k0_hw3.1
theorem k0_off6_inb : ∀ (arg10 : BitVec 32) (k0_hw3 : k0_chk3 arg10), ∀ a, (k0_off6 arg10) a + S1x256x128.size a ≤ S1x8192x128.size a := fun arg10 k0_hw3 => k0_hw3.2

def k0_mult21 (arg10 : BitVec 32) : BitVec 32 :=
  let c256_i32 : BitVec 32 := 256#32
  let v328 : BitVec 32 := Scalar.muli arg10 c256_i32
  v328

def k0_off7 (arg10 : BitVec 32) : Fin 3 → Nat :=
  let c0_244 : Index := 0#32
  let c256_i32 : BitVec 32 := 256#32
  let v328 : BitVec 32 := Scalar.muli arg10 c256_i32
  let v329 : BitVec 32 := v328
  let v330 : Index := Scalar.indexCast v329
  let c0_245 : Index := 0#32
  ![0, v330.toNat, 0]

def k0_chk4 (arg10 : BitVec 32) : Prop :=
  (256 ∣ (k0_mult21 arg10).toNat) ∧
  (∀ a, (k0_off7 arg10) a + S1x256x128.size a ≤ S1x8192x128.size a)
theorem k0_mult21_dvd : ∀ (arg10 : BitVec 32) (k0_hw4 : k0_chk4 arg10), 256 ∣ (k0_mult21 arg10).toNat := fun arg10 k0_hw4 => k0_hw4.1
theorem k0_off7_inb : ∀ (arg10 : BitVec 32) (k0_hw4 : k0_chk4 arg10), ∀ a, (k0_off7 arg10) a + S1x256x128.size a ≤ S1x8192x128.size a := fun arg10 k0_hw4 => k0_hw4.2

def k0_mult22 (arg10 : BitVec 32) : BitVec 32 :=
  let c256_i32 : BitVec 32 := 256#32
  let v328 : BitVec 32 := Scalar.muli arg10 c256_i32
  v328

def k0_off8 (arg10 : BitVec 32) : Fin 3 → Nat :=
  let c0_244 : Index := 0#32
  let c256_i32 : BitVec 32 := 256#32
  let v328 : BitVec 32 := Scalar.muli arg10 c256_i32
  let v329 : BitVec 32 := v328
  let v330 : Index := Scalar.indexCast v329
  let c0_245 : Index := 0#32
  ![0, v330.toNat, 0]

def k0_chk5 (arg10 : BitVec 32) : Prop :=
  (256 ∣ (k0_mult22 arg10).toNat) ∧
  (∀ a, (k0_off8 arg10) a + S1x256x128.size a ≤ S1x8192x128.size a)
theorem k0_mult22_dvd : ∀ (arg10 : BitVec 32) (k0_hw5 : k0_chk5 arg10), 256 ∣ (k0_mult22 arg10).toNat := fun arg10 k0_hw5 => k0_hw5.1
theorem k0_off8_inb : ∀ (arg10 : BitVec 32) (k0_hw5 : k0_chk5 arg10), ∀ a, (k0_off8 arg10) a + S1x256x128.size a ≤ S1x8192x128.size a := fun arg10 k0_hw5 => k0_hw5.2

def k0_mult23 (arg10 : BitVec 32) : BitVec 32 :=
  let c256_i32 : BitVec 32 := 256#32
  let v328 : BitVec 32 := Scalar.muli arg10 c256_i32
  v328

def k0_off9 (arg10 : BitVec 32) : Fin 3 → Nat :=
  let c0_244 : Index := 0#32
  let c256_i32 : BitVec 32 := 256#32
  let v328 : BitVec 32 := Scalar.muli arg10 c256_i32
  let v329 : BitVec 32 := v328
  let v330 : Index := Scalar.indexCast v329
  let c0_245 : Index := 0#32
  ![0, v330.toNat, 0]

def k0_chk6 (arg10 : BitVec 32) : Prop :=
  (256 ∣ (k0_mult23 arg10).toNat) ∧
  (∀ a, (k0_off9 arg10) a + S1x256x128.size a ≤ S1x8192x128.size a)
theorem k0_mult23_dvd : ∀ (arg10 : BitVec 32) (k0_hw6 : k0_chk6 arg10), 256 ∣ (k0_mult23 arg10).toNat := fun arg10 k0_hw6 => k0_hw6.1
theorem k0_off9_inb : ∀ (arg10 : BitVec 32) (k0_hw6 : k0_chk6 arg10), ∀ a, (k0_off9 arg10) a + S1x256x128.size a ≤ S1x8192x128.size a := fun arg10 k0_hw6 => k0_hw6.2

def k0_mult24 (arg10 : BitVec 32) : BitVec 32 :=
  let c256_i32 : BitVec 32 := 256#32
  let v328 : BitVec 32 := Scalar.muli arg10 c256_i32
  v328

def k0_off10 (arg10 : BitVec 32) : Fin 3 → Nat :=
  let c0_244 : Index := 0#32
  let c256_i32 : BitVec 32 := 256#32
  let v328 : BitVec 32 := Scalar.muli arg10 c256_i32
  let v329 : BitVec 32 := v328
  let v330 : Index := Scalar.indexCast v329
  let c0_245 : Index := 0#32
  ![0, v330.toNat, 0]

def k0_chk7 (arg10 : BitVec 32) : Prop :=
  (256 ∣ (k0_mult24 arg10).toNat) ∧
  (∀ a, (k0_off10 arg10) a + S1x256x128.size a ≤ S1x8192x128.size a)
theorem k0_mult24_dvd : ∀ (arg10 : BitVec 32) (k0_hw7 : k0_chk7 arg10), 256 ∣ (k0_mult24 arg10).toNat := fun arg10 k0_hw7 => k0_hw7.1
theorem k0_off10_inb : ∀ (arg10 : BitVec 32) (k0_hw7 : k0_chk7 arg10), ∀ a, (k0_off10 arg10) a + S1x256x128.size a ≤ S1x8192x128.size a := fun arg10 k0_hw7 => k0_hw7.2

def k0_mult25 (arg10 : BitVec 32) : BitVec 32 :=
  let c256_i32 : BitVec 32 := 256#32
  let v328 : BitVec 32 := Scalar.muli arg10 c256_i32
  v328

def k0_off11 (arg10 : BitVec 32) : Fin 3 → Nat :=
  let c0_244 : Index := 0#32
  let c256_i32 : BitVec 32 := 256#32
  let v328 : BitVec 32 := Scalar.muli arg10 c256_i32
  let v329 : BitVec 32 := v328
  let v330 : Index := Scalar.indexCast v329
  let c0_245 : Index := 0#32
  ![0, v330.toNat, 0]

def k0_chk8 (arg10 : BitVec 32) : Prop :=
  (256 ∣ (k0_mult25 arg10).toNat) ∧
  (∀ a, (k0_off11 arg10) a + S1x256x128.size a ≤ S1x8192x128.size a)
theorem k0_mult25_dvd : ∀ (arg10 : BitVec 32) (k0_hw8 : k0_chk8 arg10), 256 ∣ (k0_mult25 arg10).toNat := fun arg10 k0_hw8 => k0_hw8.1
theorem k0_off11_inb : ∀ (arg10 : BitVec 32) (k0_hw8 : k0_chk8 arg10), ∀ a, (k0_off11 arg10) a + S1x256x128.size a ≤ S1x8192x128.size a := fun arg10 k0_hw8 => k0_hw8.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel3Ideal.lean ====
variable {F : FTy → Type} [FloatOps F] [Named F]
def κ : String → Option EReal := fun
  | "log2e" => some (((Real.log 2)⁻¹ : ℝ) : EReal)
  | "skip" => some ⊥
  | "zscale" => some (((8 * (Real.log 2))⁻¹ : ℝ) : EReal)
  | _ => none
-- ==== Reference3Ideal.lean ====
abbrev S32768x1536 : Shape := ⟨2, ![32768, 1536]⟩
abbrev S32768x512 : Shape := ⟨2, ![32768, 512]⟩
abbrev S4x8192x8x64 : Shape := ⟨4, ![4, 8192, 8, 64]⟩
abbrev S4x8x8192x64 : Shape := ⟨4, ![4, 8, 8192, 64]⟩
abbrev S_ : Shape := ⟨0, ![]⟩
abbrev S4x8x8192x8192 : Shape := ⟨4, ![4, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192x512 : Shape := ⟨3, ![4, 8192, 512]⟩

abbrev nBuf : Space → Nat
  | .hbm => 74
  | .vmem => 0
  | .smem => 0
  | _ => 0

abbrev bufTy : (tb : Table) → Fin (tcTables nBuf tb) → BufTy
  | .hbm, ⟨0, _⟩ => ⟨S32768x1536, .bf16⟩
  | .hbm, ⟨1, _⟩ => ⟨S32768x1536, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S4x8192x8x64, .f32⟩
  | .hbm, ⟨6, _⟩ => ⟨S4x8x8192x64, .f32⟩
  | .hbm, ⟨7, _⟩ => ⟨S4x8192x8x64, .f32⟩
  | .hbm, ⟨8, _⟩ => ⟨S4x8x8192x64, .f32⟩
  | .hbm, ⟨9, _⟩ => ⟨S4x8192x8x64, .f32⟩
  | .hbm, ⟨10, _⟩ => ⟨S4x8x8192x64, .f32⟩
  | .hbm, ⟨11, _⟩ => ⟨S_, .f32⟩
  | .hbm, ⟨12, _⟩ => ⟨S4x8x8192x64, .f32⟩
  | .hbm, ⟨13, _⟩ => ⟨S4x8x8192x64, .f32⟩
  | .hbm, ⟨14, _⟩ => ⟨S4x8x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S4x8x8192x8192, .f32⟩
  | .hbm, ⟨22, _⟩ => ⟨S_, .f32⟩
  | .hbm, ⟨23, _⟩ => ⟨S4x8x8192x8192, .f32⟩
  | .hbm, ⟨24, _⟩ => ⟨S4x8x8192x8192, .f32⟩
  | .hbm, ⟨25, _⟩ => ⟨S4x8x8192x8192, .f32⟩
  | .hbm, ⟨26, _⟩ => ⟨S4x8x8192x8192, .f32⟩
  | .hbm, ⟨27, _⟩ => ⟨S4x8x8192x8192, .i1⟩
  | .hbm, ⟨28, _⟩ => ⟨S4x8x8192x8192, .f32⟩
  | .hbm, ⟨29, _⟩ => ⟨S4x8x8192x8192, .f32⟩
  | .hbm, ⟨30, _⟩ => ⟨S4x8x8192x8192, .f32⟩
  | .hbm, ⟨31, _⟩ => ⟨S4x8x8192x8192, .f32⟩
  | .hbm, ⟨32, _⟩ => ⟨S4x8x8192x8192, .f32⟩
  | .hbm, ⟨33, _⟩ => ⟨S4x8x8192x8192, .f32⟩
  | .hbm, ⟨34, _⟩ => ⟨S4x8x8192x8192, .f32⟩
  | .hbm, ⟨35, _⟩ => ⟨S4x8x8192x8192, .f32⟩
  | .hbm, ⟨36, _⟩ => ⟨S4x8x8192x8192, .f32⟩
  | .hbm, ⟨37, _⟩ => ⟨S4x8x8192x8192, .f32⟩
  | .hbm, ⟨38, _⟩ => ⟨S4x8x8192x8192, .f32⟩
  | .hbm, ⟨39, _⟩ => ⟨S_, .f32⟩
  | .hbm, ⟨40, _⟩ => ⟨S4x8x8192x8192, .f32⟩
  | .hbm, ⟨41, _⟩ => ⟨S4x8x8192x8192, .f32⟩
  | .hbm, ⟨42, _⟩ => ⟨S4x8x8192x8192, .f32⟩
  | .hbm, ⟨43, _⟩ => ⟨S4x8x8192x8192, .f32⟩
  | .hbm, ⟨44, _⟩ => ⟨S4x8x8192x8192, .i1⟩
  | .hbm, ⟨45, _⟩ => ⟨S4x8x8192x8192, .f32⟩
  | .hbm, ⟨46, _⟩ => ⟨S4x8x8192x8192, .f32⟩
  | .hbm, ⟨47, _⟩ => ⟨S4x8x8192x8192, .f32⟩
  | .hbm, ⟨48, _⟩ => ⟨S4x8x8192x8192, .f32⟩
  | .hbm, ⟨49, _⟩ => ⟨S4x8x8192x8192, .f32⟩
  | .hbm, ⟨50, _⟩ => ⟨S4x8x8192x8192, .f32⟩
  | .hbm, ⟨51, _⟩ => ⟨S4x8x8192x8192, .f32⟩
  | .hbm, ⟨52, _⟩ => ⟨S4x8x8192x8192, .f32⟩
  | .hbm, ⟨53, _⟩ => ⟨S4x8x8192x8192, .f32⟩
  | .hbm, ⟨54, _⟩ => ⟨S_, .f32⟩
  | .hbm, ⟨55, _⟩ => ⟨S_, .f32⟩
  | .hbm, ⟨56, _⟩ => ⟨S4x8x8192x8192, .i1⟩
  | .hbm, ⟨57, _⟩ => ⟨S4x8x8192x8192, .f32⟩
  | .hbm, ⟨58, _⟩ => ⟨S4x8x8192x8192, .f32⟩
  | .hbm, ⟨59, _⟩ => ⟨S_, .f32⟩
  | .hbm, ⟨60, _⟩ => ⟨S_, .f32⟩
  | .hbm, ⟨61, _⟩ => ⟨S4x8x8192x8192, .f32⟩
  | .hbm, ⟨62, _⟩ => ⟨S4x8x8192x8192, .f32⟩
  | .hbm, ⟨63, _⟩ => ⟨S4x8x8192x8192, .f32⟩
  | .hbm, ⟨64, _⟩ => ⟨S4x8x8192x8192, .f32⟩
  | .hbm, ⟨65, _⟩ => ⟨S_, .f32⟩
  | .hbm, ⟨66, _⟩ => ⟨S_, .f32⟩
  | .hbm, ⟨67, _⟩ => ⟨S4x8x8192x8192, .i1⟩
  | .hbm, ⟨68, _⟩ => ⟨S4x8x8192x8192, .f32⟩
  | .hbm, ⟨69, _⟩ => ⟨S4x8x8192x8192, .f32⟩
  | .hbm, ⟨70, _⟩ => ⟨S4x8x8192x64, .f32⟩
  | .hbm, ⟨71, _⟩ => ⟨S4x8192x8x64, .f32⟩
  | .hbm, ⟨72, _⟩ => ⟨S4x8192x512, .f32⟩
  | .hbm, ⟨73, _⟩ => ⟨S4x8192x512, .bf16⟩
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v19 : Ref sig .tc := ⟨.hbm, 36, rfl⟩
abbrev main_v20 : Ref sig .tc := ⟨.hbm, 37, rfl⟩
abbrev main_call1_v0 : Ref sig .tc := ⟨.hbm, 38, rfl⟩
abbrev main_call1_call0_cst : Ref sig .tc := ⟨.hbm, 39, rfl⟩
abbrev main_call1_call0_v0 : Ref sig .tc := ⟨.hbm, 40, rfl⟩
abbrev main_call1_call0_v1 : Ref sig .tc := ⟨.hbm, 41, rfl⟩
abbrev main_call1_call0_v2 : Ref sig .tc := ⟨.hbm, 42, rfl⟩
abbrev main_call1_call0_v3 : Ref sig .tc := ⟨.hbm, 43, rfl⟩
abbrev main_call1_call0_v4 : Ref sig .tc := ⟨.hbm, 44, rfl⟩
abbrev main_call1_call0_v5 : Ref sig .tc := ⟨.hbm, 45, rfl⟩
abbrev main_call1_call0_v6 : Ref sig .tc := ⟨.hbm, 46, rfl⟩
abbrev main_call1_call0_v7 : Ref sig .tc := ⟨.hbm, 47, rfl⟩
abbrev main_call1_call0_v8 : Ref sig .tc := ⟨.hbm, 48, rfl⟩
abbrev main_call1_call0_v9 : Ref sig .tc := ⟨.hbm, 49, rfl⟩
abbrev main_call1_call0_v10 : Ref sig .tc := ⟨.hbm, 50, rfl⟩
abbrev main_call1_call0_v11 : Ref sig .tc := ⟨.hbm, 51, rfl⟩
abbrev main_call1_v1 : Ref sig .tc := ⟨.hbm, 52, rfl⟩
abbrev main_v21 : Ref sig .tc := ⟨.hbm, 53, rfl⟩
abbrev main_cst_0 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v22 : Ref sig .tc := ⟨.hbm, 58, rfl⟩
abbrev main_call3_cst : Ref sig .tc := ⟨.hbm, 59, rfl⟩
abbrev main_call3_v0 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩

abbrev nD : Nat := 1
abbrev τ : Topo := Topo.v7x

variable {F : FTy → Type} [FloatOps F]
-- ==== Kernel4.lean ====
abbrev S32768x512 : Shape := ⟨2, ![32768, 512]⟩
abbrev S4x32768x128 : Shape := ⟨3, ![4, 32768, 128]⟩
abbrev S32768x3072 : Shape := ⟨2, ![32768, 3072]⟩
abbrev S32768x1024 : Shape := ⟨2, ![32768, 1024]⟩
abbrev S2x512x1024 : Shape := ⟨3, ![2, 512, 1024]⟩
abbrev S2x3x512x1024 : Shape := ⟨4, ![2, 3, 512, 1024]⟩
abbrev S2x1024x1024 : Shape := ⟨3, ![2, 1024, 1024]⟩
abbrev S2x1024 : Shape := ⟨2, ![2, 1024]⟩
abbrev S2x1024x4 : Shape := ⟨3, ![2, 1024, 4]⟩
abbrev S2x4 : Shape := ⟨2, ![2, 4]⟩
abbrev S2x4x1024x8 : Shape := ⟨4, ![2, 4, 1024, 8]⟩
abbrev S2x4x8 : Shape := ⟨3, ![2, 4, 8]⟩
abbrev S128x128 : Shape := ⟨2, ![128, 128]⟩
abbrev S2x1x1024 : Shape := ⟨3, ![2, 1, 1024]⟩
abbrev S2x1024x4x8 : Shape := ⟨4, ![2, 1024, 4, 8]⟩
abbrev S2x1024x32 : Shape := ⟨3, ![2, 1024, 32]⟩
abbrev S2x1024x36 : Shape := ⟨3, ![2, 1024, 36]⟩
abbrev S_ : Shape := ⟨0, ![]⟩
abbrev S2x1024x128 : Shape := ⟨3, ![2, 1024, 128]⟩
abbrev S2x32 : Shape := ⟨2, ![2, 32]⟩
abbrev S2x36 : Shape := ⟨2, ![2, 36]⟩
abbrev S2x128 : Shape := ⟨2, ![2, 128]⟩
abbrev S2x1x128 : Shape := ⟨3, ![2, 1, 128]⟩
abbrev S512x512 : Shape := ⟨2, ![512, 512]⟩
abbrev S32768x128 : Shape := ⟨2, ![32768, 128]⟩
abbrev S64x8x128 : Shape := ⟨3, ![64, 8, 128]⟩
abbrev S4x512x128 : Shape := ⟨3, ![4, 512, 128]⟩
abbrev S512x3072 : Shape := ⟨2, ![512, 3072]⟩
abbrev S512x1024 : Shape := ⟨2, ![512, 1024]⟩
abbrev S1x512x1024 : Shape := ⟨3, ![1, 512, 1024]⟩
abbrev S1x3x512x1024 : Shape := ⟨4, ![1, 3, 512, 1024]⟩
abbrev S1x1024x1024 : Shape := ⟨3, ![1, 1024, 1024]⟩
abbrev S1x1x1024 : Shape := ⟨3, ![1, 1, 1024]⟩
abbrev S1x1024x128 : Shape := ⟨3, ![1, 1024, 128]⟩
abbrev S1x1x128 : Shape := ⟨3, ![1, 1, 128]⟩
abbrev S512x128 : Shape := ⟨2, ![512, 128]⟩
abbrev S1x8x128 : Shape := ⟨3, ![1, 8, 128]⟩
abbrev S1x512x128 : Shape := ⟨3, ![1, 512, 128]⟩
abbrev S1x1x512x1024 : Shape := ⟨4, ![1, 1, 512, 1024]⟩
abbrev S1024x1024 : Shape := ⟨2, ![1024, 1024]⟩
abbrev S512 : Shape := ⟨1, ![512]⟩
abbrev S512x1 : Shape := ⟨2, ![512, 1]⟩
abbrev S1x1024 : Shape := ⟨2, ![1, 1024]⟩
abbrev S1024x128 : Shape := ⟨2, ![1024, 128]⟩
abbrev S1x128 : Shape := ⟨2, ![1, 128]⟩
abbrev S8x128 : Shape := ⟨2, ![8, 128]⟩

abbrev nBuf : Space → Nat
  | .hbm => 44
  | .vmem => 29
  | .smem => 0
  | _ => 0

abbrev bufTy : (tb : Table) → Fin (tcTables nBuf tb) → BufTy
  | .hbm, ⟨0, _⟩ => ⟨S32768x512, .bf16⟩
  | .hbm, ⟨1, _⟩ => ⟨S4x32768x128, .f32⟩
  | .hbm, ⟨2, _⟩ => ⟨S32768x512, .bf16⟩
  | .hbm, ⟨3, _⟩ => ⟨S32768x3072, .bf16⟩
  | .hbm, ⟨4, _⟩ => ⟨S32768x1024, .f32⟩
  | .hbm, ⟨5, _⟩ => ⟨S2x512x1024, .f32⟩
  | .hbm, ⟨6, _⟩ => ⟨S2x3x512x1024, .f32⟩
  | .hbm, ⟨7, _⟩ => ⟨S2x1024x1024, .f32⟩
  | .hbm, ⟨8, _⟩ => ⟨S2x1024, .f32⟩
  | .hbm, ⟨9, _⟩ => ⟨S2x1024x4, .f32⟩
  | .hbm, ⟨10, _⟩ => ⟨S2x4, .f32⟩
  | .hbm, ⟨11, _⟩ => ⟨S2x4x1024x8, .f32⟩
  | .hbm, ⟨12, _⟩ => ⟨S2x4x8, .f32⟩
  | .hbm, ⟨13, _⟩ => ⟨S128x128, .bf16⟩
  | .hbm, ⟨14, _⟩ => ⟨S2x512x1024, .bf16⟩
  | .hbm, ⟨15, _⟩ => ⟨S2x3x512x1024, .bf16⟩
  | .hbm, ⟨16, _⟩ => ⟨S2x1024x1024, .bf16⟩
  | .hbm, ⟨17, _⟩ => ⟨S2x1x1024, .f32⟩
  | .hbm, ⟨18, _⟩ => ⟨S2x1024x4x8, .f32⟩
  | .hbm, ⟨19, _⟩ => ⟨S2x1024x32, .f32⟩
  | .hbm, ⟨20, _⟩ => ⟨S2x1024x36, .f32⟩
  | .hbm, ⟨21, _⟩ => ⟨S_, .i32⟩
  | .hbm, ⟨22, _⟩ => ⟨S_, .f32⟩
  | .hbm, ⟨23, _⟩ => ⟨S2x1024x128, .f32⟩
  | .hbm, ⟨24, _⟩ => ⟨S2x1024x128, .bf16⟩
  | .hbm, ⟨25, _⟩ => ⟨S2x1024x128, .f32⟩
  | .hbm, ⟨26, _⟩ => ⟨S2x1024x128, .f32⟩
  | .hbm, ⟨27, _⟩ => ⟨S2x1024x128, .bf16⟩
  | .hbm, ⟨28, _⟩ => ⟨S2x32, .f32⟩
  | .hbm, ⟨29, _⟩ => ⟨S2x36, .f32⟩
  | .hbm, ⟨30, _⟩ => ⟨S_, .i32⟩
  | .hbm, ⟨31, _⟩ => ⟨S_, .f32⟩
  | .hbm, ⟨32, _⟩ => ⟨S2x128, .f32⟩
  | .hbm, ⟨33, _⟩ => ⟨S2x1x128, .f32⟩
  | .hbm, ⟨34, _⟩ => ⟨S512x512, .i32⟩
  | .hbm, ⟨35, _⟩ => ⟨S512x512, .i32⟩
  | .hbm, ⟨36, _⟩ => ⟨S512x512, .i1⟩
  | .hbm, ⟨37, _⟩ => ⟨S512x512, .f32⟩
  | .hbm, ⟨38, _⟩ => ⟨S512x512, .bf16⟩
  | .hbm, ⟨39, _⟩ => ⟨S32768x1024, .f32⟩
  | .hbm, ⟨40, _⟩ => ⟨S32768x1024, .bf16⟩
  | .hbm, ⟨41, _⟩ => ⟨S32768x128, .f32⟩
  | .hbm, ⟨42, _⟩ => ⟨S32768x128, .f32⟩
  | .hbm, ⟨43, _⟩ => ⟨S64x8x128, .f32⟩
  | .local _ .vmem, ⟨0, _⟩ => ⟨S512x512, .bf16⟩
  | .local _ .vmem, ⟨1, _⟩ => ⟨S512x512, .bf16⟩
  | .local _ .vmem, ⟨2, _⟩ => ⟨S4x512x128, .f32⟩
  | .local _ .vmem, ⟨3, _⟩ => ⟨S4x512x128, .f32⟩
  | .local _ .vmem, ⟨4, _⟩ => ⟨S512x512, .bf16⟩
  | .local _ .vmem, ⟨5, _⟩ => ⟨S512x512, .bf16⟩
  | .local _ .vmem, ⟨6, _⟩ => ⟨S512x3072, .bf16⟩
  | .local _ .vmem, ⟨7, _⟩ => ⟨S512x3072, .bf16⟩
  | .local _ .vmem, ⟨8, _⟩ => ⟨S512x1024, .f32⟩
  | .local _ .vmem, ⟨9, _⟩ => ⟨S512x1024, .f32⟩
  | .local _ .vmem, ⟨10, _⟩ => ⟨S1x512x1024, .bf16⟩
  | .local _ .vmem, ⟨11, _⟩ => ⟨S1x3x512x1024, .bf16⟩
  | .local _ .vmem, ⟨12, _⟩ => ⟨S1x1024x1024, .bf16⟩
  | .local _ .vmem, ⟨13, _⟩ => ⟨S1x1x1024, .f32⟩
  | .local _ .vmem, ⟨14, _⟩ => ⟨S1x1024x128, .bf16⟩
  | .local _ .vmem, ⟨15, _⟩ => ⟨S1x1024x128, .bf16⟩
  | .local _ .vmem, ⟨16, _⟩ => ⟨S1x1x128, .f32⟩
  | .local _ .vmem, ⟨17, _⟩ => ⟨S512x512, .bf16⟩
  | .local _ .vmem, ⟨18, _⟩ => ⟨S128x128, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S1x8x128, .f32⟩
  | .local _ .vmem, ⟨28, _⟩ => ⟨S1x8x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_call0_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_0 : Ref sig .tc := ⟨.hbm, 30, rfl⟩
abbrev main_call1_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21_0 : Ref sig .tc := ⟨.hbm, 39, rfl⟩
abbrev main_v21_1 : Ref sig .tc := ⟨.hbm, 40, rfl⟩
abbrev main_v21_2 : Ref sig .tc := ⟨.hbm, 41, rfl⟩
abbrev main_v21_3 : Ref sig .tc := ⟨.hbm, 42, rfl⟩
abbrev main_v21_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference4Ideal.lean ====
abbrev S32768x512 : Shape := ⟨2, ![32768, 512]⟩
abbrev S4x32768x128 : Shape := ⟨3, ![4, 32768, 128]⟩
abbrev S32768x3072 : Shape := ⟨2, ![32768, 3072]⟩
abbrev S32768x1024 : Shape := ⟨2, ![32768, 1024]⟩
abbrev S2x512x1024 : Shape := ⟨3, ![2, 512, 1024]⟩
abbrev S2x3x512x1024 : Shape := ⟨4, ![2, 3, 512, 1024]⟩
abbrev S2x1024x1024 : Shape := ⟨3, ![2, 1024, 1024]⟩
abbrev S2x1024 : Shape := ⟨2, ![2, 1024]⟩
abbrev S2x1024x4 : Shape := ⟨3, ![2, 1024, 4]⟩
abbrev S2x4 : Shape := ⟨2, ![2, 4]⟩
abbrev S2x4x1024x8 : Shape := ⟨4, ![2, 4, 1024, 8]⟩
abbrev S2x4x8 : Shape := ⟨3, ![2, 4, 8]⟩
abbrev S32768x4x128 : Shape := ⟨3, ![32768, 4, 128]⟩
abbrev S1x512x1024 : Shape := ⟨3, ![1, 512, 1024]⟩
abbrev S512x1024 : Shape := ⟨2, ![512, 1024]⟩
abbrev S_ : Shape := ⟨0, ![]⟩
abbrev S32768x1x512 : Shape := ⟨3, ![32768, 1, 512]⟩
abbrev S32768x3x512 : Shape := ⟨3, ![32768, 3, 512]⟩
abbrev S1x3x512x1024 : Shape := ⟨4, ![1, 3, 512, 1024]⟩
abbrev S3x512x1024 : Shape := ⟨3, ![3, 512, 1024]⟩
abbrev S3x1024x32768 : Shape := ⟨3, ![3, 1024, 32768]⟩
abbrev S32768x3x1024 : Shape := ⟨3, ![32768, 3, 1024]⟩
abbrev S1x1024x1024 : Shape := ⟨3, ![1, 1024, 1024]⟩
abbrev S1024x1024 : Shape := ⟨2, ![1024, 1024]⟩
abbrev S32768 : Shape := ⟨1, ![32768]⟩
abbrev S32768x1 : Shape := ⟨2, ![32768, 1]⟩
abbrev S1x1024 : Shape := ⟨2, ![1, 1024]⟩
abbrev S1024 : Shape := ⟨1, ![1024]⟩

abbrev nBuf : Space → Nat
  | .hbm => 75
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S4x32768x128, .f32⟩
  | .hbm, ⟨2, _⟩ => ⟨S32768x512, .bf16⟩
  | .hbm, ⟨3, _⟩ => ⟨S32768x3072, .bf16⟩
  | .hbm, ⟨4, _⟩ => ⟨S32768x1024, .f32⟩
  | .hbm, ⟨5, _⟩ => ⟨S2x512x1024, .f32⟩
  | .hbm, ⟨6, _⟩ => ⟨S2x3x512x1024, .f32⟩
  | .hbm, ⟨7, _⟩ => ⟨S2x1024x1024, .f32⟩
  | .hbm, ⟨8, _⟩ => ⟨S2x1024, .f32⟩
  | .hbm, ⟨9, _⟩ => ⟨S2x1024x4, .f32⟩
  | .hbm, ⟨10, _⟩ => ⟨S2x4, .f32⟩
  | .hbm, ⟨11, _⟩ => ⟨S2x4x1024x8, .f32⟩
  | .hbm, ⟨12, _⟩ => ⟨S2x4x8, .f32⟩
  | .hbm, ⟨13, _⟩ => ⟨S32768x4x128, .f32⟩
  | .hbm, ⟨14, _⟩ => ⟨S32768x512, .f32⟩
  | .hbm, ⟨15, _⟩ => ⟨S1x512x1024, .f32⟩
  | .hbm, ⟨16, _⟩ => ⟨S512x1024, .f32⟩
  | .hbm, ⟨17, _⟩ => ⟨S32768x1024, .f32⟩
  | .hbm, ⟨18, _⟩ => ⟨S32768x512, .f32⟩
  | .hbm, ⟨19, _⟩ => ⟨S32768x512, .f32⟩
  | .hbm, ⟨20, _⟩ => ⟨S32768x512, .f32⟩
  | .hbm, ⟨21, _⟩ => ⟨S32768x512, .f32⟩
  | .hbm, ⟨22, _⟩ => ⟨S32768x512, .f32⟩
  | .hbm, ⟨23, _⟩ => ⟨S_, .f32⟩
  | .hbm, ⟨24, _⟩ => ⟨S32768x512, .f32⟩
  | .hbm, ⟨25, _⟩ => ⟨S32768x512, .f32⟩
  | .hbm, ⟨26, _⟩ => ⟨S_, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S32768x1x512, .f32⟩
  | .hbm, ⟨32, _⟩ => ⟨S32768x1x512, .f32⟩
  | .hbm, ⟨33, _⟩ => ⟨S32768x1x512, .f32⟩
  | .hbm, ⟨34, _⟩ => ⟨S32768x3x512, .f32⟩
  | .hbm, ⟨35, _⟩ => ⟨S1x3x512x1024, .f32⟩
  | .hbm, ⟨36, _⟩ => ⟨S3x512x1024, .f32⟩
  | .hbm, ⟨37, _⟩ => ⟨S3x1024x32768, .f32⟩
  | .hbm, ⟨38, _⟩ => ⟨S32768x3x1024, .f32⟩
  | .hbm, ⟨39, _⟩ => ⟨S32768x3072, .f32⟩
  | .hbm, ⟨40, _⟩ => ⟨S32768x3072, .f32⟩
  | .hbm, ⟨41, _⟩ => ⟨S32768x3072, .f32⟩
  | .hbm, ⟨42, _⟩ => ⟨S_, .f32⟩
  | .hbm, ⟨43, _⟩ => ⟨S32768x3072, .f32⟩
  | .hbm, ⟨44, _⟩ => ⟨S32768x3072, .f32⟩
  | .hbm, ⟨45, _⟩ => ⟨S_, .f32⟩
  | .hbm, ⟨46, _⟩ => ⟨S32768x3072, .f32⟩
  | .hbm, ⟨47, _⟩ => ⟨S32768x3072, .f32⟩
  | .hbm, ⟨48, _⟩ => ⟨S32768x3x1024, .f32⟩
  | .hbm, ⟨49, _⟩ => ⟨S32768x3x1024, .f32⟩
  | .hbm, ⟨50, _⟩ => ⟨S_, .f32⟩
  | .hbm, ⟨51, _⟩ => ⟨S32768x1024, .f32⟩
  | .hbm, ⟨52, _⟩ => ⟨S1x1024x1024, .f32⟩
  | .hbm, ⟨53, _⟩ => ⟨S1024x1024, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S_, .f32⟩
  | .hbm, ⟨58, _⟩ => ⟨S32768, .f32⟩
  | .hbm, ⟨59, _⟩ => ⟨S32768x1, .f32⟩
  | .hbm, ⟨60, _⟩ => ⟨S_, .f32⟩
  | .hbm, ⟨61, _⟩ => ⟨S32768x1, .f32⟩
  | .hbm, ⟨62, _⟩ => ⟨S32768x1, .f32⟩
  | .hbm, ⟨63, _⟩ => ⟨S_, .f32⟩
  | .hbm, ⟨64, _⟩ => ⟨S32768x1, .f32⟩
  | .hbm, ⟨65, _⟩ => ⟨S32768x1, .f32⟩
  | .hbm, ⟨66, _⟩ => ⟨S32768x1, .f32⟩
  | .hbm, ⟨67, _⟩ => ⟨S32768x1024, .f32⟩
  | .hbm, ⟨68, _⟩ => ⟨S32768x1024, .f32⟩
  | .hbm, ⟨69, _⟩ => ⟨S1x1024, .f32⟩
  | .hbm, ⟨70, _⟩ => ⟨S1024, .f32⟩
  | .hbm, ⟨71, _⟩ => ⟨S1x1024, .f32⟩
  | .hbm, ⟨72, _⟩ => ⟨S32768x1024, .f32⟩
  | .hbm, ⟨73, _⟩ => ⟨S32768x1024, .f32⟩
  | .hbm, ⟨74, _⟩ => ⟨S32768x1024, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Proof.ExpertsBody.lean ====
/-
  The experts' feed-forward at one grid point: what the kernel's body leaves in the output block.

  The body has two paths. Where the grid point is below the table's number of used tiles, the block is the gated
  feed-forward of the staged rows under the staged weights; elsewhere the block is zero. Both are stated for any
  contents of the two tables and over any float instance, so the word-exact and the idealised program share them.
-/
module

public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The table of tile owners, whole. -/
abbrev tabE : Memref sig .tc .smem S219 .i32 := Memref.whole main_arg0
/-- The table holding the number of used tiles, whole. -/
abbrev tabN : Memref sig .tc .smem S1 .i32 := Memref.whole main_arg1

/-- The number of used tiles as the body reads it off its table. -/
abbrev word (T : S1.Idx → Elt F .i32) : Elt F .i32 :=
  View.readAt (Elt F) tabN.view (Rect.unit (s := S1) ![0] S1.size inb_S1_S1_0).toLoadRect T (Shape.Idx.first (numel1_S1.symm ▸ Nat.one_pos))

/-- The whole of a 512 × 1024 block. -/
abbrev rX : Rect S512x1024 := Rect.unit (s := S512x1024) ![0, 0] S512x1024.size inb_S512x1024_S512x1024_0_0
/-- The whole of a staged first-layer weight. -/
abbrev rW : Rect S1x1x1024x256 := Rect.unit (s := S1x1x1024x256) ![0, 0, 0, 0] S1x1x1024x256.size inb_S1x1x1024x256_S1x1x1024x256_0_0_0_0
/-- The whole of a staged second-layer weight. -/
abbrev rD : Rect S1x1x256x1024 := Rect.unit (s := S1x1x256x1024) ![0, 0, 0, 0] S1x1x256x1024.size inb_S1x1x256x1024_S1x1x256x1024_0_0_0_0

/-- The block of a used tile: the feed-forward of the staged rows. -/
def usedBlock (x0 : Vec F S512x1024 .bf16) (x1 x2 : Vec F S1x1x1024x256 .f32) (x3 : Vec F S1x1x256x1024 .f32) : Vec F S512x1024 .bf16 :=
  View.canon [⟨rX, k0_pay1 (View.ld x0 rX) (View.ld x1 rW) (View.ld x2 rW) (View.ld x3 rD)⟩]

/-- The block of an unused tile: zeros. -/
def idleBlock : Vec F S512x1024 .bf16 := View.canon [⟨rX, k0_pay2 (F := F)⟩]

/-- One store of a whole block covers it. -/
theorem cover (p : Vec F S512x1024 .bf16) (y : S512x1024.Idx) :
    ∃ pc ∈ ([⟨rX, p⟩] : List (View.Piece (Elt F) S512x1024 .bf16)), y ∈ pc.1.set :=
  View.cover_of_tiled [⟨rX, p⟩] S512x1024.size (by rfl) y

/-- At every grid point exactly one of the body's two conditions holds, whatever the table's word. -/
theorem cond_iff (i : grid0.Coords) (v : BitVec 32) : k0_cond2 i v = 1#1 ↔ ¬ k0_cond1 i v = 1#1 := by
  unfold k0_cond1 k0_cond2
  dsimp only
  generalize (Scalar.cmpi .slt (BitVec.ofNat 32 (i 0).val) v : BitVec 1) = b
  revert b
  decide

set_option maxHeartbeats 8000000 in
/-- The body at a used tile: from the inputs at their blocks and the tables it leaves the feed-forward's block. -/
theorem used_run (c : Dev nD) (i : grid0.Coords) (a3 : Memref sig .tc .vmem S512x1024 .bf16) (h3 : a3.IsWhole)
    (a4 : Memref sig .tc .vmem S1x1x1024x256 .f32) (h4 : a4.IsWhole) (a5 : Memref sig .tc .vmem S1x1x1024x256 .f32) (h5 : a5.IsWhole)
    (a6 : Memref sig .tc .vmem S1x1x256x1024 .f32) (h6 : a6.IsWhole) (a7 : Memref sig .tc .vmem S512x1024 .bf16) (h7 : a7.IsWhole)
    (T0 : S219.Idx → Elt F .i32) (T1 : S1.Idx → Elt F .i32)
    (x0 : Vec F S512x1024 .bf16) (x1 x2 : Vec F S1x1x1024x256 .f32) (x3 : Vec F S1x1x256x1024 .f32)
    (k0_h1 : k0_cond1 i (word T1) = 1#1) (k0_h2 : ¬ k0_cond2 i (word T1) = 1#1) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3
        ∗ (tabE.view.loc (c : Thread nD τ) ↦{fullShare.right} T0) ∗ (tabN.view.loc (c : Thread nD τ) ↦{fullShare.right} T1)
        ∗ (∃ d, owns (c : Thread nD τ) a7 fullShare d)
        ∗ (iprop(owns (c : Thread nD τ) a3 fullShare x0 ∗ owns (c : Thread nD τ) a4 fullShare x1 ∗ owns (c : Thread nD τ) a5 fullShare x2
            ∗ owns (c : Thread nD τ) a6 fullShare x3
            ∗ (tabE.view.loc (c : Thread nD τ) ↦{fullShare.right} T0) ∗ (tabN.view.loc (c : Thread nD τ) ↦{fullShare.right} T1)
            ∗ owns (c : Thread nD τ) a7 fullShare (usedBlock x0 x1 x2 x3)) -∗ K ⟨⟩))
      ⊢ wp frame (wpE (defs₀ (F := F)) Variants.none c none) Set.univ (cc0_moe_experts i tabE (Memref.isWhole_whole _) tabN (Memref.isWhole_whole _) a3 h3 a4 h4 a5 h5 a6 h6 a7 h7) K := by
  rw [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, HT0, HT1, ⟨%d4, %f4, -, H4⟩, Hk⟩
  subst hf0 hf1 hf2 hf3
  have hT0 : tabE.IsWhole := Memref.isWhole_whole _
  have hT1 : tabN.IsWhole := Memref.isWhole_whole _
  sl_exec! (disch := first | (guard_target = k0_cond1 _ _ = _; exact k0_h1) | (guard_target = ¬(k0_cond2 _ _ = _); exact k0_h2))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HT0]; · iexact HT0
  isplitl [HT1]; · iexact HT1
  iexists _; isplitr
  swap; · iexact H4
  ipureintro
  refine (View.read_writes_eq_canon _ _ _ (cover _)).trans ?_
  rfl

set_option maxHeartbeats 8000000 in
/-- The body at an unused tile: it leaves zeros. -/
theorem idle_run (c : Dev nD) (i : grid0.Coords) (a3 : Memref sig .tc .vmem S512x1024 .bf16) (h3 : a3.IsWhole)
    (a4 : Memref sig .tc .vmem S1x1x1024x256 .f32) (h4 : a4.IsWhole) (a5 : Memref sig .tc .vmem S1x1x1024x256 .f32) (h5 : a5.IsWhole)
    (a6 : Memref sig .tc .vmem S1x1x256x1024 .f32) (h6 : a6.IsWhole) (a7 : Memref sig .tc .vmem S512x1024 .bf16) (h7 : a7.IsWhole)
    (T1 : S1.Idx → Elt F .i32)
    (k0_h1 : ¬ k0_cond1 i (word T1) = 1#1) (k0_h2 : k0_cond2 i (word T1) = 1#1) (K : PUnit → sProp 𝕄) :
    iprop((tabN.view.loc (c : Thread nD τ) ↦{fullShare.right} T1)
        ∗ (∃ d, owns (c : Thread nD τ) a7 fullShare d)
        ∗ (iprop((tabN.view.loc (c : Thread nD τ) ↦{fullShare.right} T1)
            ∗ owns (c : Thread nD τ) a7 fullShare (idleBlock (F := F))) -∗ K ⟨⟩))
      ⊢ wp frame (wpE (defs₀ (F := F)) Variants.none c none) Set.univ (cc0_moe_experts i tabE (Memref.isWhole_whole _) tabN (Memref.isWhole_whole _) a3 h3 a4 h4 a5 h5 a6 h6 a7 h7) K := by
  rw [cc0_moe_experts_eq_skeleton]; unfold cc0_moe_experts_skel
  unfold owns
  iintro ⟨HT1, ⟨%d4, %f4, -, H4⟩, Hk⟩
  have hT1 : tabN.IsWhole := Memref.isWhole_whole _
  sl_exec! (disch := first | (guard_target = ¬(k0_cond1 _ _ = _); exact k0_h1) | (guard_target = k0_cond2 _ _ = _; exact k0_h2))
  sl_step
  iapply Hk
  isplitl [HT1]; · iexact HT1
  iexists _; isplitr
  swap; · iexact H4
  ipureintro
  refine (View.read_writes_eq_canon _ _ _ (cover _)).trans ?_
  rfl

end Cert.KernelIdeal.Experts

end
-- ==== Proof.ExpertsRun.lean ====
/-
  The experts' feed-forward over the whole grid, at any admissible contents of its two tables.

  The pipeline runs at the contents the tables hold at launch. Each point's body leaves the block `ExpertsBody` states;
  every point writes its block back. The run is proved once, over any float instance.
-/
module

public import proofs.«01_k».proof.Proof.ExpertsBody

@[expose] public section

set_option maxRecDepth 16384

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The resource algebra of the run: the staging cells'. -/
abbrev EP : Emb (UR sig nD τ) 𝕄 := emb₁

variable (a : (pcfg0 (F := F)).Adm)
variable (m : (ℓ : Loc nD τ sig) → Buf (Elt F) ℓ) (ρ : Dev nD → PrngReg)

/-- The pipeline at the tables' contents. -/
abbrev cfgA : Pipeline.Cfg sig Λ₀ := cfg0 (F := F) a
abbrev pcs : Fin 1 → Pipeline.Cfg sig Λ₀ := Pipeline.pin (pcfgs (F := F)) fun _ => a

/-- Point `t`'s grid coordinates. -/
abbrev crd (t : Fin (cfgA a).N) : grid0.Coords := (cfgA a).grid.coords t

/-- Each window's current staging buffer at point `t`. -/
abbrev st0 (t : Fin (cfgA a).N) : Memref sig .tc .vmem S512x1024 .bf16 := spec0_0.stage ((cfgA a).slots t (0 : Fin 5))
abbrev st1 (t : Fin (cfgA a).N) : Memref sig .tc .vmem S1x1x1024x256 .f32 := spec0_1.stage ((cfgA a).slots t (1 : Fin 5))
abbrev st2 (t : Fin (cfgA a).N) : Memref sig .tc .vmem S1x1x1024x256 .f32 := spec0_2.stage ((cfgA a).slots t (2 : Fin 5))
abbrev st3 (t : Fin (cfgA a).N) : Memref sig .tc .vmem S1x1x256x1024 .f32 := spec0_3.stage ((cfgA a).slots t (3 : Fin 5))
abbrev st4 (t : Fin (cfgA a).N) : Memref sig .tc .vmem S512x1024 .bf16 := spec0_4.stage ((cfgA a).slots t (4 : Fin 5))
abbrev hs0 (t : Fin (cfgA a).N) : (st0 a t).IsWhole := hstage0_0 (((cfgA a).slots t (0 : Fin 5)).cast nbuf0_0)
abbrev hs1 (t : Fin (cfgA a).N) : (st1 a t).IsWhole := hstage0_1 (((cfgA a).slots t (1 : Fin 5)).cast nbuf0_1)
abbrev hs2 (t : Fin (cfgA a).N) : (st2 a t).IsWhole := hstage0_2 (((cfgA a).slots t (2 : Fin 5)).cast nbuf0_2)
abbrev hs3 (t : Fin (cfgA a).N) : (st3 a t).IsWhole := hstage0_3 (((cfgA a).slots t (3 : Fin 5)).cast nbuf0_3)
abbrev hs4 (t : Fin (cfgA a).N) : (st4 a t).IsWhole := hstage0_4 (((cfgA a).slots t (4 : Fin 5)).cast nbuf0_4)

/-- The table of tile owners at launch. -/
abbrev tE : S219.Idx → Elt F .i32 := a.1 (0 : Fin 2)
/-- The number of used tiles at launch, as the table holds it. -/
abbrev tN : S1.Idx → Elt F .i32 := a.1 (1 : Fin 2)

/-- Window `w`'s block at point `t`, read off its array at launch. -/
def blk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-- What the output block of point `t` holds after the body. -/
def left (c : Dev nD) (t : Fin (cfgA a).N) : Vec F S512x1024 .bf16 :=
  if k0_cond1 (crd a t) (word (tN a)) = 1#1 then
    usedBlock (blk a m ρ c (0 : Fin 5) t) (blk a m ρ c (1 : Fin 5) t) (blk a m ρ c (2 : Fin 5) t) (blk a m ρ c (3 : Fin 5) t)
  else idleBlock

/-! ## The schedule -/

/-- The output's block is written back at every point: its index is the point's coordinate. -/
theorem flush4 (t : Fin (cfgA a).N) : ((cfgA a).win (4 : Fin 5)).flush t = true :=
  (Pipeline.Window.flush_reads (G := grid0) ((cfgA a).win (4 : Fin 5)) rfl 0 (by decide)
    (show grid0.fixedAfter reads0_4 0 = true by decide)
    (Pipeline.Window.sep_of_coord cc0_transform_4 0 0 (fun _ => rfl) (by decide)) (P := 1) (m := 0) (by decide) rfl t).mpr (Nat.mod_one _)

/-- No point leaves the output's block unwritten: one of the body's two stores happens. -/
theorem idle4 (i : grid0.Coords) : (cfgA a).idle (4 : Fin 5) i = false := by
  show (!(k0_cond1 i (a.1.atD 1 ![0]) == 1#1) && !(k0_cond2 i (a.1.atD 1 ![0]) == 1#1)) = false
  generalize a.1.atD 1 ![0] = v
  by_cases h : k0_cond1 i v = 1#1
  · simp [h]
  · simp [(cond_iff i v).mpr h]

/-- So before every point the output's buffer is fresh. -/
theorem fresh4 (n : ℕ) (hn : n ≤ (cfgA a).N) : (cfgA a).fresh (4 : Fin 5) n = true :=
  Pipeline.Cfg.fresh_tab (cfgA a) (4 : Fin 5) (fun _ => true) rfl (fun t => by rw [flush4 a t]; rfl) n hn

/-! ## The pipeline's proof data -/

/-- The invariant: the body's halves of the two tables. -/
def Phi (c : Dev nD) : sProp 𝕄 :=
  iprop((tabE.view.loc (c : Thread nD τ) ↦{fullShare.right} tE a) ∗ (tabN.view.loc (c : Thread nD τ) ↦{fullShare.right} tN a))

/-- The proof data of the one pipeline on core `c`. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => blk a m ρ c (0 : Fin 5) t
    | ⟨1, _⟩ => blk a m ρ c (1 : Fin 5) t
    | ⟨2, _⟩ => blk a m ρ c (2 : Fin 5) t
    | ⟨3, _⟩ => blk a m ρ c (3 : Fin 5) t
    | ⟨4, _⟩ => left a m ρ c t
  Φ _ := Phi a c
  q _ := fullShare
  owed _ := 0

theorem after0 (c : Dev nD) (t : Fin (cfgA a).N) : (dats a m ρ 0 c).after (0 : Fin 5) t = blk a m ρ c (0 : Fin 5) t := rfl
theorem after1 (c : Dev nD) (t : Fin (cfgA a).N) : (dats a m ρ 0 c).after (1 : Fin 5) t = blk a m ρ c (1 : Fin 5) t := rfl
theorem after2 (c : Dev nD) (t : Fin (cfgA a).N) : (dats a m ρ 0 c).after (2 : Fin 5) t = blk a m ρ c (2 : Fin 5) t := rfl
theorem after3 (c : Dev nD) (t : Fin (cfgA a).N) : (dats a m ρ 0 c).after (3 : Fin 5) t = blk a m ρ c (3 : Fin 5) t := rfl
theorem after4 (c : Dev nD) (t : Fin (cfgA a).N) : (dats a m ρ 0 c).after (4 : Fin 5) t = left a m ρ c t := rfl

/-- Each input window's buffer holds its block when the body runs. -/
theorem before0 (c : Dev nD) (t : Fin (cfgA a).N) (d) : (dats a m ρ 0 c).before (0 : Fin 5) t d = blk a m ρ c (0 : Fin 5) t :=
  ((dats a m ρ 0 c).before_in_eq_fetched (0 : Fin 5) rfl (fun _ => rfl) (fun _ _ _ => rfl) (fun t => by rw [after0]; unfold Dat.blockOf blk; rfl) t d).trans
    (by unfold Dat.fetched Dat.blockOf blk; rfl)
theorem before1 (c : Dev nD) (t : Fin (cfgA a).N) (d) : (dats a m ρ 0 c).before (1 : Fin 5) t d = blk a m ρ c (1 : Fin 5) t :=
  ((dats a m ρ 0 c).before_in_eq_fetched (1 : Fin 5) rfl (fun _ => rfl) (fun _ _ _ => rfl) (fun t => by rw [after1]; unfold Dat.blockOf blk; rfl) t d).trans
    (by unfold Dat.fetched Dat.blockOf blk; rfl)
theorem before2 (c : Dev nD) (t : Fin (cfgA a).N) (d) : (dats a m ρ 0 c).before (2 : Fin 5) t d = blk a m ρ c (2 : Fin 5) t :=
  ((dats a m ρ 0 c).before_in_eq_fetched (2 : Fin 5) rfl (fun _ => rfl) (fun _ _ _ => rfl) (fun t => by rw [after2]; unfold Dat.blockOf blk; rfl) t d).trans
    (by unfold Dat.fetched Dat.blockOf blk; rfl)
theorem before3 (c : Dev nD) (t : Fin (cfgA a).N) (d) : (dats a m ρ 0 c).before (3 : Fin 5) t d = blk a m ρ c (3 : Fin 5) t :=
  ((dats a m ρ 0 c).before_in_eq_fetched (3 : Fin 5) rfl (fun _ => rfl) (fun _ _ _ => rfl) (fun t => by rw [after3]; unfold Dat.blockOf blk; rfl) t d).trans
    (by unfold Dat.fetched Dat.blockOf blk; rfl)

/-! ## The body obligation -/

/-- The body at point `t` on its staging buffers, as the pipeline calls it. -/
abbrev bodyAt (t : Fin (cfgA a).N) : Prog (TpuEff nD τ sig (Elt F) Λ₀ .tc) PUnit :=
  cc0_moe_experts (crd a t) tabE (Memref.isWhole_whole _) tabN (Memref.isWhole_whole _) (st0 a t) (hs0 a t) (st1 a t) (hs1 a t) (st2 a t) (hs2 a t) (st3 a t) (hs3 a t) (st4 a t) (hs4 a t)

set_option maxHeartbeats 4000000 in
/-- The body obligation at point `t`, by which of the two conditions holds there. -/
theorem sound_body (c : Dev nD) (t : Fin (cfgA a).N) :
    iprop((dats a m ρ 0 c).Φ t.castSucc ∗ (dats a m ρ 0 c).owesAt () t.castSucc
        ∗ (∃ d, owns (c : Thread nD τ) (st0 a t) fullShare ((dats a m ρ 0 c).before (0 : Fin 5) t d))
        ∗ (∃ d, owns (c : Thread nD τ) (st1 a t) fullShare ((dats a m ρ 0 c).before (1 : Fin 5) t d))
        ∗ (∃ d, owns (c : Thread nD τ) (st2 a t) fullShare ((dats a m ρ 0 c).before (2 : Fin 5) t d))
        ∗ (∃ d, owns (c : Thread nD τ) (st3 a t) fullShare ((dats a m ρ 0 c).before (3 : Fin 5) t d))
        ∗ (∃ d, owns (c : Thread nD τ) (st4 a t) fullShare ((dats a m ρ 0 c).before (4 : Fin 5) t d)))
      ⊢ wp frame (wpE (defs₀ (F := F)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0, idle4 a]
  simp only [before0, before1, before2, before3, after0, after1, after2, after3, after4]
  rewrite [show (dats a m ρ 0 c).Φ t.succ = Phi a c from rfl, show (dats a m ρ 0 c).Φ t.castSucc = Phi a c from rfl,
    show (dats a m ρ 0 c).owesAt () t.succ = (dats a m ρ 0 c).owesAt () t.castSucc from rfl]
  unfold Phi
  by_cases h1 : k0_cond1 (crd a t) (word (tN a)) = 1#1
  · have h2 : ¬ k0_cond2 (crd a t) (word (tN a)) = 1#1 := fun h => (cond_iff _ _).mp h h1
    rewrite [show left a m ρ c t = usedBlock (blk a m ρ c (0 : Fin 5) t) (blk a m ρ c (1 : Fin 5) t) (blk a m ρ c (2 : Fin 5) t) (blk a m ρ c (3 : Fin 5) t) from if_pos h1]
    iintro ⟨⟨HT0, HT1⟩, Ho, ⟨%d0, H0⟩, ⟨%d1, H1⟩, ⟨%d2, H2⟩, ⟨%d3, H3⟩, ⟨%d4, H4⟩⟩
    iapply (used_run c (crd a t) (st0 a t) (hs0 a t) (st1 a t) (hs1 a t) (st2 a t) (hs2 a t) (st3 a t) (hs3 a t) (st4 a t) (hs4 a t) (tE a) (tN a) (blk a m ρ c (0 : Fin 5) t) (blk a m ρ c (1 : Fin 5) t) (blk a m ρ c (2 : Fin 5) t) (blk a m ρ c (3 : Fin 5) t) h1 h2)
    isplitl [H0]; · iexact H0
    isplitl [H1]; · iexact H1
    isplitl [H2]; · iexact H2
    isplitl [H3]; · iexact H3
    isplitl [HT0]; · iexact HT0
    isplitl [HT1]; · iexact HT1
    isplitl [H4]; · iexists _; iexact H4
    iintro ⟨H0, H1, H2, H3, HT0, HT1, H4⟩
    isplitl [HT0 HT1]
    · isplitl [HT0]
      · iexact HT0
      iexact HT1
    isplitl [Ho]; · iexact Ho
    isplitl [H0]; · iexact H0
    isplitl [H1]; · iexact H1
    isplitl [H2]; · iexact H2
    isplitl [H3]; · iexact H3
    iexact H4
  · have h2 : k0_cond2 (crd a t) (word (tN a)) = 1#1 := (cond_iff _ _).mpr h1
    rewrite [show left a m ρ c t = idleBlock from if_neg h1]
    iintro ⟨⟨HT0, HT1⟩, Ho, ⟨%d0, H0⟩, ⟨%d1, H1⟩, ⟨%d2, H2⟩, ⟨%d3, H3⟩, ⟨%d4, H4⟩⟩
    iapply (idle_run c (crd a t) (st0 a t) (hs0 a t) (st1 a t) (hs1 a t) (st2 a t) (hs2 a t) (st3 a t) (hs3 a t) (st4 a t) (hs4 a t) (tN a) h1 h2)
    isplitl [HT1]; · iexact HT1
    isplitl [H4]; · iexists _; iexact H4
    iintro ⟨HT1, H4⟩
    isplitl [HT0 HT1]
    · isplitl [HT0]
      · iexact HT0
      iexact HT1
    isplitl [Ho]; · iexact Ho
    isplitl [H0]; · iexact H0
    isplitl [H1]; · iexact H1
    isplitl [H2]; · iexact H2
    isplitl [H3]; · iexact H3
    iexact H4

/-- The body obligation at every point. -/
theorem body_obligation (c : Dev nD) : BodyObligation (dats a m ρ 0 c) (defs₀ (F := F)) Variants.none () Set.univ := fun t => by
  rw [bigSep_W0]
  exact sound_body a m ρ c t

/-! ## The launch -/

/-- The launch's element of the staging cells' algebra. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables. -/
theorem phi_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a c from rfl]
  unfold Phi
  iintro ⟨-, ⟨HT0, HT1⟩, -⟩
  isplitl [HT0]
  · iexact HT0
  iexact HT1

/-- At the last point the tables are let go. -/
theorem phi_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a c from rfl]
  unfold Phi
  iintro ⟨-, -⟩
  isplitr; · iempintro
  iempintro

/-- The state after the run: every array at what the pipeline computes, the tables as they were. -/
def Post : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

/-- The tables hold `a` at launch. -/
def Holds : Prop := ∀ (c : Dev nD) (j : Fin 2), m ((c : Thread nD τ).loc (pre0.ref j)) = a.1 j

set_option backward.isDefEq.respectTransparency.types false in
set_option maxHeartbeats 4000000 in
/-- From any memory whose tables hold admissible contents, every fair execution ends, each array at what the pipeline
    computes, every semaphore counter at zero. -/
theorem run_quiescent (hp : Holds a m) :
    θ_run (defs (F := F)) (onTc (τ := τ) (main (F := F))) (s₀ m ρ) (fun r => Post a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_intro a m ρ)
    (hout := phi_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What the run leaves of the arguments and the result: every argument as it was, the result at the pipeline's array. -/
theorem run (hp : Holds a m) :
    θ_run (defs (F := F)) (onTc (τ := τ) (main (F := F))) ⟨m, fun _ => 0, ρ⟩ (fun r => (∀ c : Dev nD,
      r.2.mem ((c.tc : Thread nD τ).loc main_v0) = (dats a m ρ 0 c).arrAt (4 : Fin 5) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).2 0).trans (hp c 0).symm, ((h.1 c).2 1).trans (hp c 1).symm,
    ((h.1 c).1 (0 : Fin 5)).trans ((dats a m ρ 0 c).arrAt_in (0 : Fin 5) rfl _), ((h.1 c).1 (1 : Fin 5)).trans ((dats a m ρ 0 c).arrAt_in (1 : Fin 5) rfl _),
    ((h.1 c).1 (2 : Fin 5)).trans ((dats a m ρ 0 c).arrAt_in (2 : Fin 5) rfl _), ((h.1 c).1 (3 : Fin 5)).trans ((dats a m ρ 0 c).arrAt_in (3 : Fin 5) rfl _)⟩, h.2⟩)
    (run_quiescent a m ρ hp)

end Cert.KernelIdeal.Experts

end
-- ==== Proof.ExpertsPre.lean ====
/-
  The experts' tables: the precondition read, the side condition proved from it, and the two frames.

  The grid runs over tiles of rows. Two tables are read before the blocks are fetched: the expert that owns each tile
  and the number of used tiles. The precondition says that every owner is one of the thirty-two experts and that at
  least one tile is used; every block the index maps name then lies inside its array.
-/
module

public import proofs.«01_k».proof.Defs
public import proofs.«01_k».proof.Proof.ExpertsRun
public import proofs.«01_k».proof.Proof.Gen.Kernel
public import proofs.«01_k».proof.Proof.Gen.Pre_in_range

@[expose] public section

set_option maxRecDepth 16384

noncomputable section

namespace Cert.KernelIdeal.Experts

open Cert.KernelIdeal Cert.KernelIdeal.Gen
open Idealize.ShloMosaic Idealize.ShloMosaic.TcCoe
open Idealize.SL.Sem

variable {F : FTy → Type} [FloatOps F]

/-- The tables are in range: each tile's owner is an expert's number, and at least one tile is used. -/
structure InRange (e : S219.Idx → BitVec 32) (n : S1.Idx → BitVec 32) : Prop where
  owner : ∀ y, (e y).toNat < 32
  used : ∀ y, 1 ≤ (n y).toInt

/-- The printed precondition, read: all ones means that the tables are in range. -/
theorem inRange_of_fn (x0 : IVec S219 32) (x1 : IVec S1 32) (x2 : FVec F S112128x1024 .bf16)
    (x3 x4 : FVec F S2x32x1024x256 .f32) (x5 : FVec F S2x32x256x1024 .f32)
    (h : Cert.Pre_in_range.fn (F := F) x0 x1 x2 x3 x4 x5 = fun _ => 1#1) : InRange x0 x1 := by
  have both (p q : Bool) : IntOp.andi (BitVec.ofBool p) (BitVec.ofBool q) = BitVec.ofBool (p && q) := by
    cases p <;> cases q <;> decide
  have isOne (p : Bool) : (BitVec.ofBool p = 1#1) ↔ p = true := by cases p <;> decide
  have one : ∀ y z : S1.Idx, y = z := by decide
  have e (y : S219.Idx) : ((0#32).sle (x0 y) = true ∧ (x0 y).slt 32#32 = true) ∧ ∀ z : S1.Idx, (1#32).sle (x1 z) = true := by
    have e := congrFun h y
    simp only [Cert.Pre_in_range.fn, andi, cmpi, broadcastInDim, constantI, IntOp.cmpi, both, isOne, Bool.and_eq_true] at e
    exact ⟨e.1, fun z => by rw [one z _]; exact e.2⟩
  constructor
  · intro y
    obtain ⟨⟨h0, h1⟩, -⟩ := e y
    simp only [BitVec.sle, BitVec.slt, decide_eq_true_eq, BitVec.toInt, BitVec.toNat_ofNat] at h0 h1
    omega
  · intro z
    have h2 := (e (fun | ⟨0, _⟩ => (⟨0, by decide⟩ : Fin 219))).2 z
    simp only [BitVec.sle, decide_eq_true_eq] at h2
    exact h2

/-- An owner read from the table is an expert's number. -/
theorem owner_lt {pf : pre0.Contents (Elt F)} (h : InRange (pf 0) (pf 1)) (i : grid0.Coords) :
    (pf.at 0 (Rect.unit (s := S219) ![(Scalar.indexCast (BitVec.ofNat 32 (i 0).val) : Index).toNat] S1.size (k0_off1_inb i)) numel1_S1 : BitVec 32).toNat < 32 :=
  h.owner _

/-- A used count of at least one, less one, bounds the tile number from above without leaving the tiles. -/
theorem clamp_lt (k : Nat) (hk : k < 219) (n : BitVec 32) (hn : 1 ≤ n.toInt) :
    (Scalar.minsi (BitVec.ofNat 32 k) (Scalar.subi n 1#32) : BitVec 32).toNat < 219 := by
  show (IntOp.minsi (BitVec.ofNat 32 k) (IntOp.subi n 1#32)).toNat < 219
  unfold IntOp.minsi IntOp.subi
  split
  · simp only [BitVec.toNat_ofNat]; omega
  · rename_i hs
    simp only [BitVec.slt, decide_eq_true_eq, BitVec.toInt, BitVec.toNat_ofNat, BitVec.toNat_sub] at hs hn ⊢
    omega

/-- Below the used count the clamped tile number is the tile number. -/
theorem clamp_eq (k : Nat) (hk : k < 219) (n : BitVec 32) (hn : (k : Int) < n.toInt) :
    (Scalar.minsi (BitVec.ofNat 32 k) (Scalar.subi n 1#32) : BitVec 32).toNat = k := by
  show (IntOp.minsi (BitVec.ofNat 32 k) (IntOp.subi n 1#32)).toNat = k
  unfold IntOp.minsi IntOp.subi
  split
  · simp only [BitVec.toNat_ofNat]; omega
  · rename_i hs
    simp only [BitVec.slt, decide_eq_true_eq, BitVec.toInt, BitVec.toNat_ofNat, BitVec.toNat_sub] at hs hn ⊢
    omega

/-- A first-layer weight block named by the owner table lies inside the stacked weights. -/
theorem weight_inb (pf : pre0.Contents (Elt F)) (h : InRange (pf 0) (pf 1)) (i : grid0.Coords) :
    ∀ a, (cc0_transform_1 k0_off1_inb numel1_S1 pf i a + 1) * S1x1x1024x256.size a ≤ S2x32x1024x256.size a := by
  intro a
  have h' := owner_lt h i
  match a with
  | ⟨0, _⟩ => show (0 + 1) * 1 ≤ 2; omega
  | ⟨1, _⟩ =>
    show ((pf.at 0 (Rect.unit (s := S219) ![(Scalar.indexCast (BitVec.ofNat 32 (i 0).val) : Index).toNat] S1.size (k0_off1_inb i)) numel1_S1 : BitVec 32).toNat + 1) * 1 ≤ 32
    omega
  | ⟨2, _⟩ => show (0 + 1) * 1024 ≤ 1024; omega
  | ⟨3, _⟩ => show (0 + 1) * 256 ≤ 256; omega

/-- The side condition on the tables follows from their ranges. -/
theorem ok_of_inRange (pf : pre0.Contents (Elt F)) (h : InRange (pf 0) (pf 1)) : ok0 (F := F) pf := by
  have hw (i : grid0.Coords) : (i 0).val < 219 := (i 0).isLt
  refine ⟨fun i => ?_, fun i => ⟨?_, .inl rfl⟩, fun i => ⟨?_, .inl rfl⟩, fun i => ⟨?_, .inl rfl⟩⟩
  · have hb : ∀ a, (cc0_transform_0 inb_S1_S1_0 numel1_S1 pf i a + 1) * S512x1024.size a ≤ S112128x1024.size a := by
      intro a
      match a with
      | ⟨0, _⟩ =>
        show ((Scalar.minsi (BitVec.ofNat 32 (i 0).val) (Scalar.subi (pf.at 1 (Rect.unit (s := S1) ![0] S1.size inb_S1_S1_0) numel1_S1) 1#32) : BitVec 32).toNat + 1) * 512 ≤ 112128
        have h' : (Scalar.minsi (BitVec.ofNat 32 (i 0).val) (Scalar.subi (pf.at 1 (Rect.unit (s := S1) ![0] S1.size inb_S1_S1_0) numel1_S1) 1#32) : BitVec 32).toNat < 219 := clamp_lt _ (hw i) _ (h.used _)
        omega
      | ⟨1, _⟩ => show (0 + 1) * 1024 ≤ 1024; omega
    exact ⟨hb, .inr (Affine.block_words_dvd (s := S112128x1024) (p := EltTy.packing .bf16) (by decide) (by decide))⟩
  · exact weight_inb pf h i
  · exact weight_inb pf h i
  · intro a
    have h' := owner_lt h i
    match a with
    | ⟨0, _⟩ => show (0 + 1) * 1 ≤ 2; omega
    | ⟨1, _⟩ =>
      show ((pf.at 0 (Rect.unit (s := S219) ![(Scalar.indexCast (BitVec.ofNat 32 (i 0).val) : Index).toNat] S1.size (k0_off1_inb i)) numel1_S1 : BitVec 32).toNat + 1) * 1 ≤ 32
      omega
    | ⟨2, _⟩ => show (0 + 1) * 256 ≤ 256; omega
    | ⟨3, _⟩ => show (0 + 1) * 1024 ≤ 1024; omega

variable (m : (ℓ : Loc nD τ sig) → Buf (Elt F) ℓ) (ρ : Dev nD → PrngReg)

/-- The tables as the memory holds them. -/
abbrev tables : pre0.Contents (Elt F) := fun j => m (((0 : Dev nD) : Thread nD τ).loc (pre0.ref j))

/-- The memory's tables as admissible contents. -/
abbrev adm (h : InRange (tables m 0) (tables m 1)) : (pcfg0 (F := F)).Adm := ⟨tables m, ok_of_inRange (tables m) h⟩

/-- There is one device, so its tables are every device's. -/
theorem holds (h : InRange (tables m 0) (tables m 1)) : Holds (adm m h) m := by
  intro c j
  obtain rfl : c = 0 := Subsingleton.elim _ _
  rfl

/-- The word-exact program's precondition puts its tables in range. -/
theorem inRange_bits (m : (ℓ : Loc Cert.Kernel.nD Cert.Kernel.τ Cert.Kernel.sig) → Buf (Elt Bits) ℓ) (h : Cert.Pre_Kernel m) :
    InRange (tables (F := Bits) m 0) (tables (F := Bits) m 1) := inRange_of_fn _ _ _ _ _ _ (h 0)

/-- The idealised program's precondition puts its tables in range. -/
theorem inRange_ideal (m : (ℓ : Loc nD τ sig) → Buf (Elt Ideal) ℓ) (h : Cert.Pre_KernelIdeal m) :
    InRange (tables (F := Ideal) m 0) (tables (F := Ideal) m 1) := inRange_of_fn _ _ _ _ _ _ (h 0)

set_option maxHeartbeats 4000000 in
/-- Every fair execution of the idealised experts' call ends, with its arguments unchanged and every counter at zero. -/
theorem frame_kernelIdeal : Cert.quiescent_KernelIdeal := fun m ρ hp =>
  (θ_run Cert.KernelIdeal.defs _ _).mono (fun _ h => ⟨fun c => (h.1 c).2, h.2⟩)
    (run (F := Ideal) (adm m (inRange_ideal m hp)) m ρ (holds m (inRange_ideal m hp)))

end Cert.KernelIdeal.Experts

end
-- ==== Proof.ExpertsFrame.lean ====
/-
  The word-exact experts' call: its frame, by the run that the idealised program's frame uses.

  The two programs have the same text, so the one run, taken at machine words, is the word-exact program's.
-/
module

public import proofs.«01_k».proof.Defs
public import proofs.«01_k».proof.Proof.ExpertsRun
public import proofs.«01_k».proof.Proof.ExpertsPre
public import proofs.«01_k».proof.Proof.Gen.Kernel
public import proofs.«01_k».proof.Proof.Gen.Pre_in_range

@[expose] public section

set_option maxRecDepth 16384

noncomputable section

namespace Cert.KernelIdeal.Experts

open Cert.KernelIdeal Cert.KernelIdeal.Gen
open Idealize.ShloMosaic Idealize.ShloMosaic.TcCoe
open Idealize.SL.Sem

set_option backward.isDefEq.respectTransparency.types false

/-- The two programs' bodies are one function. -/
theorem body_eq : @Cert.Kernel.cc0_moe_experts Bits _ _ = @Cert.KernelIdeal.cc0_moe_experts Bits _ _ := rfl

/-- So are their tables of bodies. -/
theorem bodies_eq : Cert.Kernel.defs₀ (F := Bits) = Cert.KernelIdeal.defs₀ (F := Bits) := by
  refine congrArg Defs.onTc (funext fun l => funext fun x => ?_)
  match l, x with
  | 0, (t, s) => rfl
  | ⟨_ + 1, h⟩, _ => exact absurd h (Nat.not_lt.2 (Nat.le_add_left _ _))

/-- And their tables of bodies and regions. -/
theorem defs_eq : Cert.Kernel.defs (F := Bits) = Cert.KernelIdeal.defs (F := Bits) :=
  congrArg (Pipeline.defs (Cert.KernelIdeal.pcfgs (F := Bits))) bodies_eq

set_option maxHeartbeats 4000000 in
/-- Every fair execution of the word-exact experts' call ends, with its arguments unchanged and every counter at zero. -/
theorem frame_kernel : Cert.quiescent_Kernel := by
  intro m ρ hp
  rw [defs_eq]
  have hr := run (F := Bits) (adm m (inRange_bits m hp)) m ρ (holds m (inRange_bits m hp))
  refine (θ_run Cert.KernelIdeal.defs _ _).mono ?_ hr
  intro _ h
  exact ⟨fun c => (h.1 c).2, h.2⟩

end Cert.KernelIdeal.Experts

end
-- ==== Proof.ExpertsBlock.lean ====
/-
  What one grid point of the experts' kernel computes, over the extended reals: the block it writes, element by
  element, as sums over the blocks it reads. A used tile gets the gated feed-forward of its rows under its expert's
  three matrices; an idle tile gets zeros.
-/
module

public import proofs.«01_k».proof.Proof.ExpertsRun
public import Idealize.ShloMosaic.Lib.Pipeline.Value
public import Idealize.ShloMosaic.Lib.MatmulPlain
public import Idealize.ShloMosaic.Lib.ValueIdx
public import Idealize.ShloMosaic.PureOps.Ideal.Laws

@[expose] public section

set_option maxRecDepth 16384

noncomputable section

namespace Cert.KernelIdeal.Experts

open Cert.KernelIdeal Cert.KernelIdeal.Gen
open Idealize.ShloMosaic Idealize.ShloMosaic.ValueIdx
open scoped BigOperators

/-- The word of zero is the number zero, in the format of the products' accumulators. -/
theorem zero_f32 : Ideal.ofBits .f32 (0x00000000#32) = (0 : EReal) := by
  simp [Ideal.ofBits, Ideal.ieee]

/-- The word of zero is the number zero, in the format of the result. -/
theorem zero_bf16 : Ideal.ofBits .bf16 (0x0000#16) = (0 : EReal) := by
  simp [Ideal.ofBits, Ideal.ieee]

/-- An expert's first-layer matrix, fetched with two leading axes of extent one, read at a row and a column. -/
theorem cast_in (w : Vec Ideal S1x1x1024x256 .f32) (k : Fin 1024) (f : Fin 256) :
    shapeCast S1024x256 w shapeCasts_S1x1x1024x256_S1024x256 (ix2 k f) = w (ix4 0 0 k f) := by
  refine shapeCast_apply _ _ _ _ ?_
  rw [Shape.rowMajor_val_two, Shape.rowMajor_val_four]
  show ((0 * 1 + 0) * 1024 + k.val) * 256 + f.val = k.val * 256 + f.val
  omega

/-- An expert's second-layer matrix, fetched with two leading axes of extent one, read at a row and a column. -/
theorem cast_out (w : Vec Ideal S1x1x256x1024 .f32) (f : Fin 256) (d : Fin 1024) :
    shapeCast S256x1024 w shapeCasts_S1x1x256x1024_S256x1024 (ix2 f d) = w (ix4 0 0 f d) := by
  refine shapeCast_apply _ _ _ _ ?_
  rw [Shape.rowMajor_val_two, Shape.rowMajor_val_four]
  show ((0 * 1 + 0) * 256 + f.val) * 1024 + d.val = f.val * 1024 + d.val
  omega

/-- A block's row times one column of a first-layer matrix. -/
def blockIn (x : Vec Ideal S512x1024 .bf16) (w : Vec Ideal S1x1x1024x256 .f32) (r : Fin 512) (f : Fin 256) : EReal :=
  ∑ k : Fin 1024, (x (ix2 r k) : EReal) * (w (ix4 0 0 k f) : EReal)

/-- The first-layer product of a tile, read at a row and a column, is the dot product over the features. -/
theorem product_in (x : Vec Ideal S512x1024 .bf16) (w : Vec Ideal S1x1x1024x256 .f32) (r : Fin 512) (f : Fin 256) :
    (matmul (F := Ideal) (φ₁ := .bf16) (φ₂ := .bf16) dot_S512x1024_S1024x256_S512x256_1_0_0_1_n_n none x
      (truncf .bf16 (shapeCast S1024x256 w shapeCasts_S1x1x1024x256_S1024x256 : FVec Ideal S1024x256 .f32) bitsLt_bf16_f32 : FVec Ideal S1024x256 .bf16)
      (constant S512x256 .f32 0x00000000#32 : FVec Ideal S512x256 .f32) : FVec Ideal S512x256 .f32) (ix2 r f)
    = blockIn x w r f := by
  refine (Ideal.matmul_plain_apply (M := 512) (K := 1024) (N := 256) none x _ _ r f).trans ?_
  unfold blockIn
  rw [show (constant S512x256 .f32 0x00000000#32 : FVec Ideal S512x256 .f32) (ix2 r f) = (0 : EReal) from zero_f32]
  refine (zero_add _).trans (Finset.sum_congr rfl fun k _ => ?_)
  exact congrArg (_ * ·) (cast_in w k f)

/-- The gated hidden unit of a tile's row: the gate's product, times its logistic, times the up projection's product. -/
def blockHidden (x : Vec Ideal S512x1024 .bf16) (wg wu : Vec Ideal S1x1x1024x256 .f32) (r : Fin 512) (f : Fin 256) : EReal :=
  blockIn x wg r f * Ideal.logistic (blockIn x wg r f) * blockIn x wu r f

/-- What a used tile's point writes, at a row and a column: the hidden units times a column of the second layer. -/
theorem pay1_apply (x : Vec Ideal S512x1024 .bf16) (wg wu : Vec Ideal S1x1x1024x256 .f32) (wd : Vec Ideal S1x1x256x1024 .f32)
    (r : Fin 512) (d : Fin 1024) :
    (k0_pay1 x wg wu wd : FVec Ideal S512x1024 .bf16) (ix2 r d)
    = ∑ f : Fin 256, blockHidden x wg wu r f * (wd (ix4 0 0 f d) : EReal) := by
  refine (Ideal.matmul_plain_apply (M := 512) (K := 256) (N := 1024) none _ _ _ r d).trans ?_
  rw [show (constant S512x1024 .f32 0x00000000#32 : FVec Ideal S512x1024 .f32) (ix2 r d) = (0 : EReal) from zero_f32]
  refine (zero_add _).trans (Finset.sum_congr rfl fun f _ => ?_)
  refine congrArg₂ (· * ·) ?_ (cast_out wd f d)
  unfold blockHidden
  rw [← product_in, ← product_in]
  rfl

/-- The block a used point leaves is the payload it stores, whole. -/
theorem usedBlock_eq (x : Vec Ideal S512x1024 .bf16) (wg wu : Vec Ideal S1x1x1024x256 .f32) (wd : Vec Ideal S1x1x256x1024 .f32) :
    usedBlock x wg wu wd = k0_pay1 x wg wu wd := by
  have h2 : (![0, 0] : Fin 2 → Nat) = fun _ => 0 := by funext a; match a with | ⟨0, _⟩ => rfl | ⟨1, _⟩ => rfl
  have h4 : (![0, 0, 0, 0] : Fin 4 → Nat) = fun _ => 0 := by
    funext a; match a with | ⟨0, _⟩ => rfl | ⟨1, _⟩ => rfl | ⟨2, _⟩ => rfl | ⟨3, _⟩ => rfl
  unfold usedBlock rX rW rD
  rw [View.canon_unit_zero h2, View.ld_unit_zero h2, View.ld_unit_zero h4, View.ld_unit_zero h4, View.ld_unit_zero h4]

/-- The block an idle point leaves is zero everywhere. -/
theorem idleBlock_apply (y : S512x1024.Idx) : (idleBlock : S512x1024.Idx → Elt Ideal .bf16) y = (0 : EReal) := by
  have h2 : (![0, 0] : Fin 2 → Nat) = fun _ => 0 := by funext a; match a with | ⟨0, _⟩ => rfl | ⟨1, _⟩ => rfl
  unfold idleBlock rX
  rw [View.canon_unit_zero h2]
  exact zero_bf16

end Cert.KernelIdeal.Experts
-- ==== Proof.ExpertsValue.lean ====
/-
  What the experts' kernel leaves in its result array, over the extended reals: for every row of a used tile, the
  gated feed-forward of that row under the matrices of the expert that owns the tile; for every other row, zeros.
-/
module

public import proofs.«01_k».proof.Proof.ExpertsPre
public import proofs.«01_k».proof.Proof.ExpertsBlock

@[expose] public section

set_option maxRecDepth 16384

noncomputable section

namespace Cert.KernelIdeal.Experts

open Cert.KernelIdeal Cert.KernelIdeal.Gen
open Idealize.ShloMosaic Idealize.ShloMosaic.TcCoe Idealize.ShloMosaic.ValueIdx
open Idealize.ShloMosaic.Pipeline (Dat Cfg Window)
open Idealize.SL.Sem
open scoped BigOperators

/-! ## The mathematics -/

/-- Row `r` of the tokens times column `f` of expert `e`'s first-layer matrix (of the first of the two layers). -/
def rowIn (x : S112128x1024.Idx → EReal) (w : S2x32x1024x256.Idx → EReal) (e : Fin 32) (r : Fin 112128) (f : Fin 256) : EReal :=
  ∑ k : Fin 1024, x (ix2 r k) * w (ix4 0 e k f)

/-- The gated hidden unit `f` of row `r` under expert `e`. -/
def rowHidden (x : S112128x1024.Idx → EReal) (wg wu : S2x32x1024x256.Idx → EReal) (e : Fin 32) (r : Fin 112128) (f : Fin 256) : EReal :=
  rowIn x wg e r f * Ideal.logistic (rowIn x wg e r f) * rowIn x wu e r f

/-- The feed-forward of row `r` under expert `e`, at output column `d`. -/
def rowOut (x : S112128x1024.Idx → EReal) (wg wu : S2x32x1024x256.Idx → EReal) (wd : S2x32x256x1024.Idx → EReal)
    (e : Fin 32) (r : Fin 112128) (d : Fin 1024) : EReal :=
  ∑ f : Fin 256, rowHidden x wg wu e r f * wd (ix4 0 e f d)

/-- The tile of 512 rows that a row lies in. -/
def tileOf (r : Fin 112128) : Fin 219 := ⟨r.val / 512, by have := r.isLt; omega⟩

/-- The expert that owns a tile. -/
def owner (e : S219.Idx → BitVec 32) (t : Fin 219) : Fin 32 := ⟨(e (ix1 t)).toNat % 32, Nat.mod_lt _ (by decide)⟩

/-- The result: each row of a used tile under its tile's expert, and zero elsewhere. -/
def routed (e : S219.Idx → BitVec 32) (n : S1.Idx → BitVec 32) (x : S112128x1024.Idx → EReal) (wg wu : S2x32x1024x256.Idx → EReal)
    (wd : S2x32x256x1024.Idx → EReal) : S112128x1024.Idx → EReal := fun i =>
  if (((tileOf (i 0)).val : Int) < (n (ix1 0)).toInt) then rowOut x wg wu wd (owner e (tileOf (i 0))) (i 0) (i 1) else 0

/-! ## The kernel -/

variable (a : (pcfg0 (F := Ideal)).Adm)
variable (m : (ℓ : Loc nD τ sig) → Buf (Elt Ideal) ℓ) (ρ : Dev nD → PrngReg)

/-- A point's only coordinate is its number. -/
theorem crd_val (t : Fin (cfgA a).N) : ((crd a t) 0).val = t.val := by
  have h : ((crd a t) 0).val = t.val / 1 % 219 := Pipeline.Grid.coords_val (G := grid0) t 0 rfl rfl
  have ht : t.val < 219 := t.isLt
  omega

/-- A tile is used at its point exactly when its number is below the used count. -/
theorem cond1_iff (i : grid0.Coords) (v : BitVec 32) : k0_cond1 i v = 1#1 ↔ ((i 0).val : Int) < v.toInt := by
  unfold k0_cond1
  dsimp only
  have hi : (i 0).val < 219 := (i 0).isLt
  have e : ∀ b : BitVec 1, (Scalar.cmpi .ne (Scalar.extui b : BitVec 32) 0#32 : BitVec 1) = 1#1 ↔ b = 1#1 := by decide
  refine (e _).trans ?_
  show IntOp.cmpi .slt (BitVec.ofNat 32 (i 0).val) v = 1#1 ↔ _
  have isOne (p : Bool) : (BitVec.ofBool p = 1#1) ↔ p = true := by cases p <;> decide
  simp only [IntOp.cmpi, isOne, BitVec.slt, decide_eq_true_eq, BitVec.toInt, BitVec.toNat_ofNat]
  omega

/-- The used count, read by the body. -/
theorem word_eq (T : S1.Idx → Elt Ideal .i32) : word T = T (ix1 0) := by
  have one : ∀ y z : S1.Idx, y = z := by decide
  exact congrArg T (one _ _)

/-- The row block that a used tile's point fetches is the tile's. -/
theorem index0 (t : Fin (cfgA a).N) (ht : (t.val : Int) < (tN a (ix1 0) : BitVec 32).toInt) :
    ((cfgA a).win (0 : Fin 5)).index t (0 : Fin 2) = t.val := by
  have hlt : t.val < 219 := t.isLt
  have hc := crd_val a t
  have one : ∀ y z : S1.Idx, y = z := by decide
  show (Scalar.minsi (BitVec.ofNat 32 ((crd a t) 0).val) (Scalar.subi (a.1.at 1 (Rect.unit (s := S1) ![0] S1.size inb_S1_S1_0) numel1_S1) 1#32) : BitVec 32).toNat = t.val
  rw [hc]
  refine clamp_eq t.val hlt _ ?_
  rw [show (a.1.at 1 (Rect.unit (s := S1) ![0] S1.size inb_S1_S1_0) numel1_S1 : BitVec 32) = tN a (ix1 0) from congrArg (tN a) (one _ _)]
  exact ht

/-- The expert whose matrices a point fetches is the tile's owner. -/
theorem index1 (t : Fin (cfgA a).N) (T : Fin 219) (hT : T.val = t.val) :
    ((cfgA a).win (1 : Fin 5)).index t (1 : Fin 4) = (tE a (ix1 T) : BitVec 32).toNat := by
  have hc := crd_val a t
  have hlt : t.val < 219 := t.isLt
  show ((a.1.at 0 (Rect.unit (s := S219) ![(Scalar.indexCast (BitVec.ofNat 32 ((crd a t) 0).val) : Index).toNat] S1.size (k0_off1_inb (crd a t))) numel1_S1 : BitVec 32).toNat) = _
  refine congrArg (fun y => (tE a y : BitVec 32).toNat) ?_
  funext b
  apply Fin.ext
  match b with
  | ⟨0, _⟩ =>
    show (BitVec.ofNat 32 ((crd a t) 0).val).toNat + 1 * 0 = T.val
    rw [hc, BitVec.toNat_ofNat]
    omega

/-- The tokens' block of a used tile is the tile's rows. -/
theorem blk0_apply (c : Dev nD) (t : Fin (cfgA a).N) (ht : (t.val : Int) < (tN a (ix1 0) : BitVec 32).toInt) (r : Fin 512) (k : Fin 1024)
    (R : Fin 112128) (hR : R.val = t.val * 512 + r.val) :
    (blk a m ρ c (0 : Fin 5) t : S512x1024.Idx → EReal) (ix2 r k) = m ((c : Thread nD τ).loc main_arg2) (ix2 R k) := by
  have hi := index0 a t ht
  unfold blk
  rw [View.read_apply]
  show m ((c : Thread nD τ).loc main_arg2) _ = _
  congr 1
  funext b
  apply Fin.ext
  match b with
  | ⟨0, _⟩ => show ((cfgA a).win (0 : Fin 5)).index t (0 : Fin 2) * 512 + 1 * r.val = R.val; rw [hi]; omega
  | ⟨1, _⟩ => show 0 * 1024 + 1 * k.val = k.val; omega

/-- The gate's block at a point is the matrix of the tile's owner. -/
theorem blk1_apply (c : Dev nD) (t : Fin (cfgA a).N) (T : Fin 219) (hT : T.val = t.val) (e : Fin 32)
    (he : (tE a (ix1 T) : BitVec 32).toNat = e.val) (k : Fin 1024) (f : Fin 256) :
    (blk a m ρ c (1 : Fin 5) t : S1x1x1024x256.Idx → EReal) (ix4 0 0 k f) = m ((c : Thread nD τ).loc main_arg3) (ix4 0 e k f) := by
  have hi := (index1 a t T hT).trans he
  unfold blk
  rw [View.read_apply]
  show m ((c : Thread nD τ).loc main_arg3) _ = _
  congr 1
  funext b
  apply Fin.ext
  match b with
  | ⟨0, _⟩ => show 0 * 1 + 1 * 0 = 0; omega
  | ⟨1, _⟩ => show ((cfgA a).win (1 : Fin 5)).index t (1 : Fin 4) * 1 + 1 * 0 = e.val; rw [hi]; omega
  | ⟨2, _⟩ => show 0 * 1024 + 1 * k.val = k.val; omega
  | ⟨3, _⟩ => show 0 * 256 + 1 * f.val = f.val; omega

/-- The up projection's block at a point is the matrix of the tile's owner. -/
theorem blk2_apply (c : Dev nD) (t : Fin (cfgA a).N) (T : Fin 219) (hT : T.val = t.val) (e : Fin 32)
    (he : (tE a (ix1 T) : BitVec 32).toNat = e.val) (k : Fin 1024) (f : Fin 256) :
    (blk a m ρ c (2 : Fin 5) t : S1x1x1024x256.Idx → EReal) (ix4 0 0 k f) = m ((c : Thread nD τ).loc main_arg4) (ix4 0 e k f) := by
  have hi := (index1 a t T hT).trans he
  unfold blk
  rw [View.read_apply]
  show m ((c : Thread nD τ).loc main_arg4) _ = _
  congr 1
  funext b
  apply Fin.ext
  match b with
  | ⟨0, _⟩ => show 0 * 1 + 1 * 0 = 0; omega
  | ⟨1, _⟩ => show ((cfgA a).win (1 : Fin 5)).index t (1 : Fin 4) * 1 + 1 * 0 = e.val; rw [hi]; omega
  | ⟨2, _⟩ => show 0 * 1024 + 1 * k.val = k.val; omega
  | ⟨3, _⟩ => show 0 * 256 + 1 * f.val = f.val; omega

/-- The down projection's block at a point is the matrix of the tile's owner. -/
theorem blk3_apply (c : Dev nD) (t : Fin (cfgA a).N) (T : Fin 219) (hT : T.val = t.val) (e : Fin 32)
    (he : (tE a (ix1 T) : BitVec 32).toNat = e.val) (f : Fin 256) (d : Fin 1024) :
    (blk a m ρ c (3 : Fin 5) t : S1x1x256x1024.Idx → EReal) (ix4 0 0 f d) = m ((c : Thread nD τ).loc main_arg5) (ix4 0 e f d) := by
  have hi := (index1 a t T hT).trans he
  unfold blk
  rw [View.read_apply]
  show m ((c : Thread nD τ).loc main_arg5) _ = _
  congr 1
  funext b
  apply Fin.ext
  match b with
  | ⟨0, _⟩ => show 0 * 1 + 1 * 0 = 0; omega
  | ⟨1, _⟩ => show ((cfgA a).win (1 : Fin 5)).index t (1 : Fin 4) * 1 + 1 * 0 = e.val; rw [hi]; omega
  | ⟨2, _⟩ => show 0 * 256 + 1 * f.val = f.val; omega
  | ⟨3, _⟩ => show 0 * 1024 + 1 * d.val = d.val; omega

/-- The result over the memory's arrays and the tables. -/
abbrev result (c : Dev nD) : S112128x1024.Idx → EReal :=
  routed (tE a) (tN a) (m ((c : Thread nD τ).loc main_arg2)) (m ((c : Thread nD τ).loc main_arg3))
    (m ((c : Thread nD τ).loc main_arg4)) (m ((c : Thread nD τ).loc main_arg5))

/-- What a point leaves in its block is the result at the tile's rows. -/
theorem left_apply (h : InRange (tE a) (tN a)) (c : Dev nD) (t : Fin (cfgA a).N) (r : Fin 512) (d : Fin 1024)
    (R : Fin 112128) (hR : R.val = t.val * 512 + r.val) :
    (left a m ρ c t : S512x1024.Idx → EReal) (ix2 r d) = result a m c (ix2 R d) := by
  have hlt : t.val < 219 := t.isLt
  have hT : (tileOf R).val = t.val := by show R.val / 512 = t.val; omega
  have hown : (tE a (ix1 (tileOf R)) : BitVec 32).toNat = (owner (tE a) (tileOf R)).val :=
    (Nat.mod_eq_of_lt (h.owner (ix1 (tileOf R)))).symm
  have hw := word_eq (tN a)
  unfold left
  show _ = if (((tileOf R).val : Int) < (tN a (ix1 0) : BitVec 32).toInt) then _ else _
  by_cases hc : k0_cond1 (crd a t) (word (tN a)) = 1#1
  · have ht := (cond1_iff _ _).mp hc
    rw [hw, crd_val] at ht
    rw [if_pos hc, if_pos (by rw [hT]; exact ht), usedBlock_eq, pay1_apply]
    refine Finset.sum_congr rfl fun f _ => ?_
    rw [blk3_apply a m ρ c t (tileOf R) hT _ hown f d]
    refine congrArg (· * _) ?_
    have e1 : blockIn (blk a m ρ c (0 : Fin 5) t) (blk a m ρ c (1 : Fin 5) t) r f
        = rowIn (m ((c : Thread nD τ).loc main_arg2)) (m ((c : Thread nD τ).loc main_arg3)) (owner (tE a) (tileOf R)) R f :=
      Finset.sum_congr rfl fun k _ => by
        rw [blk0_apply a m ρ c t ht r k R hR, blk1_apply a m ρ c t (tileOf R) hT _ hown k f]
    have e2 : blockIn (blk a m ρ c (0 : Fin 5) t) (blk a m ρ c (2 : Fin 5) t) r f
        = rowIn (m ((c : Thread nD τ).loc main_arg2)) (m ((c : Thread nD τ).loc main_arg4)) (owner (tE a) (tileOf R)) R f :=
      Finset.sum_congr rfl fun k _ => by
        rw [blk0_apply a m ρ c t ht r k R hR, blk2_apply a m ρ c t (tileOf R) hT _ hown k f]
    unfold blockHidden rowHidden
    rw [e1, e2]
  · have ht : ¬ ((t.val : Int) < (tN a (ix1 0) : BitVec 32).toInt) := fun ht =>
      hc ((cond1_iff _ _).mpr (by rw [hw, crd_val]; exact ht))
    rw [if_neg hc, if_neg (by rw [hT]; exact ht)]
    exact idleBlock_apply _

/-- The row of the array that a row of a point's output block is. -/
theorem emb4 (t : Fin (cfgA a).N) (r : Fin 512) (d : Fin 1024) (R : Fin 112128) (hR : R.val = t.val * 512 + r.val) :
    (((cfgA a).win (4 : Fin 5)).blk t).view.emb (ix2 r d : S512x1024.Idx) = (ix2 R d : S112128x1024.Idx) := by
  have hc := crd_val a t
  have hlt : t.val < 219 := t.isLt
  funext b
  apply Fin.ext
  match b with
  | ⟨0, _⟩ =>
    show (BitVec.ofNat 32 ((crd a t) 0).val).toNat * 512 + 1 * r.val = R.val
    rw [hc, BitVec.toNat_ofNat]
    omega
  | ⟨1, _⟩ => show 0 * 1024 + 1 * d.val = d.val; omega

/-- The result array after the run: the routed feed-forward, everywhere. -/
theorem array_eq (h : InRange (tE a) (tN a)) (c : Dev nD) :
    (dats a m ρ 0 c).arrAt (4 : Fin 5) (cfgA a).N = result a m c := by
  refine funext fun i => (dats a m ρ 0 c).arrAt_forall_of_cover (4 : Fin 5) (fun i v => v = result a m c i) ?_ ?_ i
  · intro t _ y
    rw [eq_ix2 (y : S512x1024.Idx)]
    have hlt : t.val < 219 := t.isLt
    have hr : ((y : S512x1024.Idx) 0).val < 512 := ((y : S512x1024.Idx) 0).isLt
    have e := emb4 a t ((y : S512x1024.Idx) 0) ((y : S512x1024.Idx) 1) ⟨t.val * 512 + ((y : S512x1024.Idx) 0).val, by omega⟩ rfl
    refine Eq.trans ?_ (congrArg (result a m c) e).symm
    exact left_apply a m ρ h c t _ _ _ rfl
  · intro i
    have hi : ((i : S112128x1024.Idx) 0).val < 112128 := ((i : S112128x1024.Idx) 0).isLt
    obtain ⟨t, ht⟩ : ∃ t : Fin (cfgA a).N, t.val = ((i : S112128x1024.Idx) 0).val / 512 := ⟨(⟨_, by show _ < 219; omega⟩ : Fin 219), rfl⟩
    have e := emb4 a t ⟨((i : S112128x1024.Idx) 0).val % 512, Nat.mod_lt _ (by decide)⟩ ((i : S112128x1024.Idx) 1) ((i : S112128x1024.Idx) 0)
      (by show ((i : S112128x1024.Idx) 0).val = t.val * 512 + ((i : S112128x1024.Idx) 0).val % 512; omega)
    exact ⟨t, flush4 a t, (e.trans (eq_ix2 (i : S112128x1024.Idx)).symm) ▸ View.emb_mem_set _ _⟩

end Cert.KernelIdeal.Experts
-- ==== Proof.ExpertsReference.lean ====
/-
  What the experts' reference computes, over the extended reals: at every row, the sum over the thirty-two experts of
  each expert's gated feed-forward, weighted by one for the owner of the row's tile if the tile is used and by zero
  otherwise. That is the owner's feed-forward in a used tile and zero in an idle one.
-/
module

public import proofs.«01_k».proof.Proof.ExpertsValue
public import proofs.«01_k».proof.Proof.Gen.ReferenceIdeal.Read
public import Idealize.ShloMosaic.Lib.IdealHost

@[expose] public section

set_option maxRecDepth 16384

noncomputable section

namespace Cert.ReferenceIdeal.Experts

open Cert.ReferenceIdeal Cert.ReferenceIdeal.Read
open Cert.KernelIdeal.Experts (rowIn rowHidden rowOut tileOf owner routed InRange zero_f32 zero_bf16)
open Idealize.ShloMosaic Idealize.ShloMosaic.TcCoe Idealize.ShloMosaic.ValueIdx
open scoped BigOperators

variable (e : S219.Idx → BitVec 32) (n : S1.Idx → BitVec 32) (x : S112128x1024.Idx → EReal)
  (wg wu : S2x32x1024x256.Idx → EReal) (wd : S2x32x256x1024.Idx → EReal)

/-! ## The one-hot weights -/

/-- A row's number divided by 512 as words, rounding down, is the number of the row's tile. -/
theorem floor_divide (r : Nat) (hr : r < 112128) (z : BitVec 32) :
    Scalar.select (IntOp.andi (IntOp.cmpi .ne (if BitVec.ofNat 32 r = 0 then 0 else if (BitVec.ofNat 32 r).msb then -1 else 1 : BitVec 32) 1#32)
        (IntOp.cmpi .ne (IntOp.remsi .host (BitVec.ofNat 32 r) 512#32) 0#32)) z (IntOp.divsi .host (BitVec.ofNat 32 r) 512#32)
      = BitVec.ofNat 32 (r / 512) := by
  have hm : (BitVec.ofNat 32 r).msb = false := by
    rw [BitVec.msb_eq_false_iff_two_mul_lt, BitVec.toNat_ofNat]; omega
  have hdiv : IntOp.divsi .host (BitVec.ofNat 32 r) 512#32 = BitVec.ofNat 32 (r / 512) := by
    unfold IntOp.divsi
    rw [if_neg (by unfold IntOp.SDivCorner; simp)]
    rw [BitVec.sdiv_eq, hm]
    show BitVec.ofNat 32 r / 512#32 = _
    apply BitVec.eq_of_toNat_eq
    rw [BitVec.toNat_udiv, BitVec.toNat_ofNat, BitVec.toNat_ofNat, BitVec.toNat_ofNat, Nat.mod_eq_of_lt (by omega : r < 2 ^ 32),
      Nat.mod_eq_of_lt (by omega : 512 < 2 ^ 32), Nat.mod_eq_of_lt (by omega : r / 512 < 2 ^ 32)]
  have hc : IntOp.andi (IntOp.cmpi .ne (if BitVec.ofNat 32 r = 0 then 0 else if (BitVec.ofNat 32 r).msb then -1 else 1 : BitVec 32) 1#32)
        (IntOp.cmpi .ne (IntOp.remsi .host (BitVec.ofNat 32 r) 512#32) 0#32) = 0#1 := by
    by_cases h0 : BitVec.ofNat 32 r = 0
    · rw [h0]; decide
    · rw [if_neg h0, hm]
      show IntOp.andi 0#1 _ = 0#1
      simp [IntOp.andi]
  rw [hc, hdiv]
  rfl

/-- The tile that the reference computes for a row. -/
theorem tile_word (r : Fin 112128) : val_main_v3 (F := Ideal) (ix2 r (0 : Fin 1)) = BitVec.ofNat 32 (r.val / 512) := by
  have h2 : val_main_v2 (F := Ideal) (ix2 r (0 : Fin 1)) = BitVec.ofNat 32 r.val := by rw [val_main_v2_apply, val_main_v1_apply]
  have h3 : val_main_call0_v3 (F := Ideal) (ix2 r (0 : Fin 1))
      = (if BitVec.ofNat 32 r.val = 0 then 0 else if (BitVec.ofNat 32 r.val).msb then -1 else 1 : BitVec 32) := by
    rw [← h2]; rfl
  have h4 (y : S_.Idx) : val_main_call0_v4 (F := Ideal) y = 1#32 := by
    show (if (512#32 : BitVec 32) = 0 then 0 else if (512#32 : BitVec 32).msb then -1 else 1 : BitVec 32) = 1#32
    decide
  rw [val_main_v3_apply, val_main_call0_v11_apply, val_main_call0_v6_apply, val_main_call0_v10_apply, val_main_call0_v8_apply,
    val_main_call0_v9_apply, val_main_call0_v5_apply, val_main_call0_v7_apply, val_main_call0_v2_apply, val_main_call0_v1_apply,
    val_main_call0_v0_apply, val_main_c_apply, val_main_call0_c_apply, h2, h3, h4]
  exact floor_divide r.val r.isLt _

/-- The reference's weight of an expert at a row: one for the owner of a used tile, zero otherwise. -/
theorem weight_apply (h : InRange e n) (r : Fin 112128) (j : Fin 32) :
    val_main_v17 (F := Ideal) e n (ix2 r j)
    = if j = owner e (tileOf r) ∧ ((tileOf r).val : Int) < (n (ix1 0)).toInt then (1 : EReal) else 0 := by
  have hr : r.val < 112128 := r.isLt
  have both (p q : Bool) : IntOp.andi (BitVec.ofBool p) (BitVec.ofBool q) = BitVec.ofBool (p && q) := by
    cases p <;> cases q <;> decide
  have one : ∀ y z : S1.Idx, y = z := by decide
  have hidx : idx_main_v15 (ix2 r j) = ix2 r (0 : Fin 1) := by
    funext a; match a with | ⟨0, _⟩ => rfl | ⟨1, _⟩ => rfl
  have hown : idx_main_v4 (idx_main_v5 (idx_main_v6 (idx_main_v9 (ix2 r j)))) = ix1 (tileOf r) := by
    funext a; match a with | ⟨0, _⟩ => rfl
  have hcount (y : S_.Idx) : val_main_v12 (F := Ideal) n y = n (ix1 0) := congrArg n (one _ _)
  have hslt : (BitVec.ofNat 32 (r.val / 512)).slt (n (ix1 0)) = decide (((tileOf r).val : Int) < (n (ix1 0)).toInt) := by
    have : (BitVec.ofNat 32 (r.val / 512)).toInt = ((tileOf r).val : Int) := by
      rw [BitVec.toInt, BitVec.toNat_ofNat]
      show _ = ((r.val / 512 : Nat) : Int)
      omega
    rw [BitVec.slt, this]
  have heq : (e (ix1 (tileOf r)) == BitVec.ofNat 32 j.val) = decide (j = owner e (tileOf r)) := by
    have ho := h.owner (ix1 (tileOf r))
    have hj : j.val < 32 := j.isLt
    have ho' : (owner e (tileOf r)).val = (e (ix1 (tileOf r))).toNat % 32 := rfl
    rw [Bool.eq_iff_iff, beq_iff_eq, decide_eq_true_iff, Fin.ext_iff, ho']
    constructor
    · intro hh
      rw [hh, BitVec.toNat_ofNat]; omega
    · intro hh
      apply BitVec.eq_of_toNat_eq
      rw [BitVec.toNat_ofNat]; omega
  rw [val_main_v17_apply, val_main_v16_apply, val_main_v11_apply, val_main_v15_apply, val_main_v14_apply, val_main_v13_apply,
    val_main_v9_apply, val_main_v6_apply, val_main_v5_apply, val_main_v4_apply, val_main_v10_apply, val_main_v8_apply, val_main_v7_apply,
    val_main_call1_v0_apply, val_main_call1_v1_apply, val_main_cst_apply, val_main_cst_0_apply, hidx, hown, tile_word, hcount]
  show Scalar.select (IntOp.andi (IntOp.cmpi .eq (e (ix1 (tileOf r))) (BitVec.ofNat 32 j.val)) (IntOp.cmpi .slt (BitVec.ofNat 32 (r.val / 512)) (n (ix1 0))))
    (Ideal.ofBits .f32 0x3F800000#32) (Ideal.ofBits .f32 0x00000000#32) = _
  simp only [IntOp.cmpi]
  rw [hslt, heq, both, Ideal.ofBits_one_f32, zero_f32]
  by_cases h1 : j = owner e (tileOf r) <;> by_cases h2 : ((tileOf r).val : Int) < (n (ix1 0)).toInt <;>
    simp [h1, h2, Scalar.select]

/-! ## The experts -/

/-- The reference's gate product for an expert and a row. -/
theorem gate_apply (j : Fin 32) (r : Fin 112128) (f : Fin 256) :
    val_main_v21 (F := Ideal) x wg (ix3 j r f) = rowIn x wg j r f := by
  rw [val_main_v21_apply, val_main_v20_apply]
  refine Finset.sum_congr rfl fun k _ => ?_
  rw [val_main_v19_apply, val_main_v18_apply, val_main_v0_apply]
  refine (mul_comm _ _).trans (congrArg₂ (· * ·) (congrArg x ?_) (congrArg wg ?_))
  · funext a; match a with | ⟨0, _⟩ => rfl | ⟨1, _⟩ => rfl
  · have hj := j.isLt; have hk := k.isLt; have hf := f.isLt
    funext a; apply Fin.ext
    match a with
    | ⟨0, _⟩ => rfl
    | ⟨1, _⟩ => show ((j.val * 1024 + k.val) * 256 + f.val) / 262144 % 32 = j.val; omega
    | ⟨2, _⟩ => show ((j.val * 1024 + k.val) * 256 + f.val) / 256 % 1024 = k.val; omega
    | ⟨3, _⟩ => show ((j.val * 1024 + k.val) * 256 + f.val) % 256 = f.val; omega

/-- The reference's up projection for an expert and a row. -/
theorem up_apply (j : Fin 32) (r : Fin 112128) (f : Fin 256) :
    val_main_v25 (F := Ideal) x wu (ix3 j r f) = rowIn x wu j r f := by
  rw [val_main_v25_apply, val_main_v24_apply]
  refine Finset.sum_congr rfl fun k _ => ?_
  rw [val_main_v23_apply, val_main_v22_apply, val_main_v0_apply]
  refine (mul_comm _ _).trans (congrArg₂ (· * ·) (congrArg x ?_) (congrArg wu ?_))
  · funext a; match a with | ⟨0, _⟩ => rfl | ⟨1, _⟩ => rfl
  · have hj := j.isLt; have hk := k.isLt; have hf := f.isLt
    funext a; apply Fin.ext
    match a with
    | ⟨0, _⟩ => rfl
    | ⟨1, _⟩ => show ((j.val * 1024 + k.val) * 256 + f.val) / 262144 % 32 = j.val; omega
    | ⟨2, _⟩ => show ((j.val * 1024 + k.val) * 256 + f.val) / 256 % 1024 = k.val; omega
    | ⟨3, _⟩ => show ((j.val * 1024 + k.val) * 256 + f.val) % 256 = f.val; omega

/-- The reference's gated hidden unit: its spelled-out logistic is the logistic. -/
theorem hidden_apply (j : Fin 32) (r : Fin 112128) (f : Fin 256) :
    val_main_v27 (F := Ideal) x wg wu (ix3 j r f) = rowHidden x wg wu j r f := by
  have hlog : val_main_call2_v5 (F := Ideal) x wg (ix3 j r f) = Ideal.logistic (rowIn x wg j r f) := by
    rw [val_main_call2_v5_apply, val_main_call2_v4_apply, val_main_call2_cst_0_apply, val_main_call2_v3_apply, val_main_call2_v2_apply,
      val_main_call2_cst_apply, val_main_call2_v1_apply, val_main_call2_v0_apply, gate_apply]
    show Ideal.div (Ideal.ofBits .f32 0x3F800000#32) (Ideal.ofBits .f32 0x3F800000#32 + Ideal.exp (-(rowIn x wg j r f))) = _
    rw [Ideal.ofBits_one_f32]
    rfl
  rw [val_main_v27_apply, val_main_v26_apply, hlog, gate_apply, up_apply]
  rfl

/-- The reference's feed-forward of a row under an expert. -/
theorem expert_apply (j : Fin 32) (r : Fin 112128) (d : Fin 1024) :
    val_main_v30 (F := Ideal) x wg wu wd (ix3 j r d) = rowOut x wg wu wd j r d := by
  rw [val_main_v30_apply]
  refine Finset.sum_congr rfl fun f _ => ?_
  rw [val_main_v29_apply, val_main_v28_apply]
  refine congrArg₂ (· * ·) (Eq.trans (congrArg (val_main_v27 (F := Ideal) x wg wu) ?_) (hidden_apply x wg wu j r f)) (congrArg wd ?_)
  · funext a; match a with | ⟨0, _⟩ => rfl | ⟨1, _⟩ => rfl | ⟨2, _⟩ => rfl
  · have hj := j.isLt; have hd := d.isLt; have hf := f.isLt
    funext a; apply Fin.ext
    match a with
    | ⟨0, _⟩ => rfl
    | ⟨1, _⟩ => show ((j.val * 256 + f.val) * 1024 + d.val) / 262144 % 32 = j.val; omega
    | ⟨2, _⟩ => show ((j.val * 256 + f.val) * 1024 + d.val) / 1024 % 256 = f.val; omega
    | ⟨3, _⟩ => show ((j.val * 256 + f.val) * 1024 + d.val) % 1024 = d.val; omega

/-- The reference's result at a row and a column: of the sum over experts only the owner's term is left. -/
theorem result_apply (h : InRange e n) (r : Fin 112128) (d : Fin 1024) :
    val_main_v37 (F := Ideal) e n x wg wu wd (ix2 r d) = routed e n x wg wu wd (ix2 r d) := by
  have term (j : Fin 32) : val_main_v35 (F := Ideal) e n x wg wu wd (idx_main_v36 (ix2 r d) j)
      = (if j = owner e (tileOf r) ∧ ((tileOf r).val : Int) < (n (ix1 0)).toInt then (1 : EReal) else 0) * rowOut x wg wu wd j r d := by
    have hi : idx_main_v36 (ix2 r d) j = ix3 j r d := by
      funext a; match a with | ⟨0, _⟩ => rfl | ⟨1, _⟩ => rfl | ⟨2, _⟩ => rfl
    have hw : idx_main_v31 (idx_main_v32 (idx_main_v34 (ix3 j r d))) = ix2 r j := by
      funext a; match a with | ⟨0, _⟩ => rfl | ⟨1, _⟩ => rfl
    rw [hi, val_main_v35_apply, val_main_v34_apply, val_main_v33_apply, val_main_v32_apply, val_main_v31_apply, hw, weight_apply e n h,
      expert_apply]
    rfl
  rw [val_main_v37_apply, val_main_v36_apply, val_main_cst_1_apply]
  show Ideal.ofBits .f32 0x00000000#32 + ∑ j : Fin 32, val_main_v35 (F := Ideal) e n x wg wu wd (idx_main_v36 (ix2 r d) j)
    = if (((tileOf r).val : Int) < (n (ix1 0)).toInt) then rowOut x wg wu wd (owner e (tileOf r)) r d else 0
  rw [zero_f32, zero_add, Finset.sum_congr rfl fun j _ => term j]
  by_cases hu : ((tileOf r).val : Int) < (n (ix1 0)).toInt
  · rw [if_pos hu, Finset.sum_eq_single (owner e (tileOf r))]
    · rw [if_pos ⟨rfl, hu⟩, one_mul]
    · intro j _ hj
      rw [if_neg (fun hh => hj hh.1), zero_mul]
    · intro hh; exact absurd (Finset.mem_univ _) hh
  · rw [if_neg hu]
    exact Finset.sum_eq_zero fun j _ => by rw [if_neg (fun hh => hu hh.2), zero_mul]

/-- The reference's result is the routed feed-forward. -/
theorem result_eq (h : InRange e n) : val_main_v37 (F := Ideal) e n x wg wu wd = routed e n x wg wu wd := by
  funext i
  rw [eq_ix2 (i : S112128x1024.Idx)]
  exact result_apply e n x wg wu wd h _ _

end Cert.ReferenceIdeal.Experts
-- ==== Proof.ExpertsClaim.lean ====
/-
  The experts' claims over the extended reals: the reference's frame, and the equation. From memories that agree on the
  six arguments, with the tables in range, the kernel's result array and the reference's end equal.
-/
module

public import proofs.«01_k».proof.Proof.ExpertsReference
public import proofs.«01_k».proof.Proof.Gen.ReferenceIdeal.Run
public import proofs.«01_k».proof.Proof.Gen.ReferenceIdeal

@[expose] public section

set_option maxRecDepth 16384

noncomputable section

namespace Cert.KernelIdeal.Experts

open Idealize.ShloMosaic Idealize.ShloMosaic.TcCoe
open Idealize.SL.Sem

/-- Every execution of the experts' reference ends, with its arguments unchanged and every counter at zero. -/
theorem frame_referenceIdeal : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

set_option maxHeartbeats 1000000 in
/-- The kernel's run, its result array at the routed feed-forward of the arguments. -/
theorem run_result (m : (ℓ : Loc Cert.KernelIdeal.nD Cert.KernelIdeal.τ Cert.KernelIdeal.sig) → Buf (Elt Ideal) ℓ)
    (ρ : Dev Cert.KernelIdeal.nD → PrngReg) (h : InRange (tables m 0) (tables m 1)) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v0) = result (adm m h) m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono
    (fun r hr c => ⟨(hr.1 c).1.trans (array_eq (adm m h) m ρ h c), (hr.1 c).2⟩)
    (run (F := Ideal) (adm m h) m ρ (holds m h))

set_option maxHeartbeats 1000000 in
/-- The experts' kernel and its reference end at the same array. -/
theorem algebraic : Cert.algebraic_KernelIdeal_ReferenceIdeal := by
  intro m ρ m' ρ' hp hagree
  have h := inRange_ideal m hp
  refine ⟨fun c => result (adm m h) m c, run_result m ρ h, ?_⟩
  refine (θ_run Cert.ReferenceIdeal.defs _ _).mono (fun r hr c => ⟨(hr c).1.trans ?_, (hr c).2⟩)
    (Cert.ReferenceIdeal.Value.run (F := Ideal) m' ρ')
  obtain ⟨h0, h1, h2, h3, h4, h5⟩ := hagree c
  obtain rfl : c = 0 := Subsingleton.elim _ _
  rw [h0, h1, h2, h3, h4, h5]
  exact (Cert.ReferenceIdeal.Read.val_main_v37_eq (F := Ideal) _ _ _ _ _ _).trans
    (Cert.ReferenceIdeal.Experts.result_eq _ _ _ _ _ _ h)

end Cert.KernelIdeal.Experts
-- ==== Proof.InprojBlock.lean ====
/-
  What one grid point of the input projection computes, over the extended reals: 512 rows are normalised by their root
  mean square and scaled, then multiplied by the layer's 7168-column matrix. The columns go to four results.
-/
module

public import proofs.«01_k».proof.Proof.Gen.Kernel2Ideal.Value
public import Idealize.ShloMosaic.Lib.Pipeline.Value
public import Idealize.ShloMosaic.Lib.MatmulPlain
public import Idealize.ShloMosaic.Lib.ValueIdx
public import Idealize.ShloMosaic.PureOps.Ideal.Laws

@[expose] public section

set_option maxRecDepth 16384

noncomputable section

namespace Cert.Kernel2Ideal.Inproj

open Cert.Kernel2Ideal Cert.Kernel2Ideal.Gen
open Idealize.ShloMosaic Idealize.ShloMosaic.ValueIdx
open scoped BigOperators

/-- The word of zero is the number zero. -/
theorem zero_f32 : Ideal.ofBits .f32 (0x00000000#32) = (0 : EReal) := by
  simp [Ideal.ofBits, Ideal.ieee]

/-- The reciprocal root mean square of a row's 1024 entries, a small constant added under the root. -/
def scaleOf (row : Fin 1024 → EReal) : EReal :=
  Ideal.rsqrt (Ideal.div (∑ k : Fin 1024, row k * row k) (Ideal.ofBits .f32 0x44800000#32) + Ideal.ofBits .f32 0x358637BD#32)

/-- A row normalised and weighted, times one column of the matrix. -/
def rowProj (row weight col : Fin 1024 → EReal) : EReal :=
  ∑ k : Fin 1024, row k * scaleOf row * weight k * col k

/-- The sum over a block's row, as the kernel takes it, is the sum over the row. -/
theorem rowSum (v : FVec Ideal S512x1024 .f32) (r : Fin 512) :
    multiReduction .add [1] S512 v 0x00000000#32 reduces_S512x1024_S512 (.inl rfl) rfl (ix1 r) = ∑ k : Fin 1024, v (ix2 r k) := by
  refine (Ideal.multiReduction_add_single v 0x00000000#32 reduces_S512x1024_S512 (.inl rfl) rfl (ix1 r)).trans ?_
  refine Finset.sum_congr rfl fun k _ => congrArg v ?_
  funext a
  match a with
  | ⟨0, _⟩ => rfl
  | ⟨1, _⟩ => rfl

/-- The normalised, weighted rows of a block, at a row and a feature. -/
theorem normed_apply (x0 : Vec Ideal S512x1024 .f32) (x1 : Vec Ideal S1x1x1024 .f32) (r : Fin 512) (k : Fin 1024) :
    (k0_pay4 x0 x1 : FVec Ideal S512x1024 .bf16) (ix2 r k)
    = (x0 (ix2 r k) : EReal) * scaleOf (fun j => x0 (ix2 r j)) * (x1 (ix3 0 0 k) : EReal) := by
  have hsum : (shapeCast S512x1 (multiReduction .add [1] S512 (mulf x0 x0) 0x00000000#32 reduces_S512x1024_S512 (.inl rfl) rfl : FVec Ideal S512 .f32)
      shapeCasts_S512_S512x1 : FVec Ideal S512x1 .f32) (ix2 r 0) = ∑ j : Fin 1024, (x0 (ix2 r j) : EReal) * (x0 (ix2 r j) : EReal) := by
    refine (shapeCast_apply _ _ (ix2 r 0) (ix1 r) ?_).trans (rowSum (mulf x0 x0) r)
    rw [Shape.rowMajor_val_one, Shape.rowMajor_val_two]
    show r.val = r.val * 1 + 0
    omega
  have hw : (shapeCast S1x1024 x1 shapeCasts_S1x1x1024_S1x1024 : FVec Ideal S1x1024 .f32) (ix2 0 k) = x1 (ix3 0 0 k) := by
    refine shapeCast_apply _ _ _ _ ?_
    rw [Shape.rowMajor_val_two, Shape.rowMajor_val_three]
    show (0 * 1 + 0) * 1024 + k.val = 0 * 1024 + k.val
    omega
  have hb0 (v : FVec Ideal S512x1 .f32) : broadcastTo S512x1024 v broadcasts_S512x1_S512x1024 (ix2 r k) = v (ix2 r 0) :=
    broadcastTo_apply _ _ _ _ (fun a => by match a with | ⟨0, _⟩ => rfl | ⟨1, _⟩ => rfl)
  have hb1 (v : FVec Ideal S1x1024 .f32) : broadcastTo S512x1024 v broadcasts_S1x1024_S512x1024 (ix2 r k) = v (ix2 0 k) :=
    broadcastTo_apply _ _ _ _ (fun a => by match a with | ⟨0, _⟩ => rfl | ⟨1, _⟩ => rfl)
  show (x0 (ix2 r k) : EReal) * broadcastTo S512x1024 _ broadcasts_S512x1_S512x1024 (ix2 r k)
      * broadcastTo S512x1024 _ broadcasts_S1x1024_S512x1024 (ix2 r k) = _
  rw [hb0, hb1, hw]
  refine congrArg (fun z : EReal => (x0 (ix2 r k) : EReal) * z * (x1 (ix3 0 0 k) : EReal)) ?_
  unfold scaleOf
  rw [← hsum]
  rfl

/-- A block's row projected onto a column of the matrix. -/
def blockProj (x0 : Vec Ideal S512x1024 .f32) (x1 : Vec Ideal S1x1x1024 .f32) (x2 : Vec Ideal S1x1024x7168 .bf16)
    (r : Fin 512) (c : Fin 7168) : EReal :=
  rowProj (fun k => x0 (ix2 r k)) (fun k => x1 (ix3 0 0 k)) (fun k => x2 (ix3 0 k c))

/-- The product with 512 columns of the matrix, from column `off`, is the projection onto those columns. -/
theorem piece (x0 : Vec Ideal S512x1024 .f32) (x1 : Vec Ideal S1x1x1024 .f32) (x2 : Vec Ideal S1x1024x7168 .bf16) (off : Nat)
    (inb : ∀ a, (![0, 0, off] : Fin 3 → Nat) a + S1x1024x512.size a ≤ S1x1024x7168.size a) (r c : Fin 512) (C : Fin 7168)
    (hC : C.val = off + c.val) :
    (k0_pay8 (k0_pay4 (View.ld x0 r0_0) (View.ld x1 r0_1)) (View.ld x2 (Rect.unit (s := S1x1024x7168) ![0, 0, off] S1x1024x512.size inb))
      : FVec Ideal S512x512 .f32) (ix2 r c) = blockProj x0 x1 x2 r C := by
  have h2 : (![0, 0] : Fin 2 → Nat) = fun _ => 0 := by funext a; match a with | ⟨0, _⟩ => rfl | ⟨1, _⟩ => rfl
  have h3 : (![0, 0, 0] : Fin 3 → Nat) = fun _ => 0 := by funext a; match a with | ⟨0, _⟩ => rfl | ⟨1, _⟩ => rfl | ⟨2, _⟩ => rfl
  rw [View.ld_unit_zero h2, View.ld_unit_zero h3]
  refine (Ideal.matmul_plain_apply (M := 512) (K := 1024) (N := 512) none _ _ _ r c).trans ?_
  rw [show (constant S512x512 .f32 0x00000000#32 : FVec Ideal S512x512 .f32) (ix2 r c) = (0 : EReal) from zero_f32]
  unfold blockProj rowProj
  refine (zero_add _).trans (Finset.sum_congr rfl fun k _ => ?_)
  refine congrArg₂ (· * ·) (normed_apply x0 x1 r k) ((shapeCast_apply _ _ (ix2 k c) (ix3 0 k c) ?_).trans (congrArg x2 ?_))
  · rw [Shape.rowMajor_val_two, Shape.rowMajor_val_three]
    show (0 * 1024 + k.val) * 512 + c.val = k.val * 512 + c.val
    omega
  · funext a; apply Fin.ext
    match a with
    | ⟨0, _⟩ => rfl
    | ⟨1, _⟩ => show 0 + 1 * k.val = k.val; omega
    | ⟨2, _⟩ => show off + 1 * c.val = C.val; omega

/-- Result 1 of a point: columns 0 to 1535 of the projection. -/
theorem out3_apply (x0 : Vec Ideal S512x1024 .f32) (x1 : Vec Ideal S1x1x1024 .f32) (x2 : Vec Ideal S1x1024x7168 .bf16)
    (y : S512x1536.Idx) : (out0_3 x0 x1 x2 : S512x1536.Idx → EReal) y
      = blockProj x0 x1 x2 (y 0) ⟨0 + (y 1).val, by have h : (y 1).val < 1536 := (y 1).isLt; omega⟩ := by
  refine View.canon_apply_of_pieces (Val := Elt Ideal)
    ((fun y => blockProj x0 x1 x2 (y 0) ⟨0 + (y 1).val, by have h : (y 1).val < 1536 := (y 1).isLt; omega⟩) : Vec Ideal S512x1536 .bf16) _ ?_ y (cover0_3 _ _ _ y)
  intro p hp
  simp only [List.mem_cons, List.not_mem_nil, or_false] at hp
  rcases hp with rfl | rfl | rfl <;> intro z
  · rw [eq_ix2 (z : S512x512.Idx)]
    have hz0 : ((z : S512x512.Idx) 0).val < 512 := ((z : S512x512.Idx) 0).isLt
    have hz1 : ((z : S512x512.Idx) 1).val < 512 := ((z : S512x512.Idx) 1).isLt
    refine (piece x0 x1 x2 1024 _ ((z : S512x512.Idx) 0) ((z : S512x512.Idx) 1) ⟨0 + (1024 + 1 * ((z : S512x512.Idx) 1).val), by omega⟩
      (by show 0 + (1024 + 1 * _) = 1024 + _; omega)).trans ?_
    refine congrArg (fun r => blockProj x0 x1 x2 r _) (Fin.ext ?_)
    show ((z : S512x512.Idx) 0).val = 0 + 1 * ((z : S512x512.Idx) 0).val
    omega
  · rw [eq_ix2 (z : S512x512.Idx)]
    have hz0 : ((z : S512x512.Idx) 0).val < 512 := ((z : S512x512.Idx) 0).isLt
    have hz1 : ((z : S512x512.Idx) 1).val < 512 := ((z : S512x512.Idx) 1).isLt
    refine (piece x0 x1 x2 512 _ ((z : S512x512.Idx) 0) ((z : S512x512.Idx) 1) ⟨0 + (512 + 1 * ((z : S512x512.Idx) 1).val), by omega⟩
      (by show 0 + (512 + 1 * _) = 512 + _; omega)).trans ?_
    refine congrArg (fun r => blockProj x0 x1 x2 r _) (Fin.ext ?_)
    show ((z : S512x512.Idx) 0).val = 0 + 1 * ((z : S512x512.Idx) 0).val
    omega
  · rw [eq_ix2 (z : S512x512.Idx)]
    have hz0 : ((z : S512x512.Idx) 0).val < 512 := ((z : S512x512.Idx) 0).isLt
    have hz1 : ((z : S512x512.Idx) 1).val < 512 := ((z : S512x512.Idx) 1).isLt
    refine (piece x0 x1 x2 0 _ ((z : S512x512.Idx) 0) ((z : S512x512.Idx) 1) ⟨0 + (0 + 1 * ((z : S512x512.Idx) 1).val), by omega⟩
      (by show 0 + (0 + 1 * _) = 0 + _; omega)).trans ?_
    refine congrArg (fun r => blockProj x0 x1 x2 r _) (Fin.ext ?_)
    show ((z : S512x512.Idx) 0).val = 0 + 1 * ((z : S512x512.Idx) 0).val
    omega

/-- Result 3 of a point: columns 2048 to 4095 of the projection. -/
theorem out5_apply (x0 : Vec Ideal S512x1024 .f32) (x1 : Vec Ideal S1x1x1024 .f32) (x2 : Vec Ideal S1x1024x7168 .bf16)
    (y : S512x2048.Idx) : (out0_5 x0 x1 x2 : S512x2048.Idx → EReal) y
      = blockProj x0 x1 x2 (y 0) ⟨2048 + (y 1).val, by have h : (y 1).val < 2048 := (y 1).isLt; omega⟩ := by
  refine View.canon_apply_of_pieces (Val := Elt Ideal)
    ((fun y => blockProj x0 x1 x2 (y 0) ⟨2048 + (y 1).val, by have h : (y 1).val < 2048 := (y 1).isLt; omega⟩) : Vec Ideal S512x2048 .bf16) _ ?_ y (cover0_5 _ _ _ _ y)
  intro p hp
  simp only [List.mem_cons, List.not_mem_nil, or_false] at hp
  rcases hp with rfl | rfl | rfl | rfl <;> intro z
  · rw [eq_ix2 (z : S512x512.Idx)]
    have hz0 : ((z : S512x512.Idx) 0).val < 512 := ((z : S512x512.Idx) 0).isLt
    have hz1 : ((z : S512x512.Idx) 1).val < 512 := ((z : S512x512.Idx) 1).isLt
    refine (piece x0 x1 x2 3584 _ ((z : S512x512.Idx) 0) ((z : S512x512.Idx) 1) ⟨2048 + (1536 + 1 * ((z : S512x512.Idx) 1).val), by omega⟩
      (by show 2048 + (1536 + 1 * _) = 3584 + _; omega)).trans ?_
    refine congrArg (fun r => blockProj x0 x1 x2 r _) (Fin.ext ?_)
    show ((z : S512x512.Idx) 0).val = 0 + 1 * ((z : S512x512.Idx) 0).val
    omega
  · rw [eq_ix2 (z : S512x512.Idx)]
    have hz0 : ((z : S512x512.Idx) 0).val < 512 := ((z : S512x512.Idx) 0).isLt
    have hz1 : ((z : S512x512.Idx) 1).val < 512 := ((z : S512x512.Idx) 1).isLt
    refine (piece x0 x1 x2 3072 _ ((z : S512x512.Idx) 0) ((z : S512x512.Idx) 1) ⟨2048 + (1024 + 1 * ((z : S512x512.Idx) 1).val), by omega⟩
      (by show 2048 + (1024 + 1 * _) = 3072 + _; omega)).trans ?_
    refine congrArg (fun r => blockProj x0 x1 x2 r _) (Fin.ext ?_)
    show ((z : S512x512.Idx) 0).val = 0 + 1 * ((z : S512x512.Idx) 0).val
    omega
  · rw [eq_ix2 (z : S512x512.Idx)]
    have hz0 : ((z : S512x512.Idx) 0).val < 512 := ((z : S512x512.Idx) 0).isLt
    have hz1 : ((z : S512x512.Idx) 1).val < 512 := ((z : S512x512.Idx) 1).isLt
    refine (piece x0 x1 x2 2560 _ ((z : S512x512.Idx) 0) ((z : S512x512.Idx) 1) ⟨2048 + (512 + 1 * ((z : S512x512.Idx) 1).val), by omega⟩
      (by show 2048 + (512 + 1 * _) = 2560 + _; omega)).trans ?_
    refine congrArg (fun r => blockProj x0 x1 x2 r _) (Fin.ext ?_)
    show ((z : S512x512.Idx) 0).val = 0 + 1 * ((z : S512x512.Idx) 0).val
    omega
  · rw [eq_ix2 (z : S512x512.Idx)]
    have hz0 : ((z : S512x512.Idx) 0).val < 512 := ((z : S512x512.Idx) 0).isLt
    have hz1 : ((z : S512x512.Idx) 1).val < 512 := ((z : S512x512.Idx) 1).isLt
    refine (piece x0 x1 x2 2048 _ ((z : S512x512.Idx) 0) ((z : S512x512.Idx) 1) ⟨2048 + (0 + 1 * ((z : S512x512.Idx) 1).val), by omega⟩
      (by show 2048 + (0 + 1 * _) = 2048 + _; omega)).trans ?_
    refine congrArg (fun r => blockProj x0 x1 x2 r _) (Fin.ext ?_)
    show ((z : S512x512.Idx) 0).val = 0 + 1 * ((z : S512x512.Idx) 0).val
    omega

/-- Result 4 of a point: columns 4096 to 7167 of the projection. -/
theorem out6_apply (x0 : Vec Ideal S512x1024 .f32) (x1 : Vec Ideal S1x1x1024 .f32) (x2 : Vec Ideal S1x1024x7168 .bf16)
    (y : S512x3072.Idx) : (out0_6 x0 x1 x2 : S512x3072.Idx → EReal) y
      = blockProj x0 x1 x2 (y 0) ⟨4096 + (y 1).val, by have h : (y 1).val < 3072 := (y 1).isLt; omega⟩ := by
  refine View.canon_apply_of_pieces (Val := Elt Ideal)
    ((fun y => blockProj x0 x1 x2 (y 0) ⟨4096 + (y 1).val, by have h : (y 1).val < 3072 := (y 1).isLt; omega⟩) : Vec Ideal S512x3072 .bf16) _ ?_ y (cover0_6 _ _ _ _ _ _ y)
  intro p hp
  simp only [List.mem_cons, List.not_mem_nil, or_false] at hp
  rcases hp with rfl | rfl | rfl | rfl | rfl | rfl <;> intro z
  · rw [eq_ix2 (z : S512x512.Idx)]
    have hz0 : ((z : S512x512.Idx) 0).val < 512 := ((z : S512x512.Idx) 0).isLt
    have hz1 : ((z : S512x512.Idx) 1).val < 512 := ((z : S512x512.Idx) 1).isLt
    refine (piece x0 x1 x2 6656 _ ((z : S512x512.Idx) 0) ((z : S512x512.Idx) 1) ⟨4096 + (2560 + 1 * ((z : S512x512.Idx) 1).val), by omega⟩
      (by show 4096 + (2560 + 1 * _) = 6656 + _; omega)).trans ?_
    refine congrArg (fun r => blockProj x0 x1 x2 r _) (Fin.ext ?_)
    show ((z : S512x512.Idx) 0).val = 0 + 1 * ((z : S512x512.Idx) 0).val
    omega
  · rw [eq_ix2 (z : S512x512.Idx)]
    have hz0 : ((z : S512x512.Idx) 0).val < 512 := ((z : S512x512.Idx) 0).isLt
    have hz1 : ((z : S512x512.Idx) 1).val < 512 := ((z : S512x512.Idx) 1).isLt
    refine (piece x0 x1 x2 6144 _ ((z : S512x512.Idx) 0) ((z : S512x512.Idx) 1) ⟨4096 + (2048 + 1 * ((z : S512x512.Idx) 1).val), by omega⟩
      (by show 4096 + (2048 + 1 * _) = 6144 + _; omega)).trans ?_
    refine congrArg (fun r => blockProj x0 x1 x2 r _) (Fin.ext ?_)
    show ((z : S512x512.Idx) 0).val = 0 + 1 * ((z : S512x512.Idx) 0).val
    omega
  · rw [eq_ix2 (z : S512x512.Idx)]
    have hz0 : ((z : S512x512.Idx) 0).val < 512 := ((z : S512x512.Idx) 0).isLt
    have hz1 : ((z : S512x512.Idx) 1).val < 512 := ((z : S512x512.Idx) 1).isLt
    refine (piece x0 x1 x2 5632 _ ((z : S512x512.Idx) 0) ((z : S512x512.Idx) 1) ⟨4096 + (1536 + 1 * ((z : S512x512.Idx) 1).val), by omega⟩
      (by show 4096 + (1536 + 1 * _) = 5632 + _; omega)).trans ?_
    refine congrArg (fun r => blockProj x0 x1 x2 r _) (Fin.ext ?_)
    show ((z : S512x512.Idx) 0).val = 0 + 1 * ((z : S512x512.Idx) 0).val
    omega
  · rw [eq_ix2 (z : S512x512.Idx)]
    have hz0 : ((z : S512x512.Idx) 0).val < 512 := ((z : S512x512.Idx) 0).isLt
    have hz1 : ((z : S512x512.Idx) 1).val < 512 := ((z : S512x512.Idx) 1).isLt
    refine (piece x0 x1 x2 5120 _ ((z : S512x512.Idx) 0) ((z : S512x512.Idx) 1) ⟨4096 + (1024 + 1 * ((z : S512x512.Idx) 1).val), by omega⟩
      (by show 4096 + (1024 + 1 * _) = 5120 + _; omega)).trans ?_
    refine congrArg (fun r => blockProj x0 x1 x2 r _) (Fin.ext ?_)
    show ((z : S512x512.Idx) 0).val = 0 + 1 * ((z : S512x512.Idx) 0).val
    omega
  · rw [eq_ix2 (z : S512x512.Idx)]
    have hz0 : ((z : S512x512.Idx) 0).val < 512 := ((z : S512x512.Idx) 0).isLt
    have hz1 : ((z : S512x512.Idx) 1).val < 512 := ((z : S512x512.Idx) 1).isLt
    refine (piece x0 x1 x2 4608 _ ((z : S512x512.Idx) 0) ((z : S512x512.Idx) 1) ⟨4096 + (512 + 1 * ((z : S512x512.Idx) 1).val), by omega⟩
      (by show 4096 + (512 + 1 * _) = 4608 + _; omega)).trans ?_
    refine congrArg (fun r => blockProj x0 x1 x2 r _) (Fin.ext ?_)
    show ((z : S512x512.Idx) 0).val = 0 + 1 * ((z : S512x512.Idx) 0).val
    omega
  · rw [eq_ix2 (z : S512x512.Idx)]
    have hz0 : ((z : S512x512.Idx) 0).val < 512 := ((z : S512x512.Idx) 0).isLt
    have hz1 : ((z : S512x512.Idx) 1).val < 512 := ((z : S512x512.Idx) 1).isLt
    refine (piece x0 x1 x2 4096 _ ((z : S512x512.Idx) 0) ((z : S512x512.Idx) 1) ⟨4096 + (0 + 1 * ((z : S512x512.Idx) 1).val), by omega⟩
      (by show 4096 + (0 + 1 * _) = 4096 + _; omega)).trans ?_
    refine congrArg (fun r => blockProj x0 x1 x2 r _) (Fin.ext ?_)
    show ((z : S512x512.Idx) 0).val = 0 + 1 * ((z : S512x512.Idx) 0).val
    omega

/-- Result 2 of a point: columns 1536 to 2047 of the projection, 128 to a slab. -/
theorem out4_apply (x0 : Vec Ideal S512x1024 .f32) (x1 : Vec Ideal S1x1x1024 .f32) (x2 : Vec Ideal S1x1024x7168 .bf16)
    (y : S4x512x128.Idx) : (out0_4 x0 x1 x2 : S4x512x128.Idx → EReal) y
      = blockProj x0 x1 x2 (y 1) ⟨1536 + ((y 0).val * 128 + (y 2).val), by
          have h : (y 0).val < 4 := (y 0).isLt; have h' : (y 2).val < 128 := (y 2).isLt; omega⟩ := by
  have hy : (y 0).val < 4 := (y 0).isLt
  have hy' : (y 2).val < 128 := (y 2).isLt
  refine (Cert.Kernel2Ideal.Value.canon4_eq (View.ld x0 r0_0) (View.ld x1 r0_1) (View.ld x2 r0_8) y).trans ?_
  show (k0_pay8 (k0_pay4 (View.ld x0 r0_0) (View.ld x1 r0_1)) (View.ld x2 r0_8) : FVec Ideal S512x512 .f32) (Cert.Kernel2Ideal.Value.ix4_0 y) = _
  have e : Cert.Kernel2Ideal.Value.ix4_0 y = ix2 (y 1 : Fin 512) (⟨(y 0).val * 128 + (y 2).val, by omega⟩ : Fin 512) := by
    funext a; match a with | ⟨0, _⟩ => rfl | ⟨1, _⟩ => rfl
  rw [e]
  exact piece x0 x1 x2 1536 _ _ _ _ rfl

end Cert.Kernel2Ideal.Inproj
-- ==== Proof.InprojValue.lean ====
/-
  What the input projection leaves in its four result arrays, over the extended reals: the columns of one product, of
  the normalised rows with the layer's matrix.
-/
module

public import proofs.«01_k».proof.Proof.InprojBlock
public import Idealize.ShloMosaic.Lib.StableHlo.Run

@[expose] public section

set_option maxRecDepth 16384

noncomputable section

namespace Cert.Kernel2Ideal.Inproj

open Cert.Kernel2Ideal Cert.Kernel2Ideal.Gen
open Idealize.ShloMosaic Idealize.ShloMosaic.TcCoe Idealize.ShloMosaic.ValueIdx
open Idealize.ShloMosaic.Pipeline (Dat Window)
open Idealize.SL.Sem
open scoped BigOperators

/-! ## The mathematics -/

/-- Row `r`, normalised and scaled by the first layer's weights, times column `c` of the first layer's matrix. -/
def proj (x : S32768x1024.Idx → EReal) (g : S2x1024.Idx → EReal) (w : S2x1024x7168.Idx → EReal) (r : Fin 32768) (c : Fin 7168) : EReal :=
  rowProj (fun k => x (ix2 r k)) (fun k => g (ix2 0 k)) (fun k => w (ix3 0 k c))

/-- The columns of the attention's queries, keys and values. -/
def qkv (x : S32768x1024.Idx → EReal) (g : S2x1024.Idx → EReal) (w : S2x1024x7168.Idx → EReal) : S32768x1536.Idx → EReal :=
  fun y => proj x g w (y 0) ⟨0 + (y 1).val, by have h : (y 1).val < 1536 := (y 1).isLt; omega⟩

/-- The columns of the state-space input, by slab. -/
def slabs (x : S32768x1024.Idx → EReal) (g : S2x1024.Idx → EReal) (w : S2x1024x7168.Idx → EReal) : S4x32768x128.Idx → EReal :=
  fun y => proj x g w (y 1) ⟨1536 + ((y 0).val * 128 + (y 2).val), by
    have h : (y 0).val < 4 := (y 0).isLt; have h' : (y 2).val < 128 := (y 2).isLt; omega⟩

/-- The columns of the retention's inputs. -/
def rets (x : S32768x1024.Idx → EReal) (g : S2x1024.Idx → EReal) (w : S2x1024x7168.Idx → EReal) : S32768x2048.Idx → EReal :=
  fun y => proj x g w (y 0) ⟨2048 + (y 1).val, by have h : (y 1).val < 2048 := (y 1).isLt; omega⟩

/-- The columns of the gates. -/
def gates (x : S32768x1024.Idx → EReal) (g : S2x1024.Idx → EReal) (w : S2x1024x7168.Idx → EReal) : S32768x3072.Idx → EReal :=
  fun y => proj x g w (y 0) ⟨4096 + (y 1).val, by have h : (y 1).val < 3072 := (y 1).isLt; omega⟩

/-! ## The kernel -/

variable (m : (ℓ : Loc nD τ sig) → Buf (Elt Ideal) ℓ) (ρ : Dev nD → PrngReg)

/-- The weights as the region finds them: the argument with a unit axis put in. -/
theorem V_weights (c : Dev nD) : V m c main_v0 = shapeCast S2x1x1024 (m ((c : Thread nD τ).loc main_arg1)) shapeCasts_S2x1024_S2x1x1024 := by
  show StableHlo.after hostOps0 _ (Proc.devRef .tc main_v0) = _
  after_results
  rfl

/-- The matrix as the region finds it: the argument, narrowed. -/
theorem V_matrix (c : Dev nD) : (V m c main_v1 : S2x1024x7168.Idx → EReal) = (m ((c : Thread nD τ).loc main_arg2) : S2x1024x7168.Idx → EReal) := by
  show StableHlo.after hostOps0 _ (Proc.devRef .tc main_v1) = _
  after_results
  rfl

/-- A point's only coordinate is its number. -/
theorem crd_val (t : Fin cfg0.N) : ((grid0.coords t) 0).val = t.val := by
  have h : ((grid0.coords t) 0).val = t.val / 1 % 64 := Pipeline.Grid.coords_val (G := grid0) t 0 rfl rfl
  have ht : t.val < 64 := t.isLt
  omega

/-- As a word too. -/
theorem crd_word (t : Fin cfg0.N) : (BitVec.ofNat 32 ((grid0.coords t) 0).val).toNat = t.val := by
  have ht : t.val < 64 := t.isLt
  rw [crd_val, BitVec.toNat_ofNat]
  omega

/-- The rows' block at a point. -/
theorem iblk0_apply (c : Dev nD) (t : Fin cfg0.N) (r : Fin 512) (k : Fin 1024) (R : Fin 32768) (hR : R.val = t.val * 512 + r.val) :
    (iblk m c 0 t : S512x1024.Idx → EReal) (ix2 r k) = m ((c : Thread nD τ).loc main_arg0) (ix2 R k) := by
  unfold iblk
  rw [View.read_apply, show V m c (Pipeline.arrRef spec0 0) = m ((c : Thread nD τ).loc main_arg0) from V_main_arg0 m c]
  show m ((c : Thread nD τ).loc main_arg0) _ = _
  congr 1
  funext b
  apply Fin.ext
  match b with
  | ⟨0, _⟩ => show (BitVec.ofNat 32 ((grid0.coords t) 0).val).toNat * 512 + 1 * r.val = R.val; rw [crd_word]; omega
  | ⟨1, _⟩ => show 0 * 1024 + 1 * k.val = k.val; omega

/-- The weights' block at a point. -/
theorem iblk1_apply (c : Dev nD) (t : Fin cfg0.N) (k : Fin 1024) :
    (iblk m c 1 t : S1x1x1024.Idx → EReal) (ix3 0 0 k) = m ((c : Thread nD τ).loc main_arg1) (ix2 0 k) := by
  unfold iblk
  rw [View.read_apply, show V m c (Pipeline.arrRef spec0 1) = _ from V_weights m c]
  refine shapeCast_apply (s := S2x1024) (t := S2x1x1024) _ _ _ (ix2 0 k) ?_
  rw [Shape.rowMajor_val_two, Shape.rowMajor_val_three]
  show 0 * 1024 + k.val = ((0 * 1 + 1 * 0) * 1 + (0 * 1 + 1 * 0)) * 1024 + (0 * 1024 + 1 * k.val)
  omega

/-- The matrix's block at a point. -/
theorem iblk2_apply (c : Dev nD) (t : Fin cfg0.N) (k : Fin 1024) (C : Fin 7168) :
    (iblk m c 2 t : S1x1024x7168.Idx → EReal) (ix3 0 k C) = m ((c : Thread nD τ).loc main_arg2) (ix3 0 k C) := by
  unfold iblk
  rw [View.read_apply]
  show (V m c main_v1 : S2x1024x7168.Idx → EReal) _ = _
  rw [V_matrix]
  congr 1
  funext b
  apply Fin.ext
  match b with
  | ⟨0, _⟩ => show 0 * 1 + 1 * 0 = 0; omega
  | ⟨1, _⟩ => show 0 * 1024 + 1 * k.val = k.val; omega
  | ⟨2, _⟩ => show 0 * 7168 + 1 * C.val = C.val; omega

/-- The arguments, as arrays of extended reals. -/
abbrev argX (c : Dev nD) : S32768x1024.Idx → EReal := m ((c : Thread nD τ).loc main_arg0)
abbrev argG (c : Dev nD) : S2x1024.Idx → EReal := m ((c : Thread nD τ).loc main_arg1)
abbrev argW (c : Dev nD) : S2x1024x7168.Idx → EReal := m ((c : Thread nD τ).loc main_arg2)

/-- A point's block of the projection is the projection at the point's rows. -/
theorem blockProj_eq (c : Dev nD) (t : Fin cfg0.N) (r : Fin 512) (C : Fin 7168) (R : Fin 32768) (hR : R.val = t.val * 512 + r.val) :
    blockProj (iblk m c 0 t) (iblk m c 1 t) (iblk m c 2 t) r C = proj (argX m c) (argG m c) (argW m c) R C := by
  unfold blockProj proj
  refine congr (congrArg₂ rowProj (funext fun k => iblk0_apply m c t r k R hR) (funext fun k => iblk1_apply m c t k)) (funext fun k => iblk2_apply m c t k C)

/-- The row of result 1 that a row of a point's block is. -/
theorem emb3 (t : Fin cfg0.N) (r : Fin 512) (d : Fin 1536) (R : Fin 32768) (hR : R.val = t.val * 512 + r.val) :
    ((cfg0.win 3).blk t).view.emb (ix2 r d : S512x1536.Idx) = (ix2 R d : S32768x1536.Idx) := by
  funext b
  apply Fin.ext
  match b with
  | ⟨0, _⟩ => show (BitVec.ofNat 32 ((grid0.coords t) 0).val).toNat * 512 + 1 * r.val = R.val; rw [crd_word]; omega
  | ⟨1, _⟩ => show 0 * 1536 + 1 * d.val = d.val; omega

/-- Result 1 after the run. -/
theorem array3_eq (c : Dev nD) : (dats m 0 c).arrAt 3 cfg0.N = qkv (argX m c) (argG m c) (argW m c) := by
  refine funext fun i => (dats m 0 c).arrAt_forall_of_cover 3 (fun i v => v = qkv (argX m c) (argG m c) (argW m c) i) ?_ ?_ i
  · intro t _ y
    have hlt : t.val < 64 := t.isLt
    have hr : ((y : S512x1536.Idx) 0).val < 512 := ((y : S512x1536.Idx) 0).isLt
    have e := (congrArg ((cfg0.win 3).blk t).view.emb (eq_ix2 (y : S512x1536.Idx))).trans
      (emb3 t ((y : S512x1536.Idx) 0) ((y : S512x1536.Idx) 1) ⟨t.val * 512 + ((y : S512x1536.Idx) 0).val, by omega⟩ rfl)
    refine Eq.trans ?_ (congrArg (qkv (argX m c) (argG m c) (argW m c)) e).symm
    refine (congrFun (Cert.Kernel2Ideal.Value.flushed3 m c t) y).trans ?_
    refine (out3_apply (iblk m c 0 t) (iblk m c 1 t) (iblk m c 2 t) (y : S512x1536.Idx)).trans ?_
    exact blockProj_eq m c t _ _ _ rfl
  · intro i
    have hi : ((i : S32768x1536.Idx) 0).val < 32768 := ((i : S32768x1536.Idx) 0).isLt
    obtain ⟨t, ht⟩ : ∃ t : Fin cfg0.N, t.val = ((i : S32768x1536.Idx) 0).val / 512 := ⟨(⟨_, by show _ < 64; omega⟩ : Fin 64), rfl⟩
    have e := emb3 t ⟨((i : S32768x1536.Idx) 0).val % 512, Nat.mod_lt _ (by decide)⟩ ((i : S32768x1536.Idx) 1) ((i : S32768x1536.Idx) 0)
      (by show ((i : S32768x1536.Idx) 0).val = t.val * 512 + ((i : S32768x1536.Idx) 0).val % 512; omega)
    exact ⟨t, flush0_3 t, (e.trans (eq_ix2 (i : S32768x1536.Idx)).symm) ▸ View.emb_mem_set _ _⟩

/-- The row of result 3 that a row of a point's block is. -/
theorem emb5 (t : Fin cfg0.N) (r : Fin 512) (d : Fin 2048) (R : Fin 32768) (hR : R.val = t.val * 512 + r.val) :
    ((cfg0.win 5).blk t).view.emb (ix2 r d : S512x2048.Idx) = (ix2 R d : S32768x2048.Idx) := by
  funext b
  apply Fin.ext
  match b with
  | ⟨0, _⟩ => show (BitVec.ofNat 32 ((grid0.coords t) 0).val).toNat * 512 + 1 * r.val = R.val; rw [crd_word]; omega
  | ⟨1, _⟩ => show 0 * 2048 + 1 * d.val = d.val; omega

/-- Result 3 after the run. -/
theorem array5_eq (c : Dev nD) : (dats m 0 c).arrAt 5 cfg0.N = rets (argX m c) (argG m c) (argW m c) := by
  refine funext fun i => (dats m 0 c).arrAt_forall_of_cover 5 (fun i v => v = rets (argX m c) (argG m c) (argW m c) i) ?_ ?_ i
  · intro t _ y
    have hlt : t.val < 64 := t.isLt
    have hr : ((y : S512x2048.Idx) 0).val < 512 := ((y : S512x2048.Idx) 0).isLt
    have e := (congrArg ((cfg0.win 5).blk t).view.emb (eq_ix2 (y : S512x2048.Idx))).trans
      (emb5 t ((y : S512x2048.Idx) 0) ((y : S512x2048.Idx) 1) ⟨t.val * 512 + ((y : S512x2048.Idx) 0).val, by omega⟩ rfl)
    refine Eq.trans ?_ (congrArg (rets (argX m c) (argG m c) (argW m c)) e).symm
    refine (congrFun (Cert.Kernel2Ideal.Value.flushed5 m c t) y).trans ?_
    refine (out5_apply (iblk m c 0 t) (iblk m c 1 t) (iblk m c 2 t) (y : S512x2048.Idx)).trans ?_
    exact blockProj_eq m c t _ _ _ rfl
  · intro i
    have hi : ((i : S32768x2048.Idx) 0).val < 32768 := ((i : S32768x2048.Idx) 0).isLt
    obtain ⟨t, ht⟩ : ∃ t : Fin cfg0.N, t.val = ((i : S32768x2048.Idx) 0).val / 512 := ⟨(⟨_, by show _ < 64; omega⟩ : Fin 64), rfl⟩
    have e := emb5 t ⟨((i : S32768x2048.Idx) 0).val % 512, Nat.mod_lt _ (by decide)⟩ ((i : S32768x2048.Idx) 1) ((i : S32768x2048.Idx) 0)
      (by show ((i : S32768x2048.Idx) 0).val = t.val * 512 + ((i : S32768x2048.Idx) 0).val % 512; omega)
    exact ⟨t, flush0_5 t, (e.trans (eq_ix2 (i : S32768x2048.Idx)).symm) ▸ View.emb_mem_set _ _⟩

/-- The row of result 4 that a row of a point's block is. -/
theorem emb6 (t : Fin cfg0.N) (r : Fin 512) (d : Fin 3072) (R : Fin 32768) (hR : R.val = t.val * 512 + r.val) :
    ((cfg0.win 6).blk t).view.emb (ix2 r d : S512x3072.Idx) = (ix2 R d : S32768x3072.Idx) := by
  funext b
  apply Fin.ext
  match b with
  | ⟨0, _⟩ => show (BitVec.ofNat 32 ((grid0.coords t) 0).val).toNat * 512 + 1 * r.val = R.val; rw [crd_word]; omega
  | ⟨1, _⟩ => show 0 * 3072 + 1 * d.val = d.val; omega

/-- Result 4 after the run. -/
theorem array6_eq (c : Dev nD) : (dats m 0 c).arrAt 6 cfg0.N = gates (argX m c) (argG m c) (argW m c) := by
  refine funext fun i => (dats m 0 c).arrAt_forall_of_cover 6 (fun i v => v = gates (argX m c) (argG m c) (argW m c) i) ?_ ?_ i
  · intro t _ y
    have hlt : t.val < 64 := t.isLt
    have hr : ((y : S512x3072.Idx) 0).val < 512 := ((y : S512x3072.Idx) 0).isLt
    have e := (congrArg ((cfg0.win 6).blk t).view.emb (eq_ix2 (y : S512x3072.Idx))).trans
      (emb6 t ((y : S512x3072.Idx) 0) ((y : S512x3072.Idx) 1) ⟨t.val * 512 + ((y : S512x3072.Idx) 0).val, by omega⟩ rfl)
    refine Eq.trans ?_ (congrArg (gates (argX m c) (argG m c) (argW m c)) e).symm
    refine (congrFun (Cert.Kernel2Ideal.Value.flushed6 m c t) y).trans ?_
    refine (out6_apply (iblk m c 0 t) (iblk m c 1 t) (iblk m c 2 t) (y : S512x3072.Idx)).trans ?_
    exact blockProj_eq m c t _ _ _ rfl
  · intro i
    have hi : ((i : S32768x3072.Idx) 0).val < 32768 := ((i : S32768x3072.Idx) 0).isLt
    obtain ⟨t, ht⟩ : ∃ t : Fin cfg0.N, t.val = ((i : S32768x3072.Idx) 0).val / 512 := ⟨(⟨_, by show _ < 64; omega⟩ : Fin 64), rfl⟩
    have e := emb6 t ⟨((i : S32768x3072.Idx) 0).val % 512, Nat.mod_lt _ (by decide)⟩ ((i : S32768x3072.Idx) 1) ((i : S32768x3072.Idx) 0)
      (by show ((i : S32768x3072.Idx) 0).val = t.val * 512 + ((i : S32768x3072.Idx) 0).val % 512; omega)
    exact ⟨t, flush0_6 t, (e.trans (eq_ix2 (i : S32768x3072.Idx)).symm) ▸ View.emb_mem_set _ _⟩

/-- The entry of result 2 that an entry of a point's block is. -/
theorem emb4 (t : Fin cfg0.N) (s : Fin 4) (r : Fin 512) (d : Fin 128) (R : Fin 32768) (hR : R.val = t.val * 512 + r.val) :
    ((cfg0.win 4).blk t).view.emb (ix3 s r d : S4x512x128.Idx) = (ix3 s R d : S4x32768x128.Idx) := by
  funext b
  apply Fin.ext
  match b with
  | ⟨0, _⟩ => show 0 * 4 + 1 * s.val = s.val; omega
  | ⟨1, _⟩ => show (BitVec.ofNat 32 ((grid0.coords t) 0).val).toNat * 512 + 1 * r.val = R.val; rw [crd_word]; omega
  | ⟨2, _⟩ => show 0 * 128 + 1 * d.val = d.val; omega

/-- Result 2 after the run. -/
theorem array4_eq (c : Dev nD) : (dats m 0 c).arrAt 4 cfg0.N = slabs (argX m c) (argG m c) (argW m c) := by
  refine funext fun i => (dats m 0 c).arrAt_forall_of_cover 4 (fun i v => v = slabs (argX m c) (argG m c) (argW m c) i) ?_ ?_ i
  · intro t _ y
    have hlt : t.val < 64 := t.isLt
    have hr : ((y : S4x512x128.Idx) 1).val < 512 := ((y : S4x512x128.Idx) 1).isLt
    have e := (congrArg ((cfg0.win 4).blk t).view.emb (eq_ix3 (y : S4x512x128.Idx))).trans
      (emb4 t ((y : S4x512x128.Idx) 0) ((y : S4x512x128.Idx) 1) ((y : S4x512x128.Idx) 2) ⟨t.val * 512 + ((y : S4x512x128.Idx) 1).val, by omega⟩ rfl)
    refine Eq.trans ?_ (congrArg (slabs (argX m c) (argG m c) (argW m c)) e).symm
    refine (congrFun (Cert.Kernel2Ideal.Value.flushed4 m c t) y).trans ?_
    refine (out4_apply (iblk m c 0 t) (iblk m c 1 t) (iblk m c 2 t) (y : S4x512x128.Idx)).trans ?_
    exact blockProj_eq m c t _ _ _ rfl
  · intro i
    have hi : ((i : S4x32768x128.Idx) 1).val < 32768 := ((i : S4x32768x128.Idx) 1).isLt
    obtain ⟨t, ht⟩ : ∃ t : Fin cfg0.N, t.val = ((i : S4x32768x128.Idx) 1).val / 512 := ⟨(⟨_, by show _ < 64; omega⟩ : Fin 64), rfl⟩
    have e := emb4 t ((i : S4x32768x128.Idx) 0) ⟨((i : S4x32768x128.Idx) 1).val % 512, Nat.mod_lt _ (by decide)⟩ ((i : S4x32768x128.Idx) 2)
      ((i : S4x32768x128.Idx) 1) (by show ((i : S4x32768x128.Idx) 1).val = t.val * 512 + ((i : S4x32768x128.Idx) 1).val % 512; omega)
    exact ⟨t, flush0_4 t, (e.trans (eq_ix3 (i : S4x32768x128.Idx)).symm) ▸ View.emb_mem_set _ _⟩

end Cert.Kernel2Ideal.Inproj
-- ==== Proof.InprojReference.lean ====
/-
  What the input projection's reference computes, over the extended reals: the columns of the product of the normalised
  rows with the first layer's matrix.
-/
module

public import proofs.«01_k».proof.Proof.InprojValue
public import proofs.«01_k».proof.Proof.Gen.Reference2Ideal.Read

@[expose] public section

set_option maxRecDepth 16384

noncomputable section

namespace Cert.Reference2Ideal.Inproj

open Cert.Reference2Ideal Cert.Reference2Ideal.Read
open Cert.Kernel2Ideal.Inproj (zero_f32 scaleOf rowProj proj qkv slabs rets gates)
open Idealize.ShloMosaic Idealize.ShloMosaic.TcCoe Idealize.ShloMosaic.ValueIdx
open scoped BigOperators

variable (x : S32768x1024.Idx → EReal) (g : S2x1024.Idx → EReal) (w : S2x1024x7168.Idx → EReal)

/-- The factor that the reference normalises a row by. -/
theorem scale_apply (r : Fin 32768) : val_main_v7 (F := Ideal) x (ix2 r (0 : Fin 1)) = scaleOf (fun k => x (ix2 r k)) := by
  have hs : val_main_v2 (F := Ideal) x (ix2 r (0 : Fin 1)) = ∑ k : Fin 1024, x (ix2 r k) * x (ix2 r k) := by
    rw [val_main_v2_apply, val_main_v1_apply, val_main_cst_apply]
    refine (congrArg (· + _) zero_f32).trans ((zero_add _).trans ?_)
    refine Finset.sum_congr rfl fun k _ => ?_
    rw [val_main_v0_apply]
    have e : idx_main_v1 (idx_main_v2 (ix2 r (0 : Fin 1))) k = ix2 r k := by
      funext a; match a with | ⟨0, _⟩ => rfl | ⟨1, _⟩ => rfl
    rw [e]
    rfl
  rw [val_main_v7_apply, val_main_v6_apply, val_main_v4_apply, val_main_v3_apply, val_main_v5_apply, val_main_cst_0_apply,
    val_main_cst_1_apply, hs]
  rfl

/-- A normalised, scaled entry of the reference. -/
theorem normed_apply (r : Fin 32768) (k : Fin 1024) :
    val_main_v14 (F := Ideal) x g (ix2 r k) = x (ix2 r k) * scaleOf (fun k => x (ix2 r k)) * g (ix2 0 k) := by
  have e8 : idx_main_v8 (ix2 r k) = ix2 r (0 : Fin 1) := by
    funext a; match a with | ⟨0, _⟩ => rfl | ⟨1, _⟩ => rfl
  have eg : idx_main_v10 (idx_main_v11 (idx_main_v12 (idx_main_v13 (ix2 r k)))) = ix2 (0 : Fin 2) k := by
    have hk := k.isLt
    funext a; apply Fin.ext
    match a with
    | ⟨0, _⟩ => rfl
    | ⟨1, _⟩ => first | rfl | (show k.val % 1024 = k.val; omega)
  rw [val_main_v14_apply, val_main_v9_apply, val_main_v8_apply, val_main_v13_apply, val_main_v12_apply, val_main_v11_apply,
    val_main_v10_apply, e8, eg, scale_apply]
  rfl

/-- An entry of the reference's product. -/
theorem product_apply (r : Fin 32768) (c : Fin 7168) : val_main_v17 (F := Ideal) x g w (ix2 r c) = proj x g w r c := by
  rw [val_main_v17_apply]
  show _ = ∑ k : Fin 1024, x (ix2 r k) * scaleOf (fun k => x (ix2 r k)) * g (ix2 0 k) * w (ix3 0 k c)
  refine Finset.sum_congr rfl fun k _ => ?_
  have el : lidx_main_v17 (ix2 r c) k = ix2 r k := by
    funext a; match a with | ⟨0, _⟩ => rfl | ⟨1, _⟩ => rfl
  have er : idx_main_v15 (idx_main_v16 (ridx_main_v17 (ix2 r c) k)) = ix3 (0 : Fin 2) k c := by
    have hk := k.isLt; have hc := c.isLt
    funext a; apply Fin.ext
    match a with
    | ⟨0, _⟩ => rfl
    | ⟨1, _⟩ => show (k.val * 7168 + c.val) / 7168 % 1024 = k.val; omega
    | ⟨2, _⟩ => show (k.val * 7168 + c.val) % 7168 = c.val; omega
  rw [el, normed_apply, val_main_v16_apply, val_main_v15_apply, er]

/-- The reference's queries, keys and values. -/
theorem qkv_eq : val_main_v24 (F := Ideal) x g w = qkv x g w := by
  funext y
  show val_main_v18 (F := Ideal) x g w y = _
  rw [val_main_v18_apply]
  refine Eq.trans (congrArg _ ?_) (product_apply x g w (y 0) ⟨0 + (y 1).val, _⟩)
  funext a; apply Fin.ext
  match a with | ⟨0, _⟩ => rfl | ⟨1, _⟩ => show _ = 0 + (y 1).val; first | rfl | (show (y 1).val = _; omega)

/-- The reference's state-space input. -/
theorem slabs_eq : val_main_v23 (F := Ideal) x g w = slabs x g w := by
  funext y
  have h0 : (y 0).val < 4 := (y 0).isLt
  have h1 : (y 1).val < 32768 := (y 1).isLt
  have h2 : (y 2).val < 128 := (y 2).isLt
  rw [val_main_v23_apply, val_main_v22_apply, val_main_v19_apply]
  refine Eq.trans (congrArg _ ?_) (product_apply x g w (y 1) ⟨1536 + ((y 0).val * 128 + (y 2).val), _⟩)
  funext a; apply Fin.ext
  match a with
  | ⟨0, _⟩ => show (((y 1).val * 4 + (y 0).val) * 128 + (y 2).val) / 512 = (y 1).val; omega
  | ⟨1, _⟩ => show 1536 + (((y 1).val * 4 + (y 0).val) * 128 + (y 2).val) % 512 = 1536 + ((y 0).val * 128 + (y 2).val); omega

/-- The reference's retention inputs. -/
theorem rets_eq : val_main_v25 (F := Ideal) x g w = rets x g w := by
  funext y
  show val_main_v20 (F := Ideal) x g w y = _
  rw [val_main_v20_apply]
  refine Eq.trans (congrArg _ ?_) (product_apply x g w (y 0) ⟨2048 + (y 1).val, _⟩)
  funext a; apply Fin.ext
  match a with | ⟨0, _⟩ => rfl | ⟨1, _⟩ => rfl

/-- The reference's gates. -/
theorem gates_eq : val_main_v26 (F := Ideal) x g w = gates x g w := by
  funext y
  show val_main_v21 (F := Ideal) x g w y = _
  rw [val_main_v21_apply]
  refine Eq.trans (congrArg _ ?_) (product_apply x g w (y 0) ⟨4096 + (y 1).val, _⟩)
  funext a; apply Fin.ext
  match a with | ⟨0, _⟩ => rfl | ⟨1, _⟩ => rfl

end Cert.Reference2Ideal.Inproj
-- ==== Proof.InprojClaim.lean ====
/-
  The input projection's claims: the frames, and the equation. From memories that agree on the three arguments, the
  kernel's four result arrays and the reference's end equal.
-/
module

public import proofs.«01_k».proof.Proof.InprojReference
public import proofs.«01_k».proof.Proof.Gen.Kernel2.Frame
public import proofs.«01_k».proof.Proof.Gen.Reference2Ideal.Run
public import proofs.«01_k».proof.Proof.Gen.Reference2Ideal
public import proofs.«01_k».proof.Defs

@[expose] public section

set_option maxRecDepth 16384

noncomputable section

namespace Cert.Kernel2Ideal.Inproj

open Idealize.ShloMosaic Idealize.ShloMosaic.TcCoe
open Idealize.SL.Sem

/-- Every execution of the projection ends, with its arguments unchanged and every counter at zero. -/
theorem frame_kernel : Cert.quiescent_Kernel2 := fun m ρ _ => Cert.Kernel2.Gen.frame (F := Bits) m ρ

/-- The same for the projection over the extended reals. -/
theorem frame_kernelIdeal : Cert.quiescent_Kernel2Ideal := fun m ρ _ => Cert.Kernel2Ideal.Gen.frame (F := Ideal) m ρ

/-- The same for the projection's reference. -/
theorem frame_referenceIdeal : Cert.quiescent_Reference2Ideal := by
  intro m ρ _
  exact (θ_run Cert.Reference2Ideal.defs _ _).mono
    (fun r h => ⟨fun c => (h c).2.2.2.2, Idealize.ShloMosaic.sem_eq_zero_of_no_sems (by decide) r.2⟩)
    (Cert.Reference2Ideal.Value.run (F := Ideal) m ρ)

set_option maxHeartbeats 1000000 in
/-- The projection and its reference end at the same four arrays. -/
theorem algebraic : Cert.algebraic_Kernel2Ideal_Reference2Ideal := by
  intro m ρ m' ρ' _ hagree
  refine ⟨fun c => qkv (argX m c) (argG m c) (argW m c), fun c => slabs (argX m c) (argG m c) (argW m c),
    fun c => rets (argX m c) (argG m c) (argW m c), fun c => gates (argX m c) (argG m c) (argW m c), ?_, ?_⟩
  · exact (θ_run Cert.Kernel2Ideal.defs _ _).mono
      (fun r h c => ⟨(h c).1.trans (array3_eq m c), (h c).2.1.trans (array4_eq m c), (h c).2.2.1.trans (array5_eq m c),
        (h c).2.2.2.1.trans (array6_eq m c), (h c).2.2.2.2⟩)
      (Cert.Kernel2Ideal.Value.run_blocks (F := Ideal) m ρ)
  · refine (θ_run Cert.Reference2Ideal.defs _ _).mono
      (fun r h c => ⟨(h c).1.trans ?_, (h c).2.1.trans ?_, (h c).2.2.1.trans ?_, (h c).2.2.2.1.trans ?_, (h c).2.2.2.2⟩)
      (Cert.Reference2Ideal.Value.run (F := Ideal) m' ρ')
    all_goals
      obtain ⟨h0, h1, h2⟩ := hagree c
      rw [h0, h1, h2]
    · exact (Cert.Reference2Ideal.Read.val_main_v24_eq (F := Ideal) _ _ _).trans (Cert.Reference2Ideal.Inproj.qkv_eq _ _ _)
    · exact (Cert.Reference2Ideal.Read.val_main_v23_eq (F := Ideal) _ _ _).trans (Cert.Reference2Ideal.Inproj.slabs_eq _ _ _)
    · exact (Cert.Reference2Ideal.Read.val_main_v25_eq (F := Ideal) _ _ _).trans (Cert.Reference2Ideal.Inproj.rets_eq _ _ _)
    · exact (Cert.Reference2Ideal.Read.val_main_v26_eq (F := Ideal) _ _ _).trans (Cert.Reference2Ideal.Inproj.gates_eq _ _ _)

end Cert.Kernel2Ideal.Inproj
-- ==== Proof.AttnChain.lean ====
/-
  The attention's arithmetic on one block of 256 queries against one block of 256 keys.

  A visit takes the scaled products of the queries and the keys to the logarithms, in base two, of the stick's piece and
  of what is left of it; sums the latter over the later keys of the block; and adds the weighted values to an
  accumulator. The mass left over from the keys already visited is carried as one logarithm per query. Everything is
  stated over any float instance.
-/
module

public import proofs.«01_k».proof.Proof.Gen.Kernel3Ideal

@[expose] public section

noncomputable section

namespace Cert.Kernel3Ideal.Attention

open Cert.Kernel3Ideal Cert.Kernel3Ideal.Gen
open Idealize.ShloMosaic Idealize.SL.Sem

variable {F : FTy → Type} [FloatOps F] [Named F]

/-- The lanes of the first head of a pair. -/
def lane : IVec S256x128 32 := iota .tc S256x128 32 [1] iota_S256x128_d1_w32

/-- A block of queries with the other head's lanes at zero: the first head's, the second head's. -/
def qh0 (q : Vec F S1x256x128 .bf16) : FVec F S256x128 .bf16 :=
  select (cmpi .slt lane (broadcast S256x128 64#32)) (shapeCast S256x128 q shapeCasts_S1x256x128_S256x128) (broadcast S256x128 (Scalar.ofBits .bf16 0x0000#16 : F .bf16))
def qh1 (q : Vec F S1x256x128 .bf16) : FVec F S256x128 .bf16 :=
  select (cmpi .sge lane (broadcast S256x128 64#32)) (shapeCast S256x128 q shapeCasts_S1x256x128_S256x128) (broadcast S256x128 (Scalar.ofBits .bf16 0x0000#16 : F .bf16))

/-- A block of keys or values as a matrix. -/
def mat (k : Vec F S1x256x128 .bf16) : FVec F S256x128 .bf16 := shapeCast S256x128 k shapeCasts_S1x256x128_S256x128

/-- The scaled products of queries and keys, in base two. -/
def zz (q : FVec F S256x128 .bf16) (k : Vec F S1x256x128 .bf16) : FVec F S256x256 .f32 :=
  mulf (matmul dot_S256x128_S256x128_S256x256_1_1_0_0_n_n none q (mat k) (constant S256x256 .f32 0x00000000#32))
    (broadcast S256x256 (Named.named κ "zscale" 0x3E38AA3B#32 : F .f32))

/-- The logarithm of the piece broken off. -/
def lbeta (z : FVec F S256x256 .f32) : FVec F S256x256 .f32 :=
  subf (minimumf z (broadcast S256x256 (Scalar.ofBits .f32 0x00000000#32 : F .f32)))
    (mulf (log (addf (broadcast S256x256 (Scalar.ofBits .f32 0x3F800000#32 : F .f32))
      (exp2 (subf (broadcast S256x256 (Scalar.ofBits .f32 0x00000000#32 : F .f32)) (absf z)))))
      (broadcast S256x256 (Named.named κ "log2e" 0x3FB8AA3B#32 : F .f32)))

/-- The logarithm of what is left. -/
def lrest (z : FVec F S256x256 .f32) : FVec F S256x256 .f32 := subf (lbeta z) z

/-- Which keys of the diagonal block lie before the query. -/
def causal : IVec S256x256 1 :=
  cmpi .slt (iota .tc S256x256 32 [1] iota_S256x256_d1_w32) (iota .tc S256x256 32 [0] iota_S256x256_d0_w32)

/-- The same in the diagonal block: nothing from the keys not before the query. -/
def lrestD (z : FVec F S256x256 .f32) : FVec F S256x256 .f32 :=
  select causal (lrest z) (broadcast S256x256 (Scalar.ofBits .f32 0x00000000#32 : F .f32))

/-- The sums of the later keys of the block. -/
def suffix (tri : FVec F S256x256 .bf16) (l : FVec F S256x256 .f32) : FVec F S256x256 .f32 :=
  matmul dot_S256x256_S256x256_S256x256_1_0_0_1_n_n none (truncf .bf16 l bitsLt_bf16_f32) tri (constant S256x256 .f32 0x00000000#32)

/-- The sums of the whole block. -/
def tot (l : FVec F S256x256 .f32) : FVec F S256x1 .f32 :=
  shapeCast S256x1 (multiReduction .add [1] S256 l 0x00000000#32 reduces_S256x256_S256 (.inl rfl) rfl) shapeCasts_S256_S256x1

/-- Weights times values. -/
def pv (w : FVec F S256x256 .f32) (v : Vec F S1x256x128 .bf16) : FVec F S256x128 .f32 :=
  matmul dot_S256x256_S256x128_S256x128_1_0_0_1_n_n none (truncf .bf16 w bitsLt_bf16_f32) (mat v) (constant S256x128 .f32 0x00000000#32)

/-- The diagonal block's weighted values and mass. -/
def diagA (tri : FVec F S256x256 .bf16) (q : FVec F S256x128 .bf16) (k v : Vec F S1x256x128 .bf16) : FVec F S256x128 .f32 :=
  pv (select causal (exp2 (addf (lbeta (zz q k)) (suffix tri (lrestD (zz q k)))))
    (broadcast S256x256 (Scalar.ofBits .f32 0x00000000#32 : F .f32))) v
def diagC (q : FVec F S256x128 .bf16) (k : Vec F S1x256x128 .bf16) : FVec F S256x1 .f32 := tot (lrestD (zz q k))

/-- An earlier block's weighted values and the mass after it, from the mass `c` before it. -/
def visA (tri : FVec F S256x256 .bf16) (q : FVec F S256x128 .bf16) (k v : Vec F S1x256x128 .bf16) (c : FVec F S256x1 .f32) : FVec F S256x128 .f32 :=
  pv (exp2 (addf (addf (lbeta (zz q k)) (suffix tri (lrest (zz q k)))) (broadcastTo S256x256 c broadcasts_S256x1_S256x256))) v
def visC (q : FVec F S256x128 .bf16) (k : Vec F S1x256x128 .bf16) (c : FVec F S256x1 .f32) : FVec F S256x1 .f32 :=
  addf c (tot (lrest (zz q k)))

/-- An accumulator and a mass as the scratch buffers hold them. -/
abbrev AccV (F : FTy → Type) [FloatOps F] := Vec F S1x1x256x128 .f32
abbrev CarV (F : FTy → Type) [FloatOps F] := Vec F S1x1x256x1 .f32

def putA (a : FVec F S256x128 .f32) : AccV F := shapeCast S1x1x256x128 a shapeCasts_S256x128_S1x1x256x128
def putC (c : FVec F S256x1 .f32) : CarV F := shapeCast S1x1x256x1 c shapeCasts_S256x1_S1x1x256x1
def getA (a : AccV F) : FVec F S256x128 .f32 := shapeCast S256x128 a shapeCasts_S1x1x256x128_S256x128
def getC (c : CarV F) : FVec F S256x1 .f32 := shapeCast S256x1 c shapeCasts_S1x1x256x1_S256x1

/-- Both heads' accumulators and masses for one block of queries. -/
@[ext] structure St (F : FTy → Type) [FloatOps F] where
  a0 : AccV F
  a1 : AccV F
  c0 : CarV F
  c1 : CarV F

/-- One earlier block visited for both heads. -/
def St.visit (tri : FVec F S256x256 .bf16) (q0 q1 : FVec F S256x128 .bf16) (k v : Vec F S1x256x128 .bf16) (s : St F) : St F where
  a0 := putA (addf (getA s.a0) (visA tri q0 k v (getC s.c0)))
  a1 := putA (addf (getA s.a1) (visA tri q1 k v (getC s.c1)))
  c0 := putC (visC q0 k (getC s.c0))
  c1 := putC (visC q1 k (getC s.c1))

/-- The largest mass left of one head. -/
def most (c : CarV F) : F .f32 :=
  extractAt ![0, 0, 0] (shapeCast S1x1x1 (multiReduction .maximumf [1, 2] S1 (shapeCast S1x256x1 (getC c) shapeCasts_S256x1_S1x256x1) 0xFF800000#32 reduces_S1x256x1_S1 (.inl rfl) rfl) shapeCasts_S1_S1x1x1) inpos_S1x1x1_p0_0_0

/-- Whether the mass left is worth another visit, as the loops carry it. -/
def St.go (s : St F) : BitVec 32 :=
  Scalar.extui (Scalar.cmpf .ogt (Scalar.maximumf (most s.c0) (most s.c1)) (Named.named κ "skip" 0xC3180000#32 : F .f32))

/-- The blocks `n - 1`, …, `0` visited while the mass left is worth it. -/
def St.run (tri : FVec F S256x256 .bf16) (q0 q1 : FVec F S256x128 .bf16) (k v : ℕ → Vec F S1x256x128 .bf16) : ℕ → St F → St F
  | 0, s => s
  | n + 1, s => if (Scalar.cmpi .sgt s.go 0#32 : BitVec 1) = 1#1 then St.run tri q0 q1 k v n (s.visit tri q0 q1 (k n) (v n)) else s

end Cert.Kernel3Ideal.Attention

end
-- ==== Proof.AttnCells.lean ====
/-
  The attention's scratch buffers, cell by cell.

  The accumulators of the eight blocks of queries and two heads lie in one buffer and the masses in another. A block's
  state is what the two buffers hold at its cells; a store at one cell leaves the others as they were.
-/
module

public import proofs.«01_k».proof.Proof.AttnChain
public import proofs.«01_k».proof.Proof.Gen.Kernel3Ideal.Skeleton
public import proofs.«01_k».proof.Proof.Gen.Kernel3Ideal.Launch
public import Idealize.ShloMosaic.Lib.Pipeline.Kit
public import Idealize.ShloMosaic.Lib.Pipeline.Quiescent
public import Idealize.ShloMosaic.Lib.Pipeline.FrameBody
public import Idealize.ShloMosaic.Lib.Claim
public import Idealize.ShloMosaic.Lib.Writes
public import Idealize.ShloMosaic.Lib.WritesUnit
public import Idealize.ShloMosaic.Lib.Exec
public import Idealize.ShloMosaic.Lib.Affine
public import Idealize.ShloMosaic.Lib.Tactic

@[expose] public section

set_option maxRecDepth 16384

noncomputable section

namespace Cert.Kernel3Ideal.Attention

open Cert.Kernel3Ideal Cert.Kernel3Ideal.Gen
open Idealize.ShloMosaic Idealize.SL.Sem

variable {F : FTy → Type} [FloatOps F] [Named F]

section Pieces

variable {sig' : RefSig} {κ' : Kind} {sp : Space} {s : Shape} {e : EltTy} {Val : EltTy → Type} (v : View sig' κ' sp s e) (f : v.ty.Contents Val)

/-- A load of the box last stored reads what was stored. -/
theorem readAt_same {off size : Fin s.rank → ℕ} (inb inb' : ∀ a, off a + size a ≤ s.size a)
    (w : (Rect.unit off size inb').shape.Idx → Val e) (L : List (View.Piece Val s e)) :
    v.readAt Val (Rect.unit off size inb).toLoadRect (v.writes Val f (⟨Rect.unit off size inb', w⟩ :: L)) = w :=
  (v.slice (Rect.unit off size inb')).read_write_univ (v.writes Val f L) w

/-- A load of a box apart from the one last stored reads what was there before. -/
theorem readAt_other {off off' size size' : Fin s.rank → ℕ} (inb : ∀ a, off a + size a ≤ s.size a) (inb' : ∀ a, off' a + size' a ≤ s.size a)
    (w : (Rect.unit off' size' inb').shape.Idx → Val e) (L : List (View.Piece Val s e)) (a : Fin s.rank)
    (h : off a + size a ≤ off' a ∨ off' a + size' a ≤ off a) :
    v.readAt Val (Rect.unit off size inb).toLoadRect (v.writes Val f (⟨Rect.unit off' size' inb', w⟩ :: L))
      = v.readAt Val (Rect.unit off size inb).toLoadRect (v.writes Val f L) := by
  funext y
  refine View.read_writes_cons_unit_of_not_mem v f inb' w L _ rfl a ?_
  have hy : (y a).val < size a := (y a).isLt
  show off a + 1 * (y a).val < off' a ∨ off' a + size' a ≤ off a + 1 * (y a).val
  omega

end Pieces

/-- The cell of a block of queries and a head, in the accumulators and in the masses. -/
abbrev rA (s : Fin 8) (h : Fin 2) : Rect S8x2x256x128 := Rect.unit (s := S8x2x256x128) ![s.val, h.val, 0, 0] S1x1x256x128.size
  (by intro a; match a with
    | ⟨0, _⟩ => show s.val + 1 ≤ 8; omega
    | ⟨1, _⟩ => show h.val + 1 ≤ 2; omega
    | ⟨2, _⟩ => exact le_rfl
    | ⟨3, _⟩ => exact le_rfl)
abbrev rC (s : Fin 8) (h : Fin 2) : Rect S8x2x256x1 := Rect.unit (s := S8x2x256x1) ![s.val, h.val, 0, 0] S1x1x256x1.size
  (by intro a; match a with
    | ⟨0, _⟩ => show s.val + 1 ≤ 8; omega
    | ⟨1, _⟩ => show h.val + 1 ≤ 2; omega
    | ⟨2, _⟩ => exact le_rfl
    | ⟨3, _⟩ => exact le_rfl)

variable (a8 : Memref sig .tc .vmem S8x2x256x128 .f32) (a9 : Memref sig .tc .vmem S8x2x256x1 .f32)

/-- The state of block `s` of queries. -/
def cells (f8 : a8.view.ty.Contents (Elt F)) (f9 : a9.view.ty.Contents (Elt F)) (s : Fin 8) : St F where
  a0 := a8.view.readAt (Elt F) (rA s 0).toLoadRect f8
  a1 := a8.view.readAt (Elt F) (rA s 1).toLoadRect f8
  c0 := a9.view.readAt (Elt F) (rC s 0).toLoadRect f9
  c1 := a9.view.readAt (Elt F) (rC s 1).toLoadRect f9

/-- After the four cells of a block are stored, its state is what was stored. -/
theorem cells_writes (f8 : a8.view.ty.Contents (Elt F)) (f9 : a9.view.ty.Contents (Elt F)) (s : Fin 8) (w0 w1 : AccV F) (u0 u1 : CarV F) :
    cells a8 a9 (a8.view.writes (Elt F) f8 [⟨rA s 1, w1⟩, ⟨rA s 0, w0⟩]) (a9.view.writes (Elt F) f9 [⟨rC s 1, u1⟩, ⟨rC s 0, u0⟩]) s = ⟨w0, w1, u0, u1⟩ := by
  refine St.ext ?_ ?_ ?_ ?_
  · exact (readAt_other (Val := Elt F) a8.view f8 (off := ![s.val, (0 : Fin 2).val, 0, 0]) (off' := ![s.val, (1 : Fin 2).val, 0, 0]) (size := S1x1x256x128.size) (size' := S1x1x256x128.size) _ _ w1 _ (1 : Fin 4) (.inl le_rfl)).trans (readAt_same a8.view f8 _ _ w0 _)
  · exact readAt_same a8.view f8 _ _ w1 _
  · exact (readAt_other (Val := Elt F) a9.view f9 (off := ![s.val, (0 : Fin 2).val, 0, 0]) (off' := ![s.val, (1 : Fin 2).val, 0, 0]) (size := S1x1x256x1.size) (size' := S1x1x256x1.size) _ _ u1 _ (1 : Fin 4) (.inl le_rfl)).trans (readAt_same a9.view f9 _ _ u0 _)
  · exact readAt_same a9.view f9 _ _ u1 _

/-- The other blocks' states are what they were. -/
theorem cells_writes_ne (f8 : a8.view.ty.Contents (Elt F)) (f9 : a9.view.ty.Contents (Elt F)) (s s' : Fin 8) (hs : s' ≠ s) (w0 w1 : AccV F) (u0 u1 : CarV F) :
    cells a8 a9 (a8.view.writes (Elt F) f8 [⟨rA s 1, w1⟩, ⟨rA s 0, w0⟩]) (a9.view.writes (Elt F) f9 [⟨rC s 1, u1⟩, ⟨rC s 0, u0⟩]) s' = cells a8 a9 f8 f9 s' := by
  have hs' : s'.val + 1 ≤ s.val ∨ s.val + 1 ≤ s'.val := by have := Fin.val_ne_of_ne hs; omega
  have hA : ∀ (h h' : Fin 2) (w : AccV F) L, a8.view.readAt (Elt F) (rA s' h).toLoadRect (a8.view.writes (Elt F) f8 (⟨rA s h', w⟩ :: L)) = a8.view.readAt (Elt F) (rA s' h).toLoadRect (a8.view.writes (Elt F) f8 L) :=
    fun h h' w L => readAt_other (Val := Elt F) a8.view f8 (off := ![s'.val, h.val, 0, 0]) (off' := ![s.val, h'.val, 0, 0]) (size := S1x1x256x128.size) (size' := S1x1x256x128.size) _ _ w L (0 : Fin 4) hs'
  have hC : ∀ (h h' : Fin 2) (w : CarV F) L, a9.view.readAt (Elt F) (rC s' h).toLoadRect (a9.view.writes (Elt F) f9 (⟨rC s h', w⟩ :: L)) = a9.view.readAt (Elt F) (rC s' h).toLoadRect (a9.view.writes (Elt F) f9 L) :=
    fun h h' w L => readAt_other (Val := Elt F) a9.view f9 (off := ![s'.val, h.val, 0, 0]) (off' := ![s.val, h'.val, 0, 0]) (size := S1x1x256x1.size) (size' := S1x1x256x1.size) _ _ w L (0 : Fin 4) hs'
  exact St.ext ((hA 0 1 w1 _).trans (hA 0 0 w0 _)) ((hA 1 1 w1 _).trans (hA 1 0 w0 _)) ((hC 0 1 u1 _).trans (hC 0 0 u0 _)) ((hC 1 1 u1 _).trans (hC 1 0 u0 _))

/-- Block `n` of the keys or values. -/
def blk (X : Vec F S1x8192x128 .bf16) (n : ℕ) : Vec F S1x256x128 .bf16 := fun y =>
  X (fun | ⟨0, _⟩ => (0 : Fin 1) | ⟨1, _⟩ => (⟨(n * 256 + (y 1).val) % 8192, Nat.mod_lt _ (by decide)⟩ : Fin 8192) | ⟨2, _⟩ => (⟨(y 2).val, (y 2).isLt⟩ : Fin 128))

/-- Loading it. -/
theorem readAt_blk (a4 : Memref sig .tc .vmem S1x8192x128 .bf16) (f4 : a4.view.ty.Contents (Elt F)) (n : ℕ) (hn : n < 32)
    (off : Fin 3 → ℕ) (inb : ∀ a, off a + S1x256x128.size a ≤ S1x8192x128.size a) (h : off = ![0, n * 256, 0]) :
    a4.view.readAt (Elt F) (Rect.unit (s := S1x8192x128) off S1x256x128.size inb).toLoadRect f4 = blk (a4.view.read (Elt F) f4) n := by
  subst h
  funext y
  show a4.view.read (Elt F) f4 _ = a4.view.read (Elt F) f4 _
  congr 1
  funext b
  apply Fin.ext
  have h0 : (y 0).val < 1 := (y 0).isLt
  have h1 : (y 1).val < 256 := (y 1).isLt
  match b with
  | ⟨0, _⟩ => show 0 + 1 * (y 0).val = 0; omega
  | ⟨1, _⟩ => show n * 256 + 1 * (y 1).val = (n * 256 + (y 1).val) % 8192; omega
  | ⟨2, _⟩ => show 0 + 1 * (y 2).val = (y 2).val; omega

/-- What a loop carries: the number of blocks left to visit, as a word. -/
def Left (n : ℕ) (j : BitVec 32) : Prop := n ≤ 32 ∧ match n with
  | 0 => (Scalar.cmpi .sge j 0#32 : BitVec 1) = 0#1
  | k + 1 => j = BitVec.ofNat 32 k

theorem left_sge (k : ℕ) (hk : k < 32) : (Scalar.cmpi .sge (BitVec.ofNat 32 k) 0#32 : BitVec 1) = 1#1 :=
  (by decide : ∀ k : Fin 32, (Scalar.cmpi .sge (BitVec.ofNat 32 k.val) 0#32 : BitVec 1) = 1#1) ⟨k, hk⟩

theorem left_pred (k : ℕ) (hk : k < 32) : Left k (Scalar.subi (BitVec.ofNat 32 k) 1#32) := by
  refine ⟨by omega, ?_⟩
  match k with
  | 0 => decide
  | k + 1 =>
    show Scalar.subi (BitVec.ofNat 32 (k + 1)) 1#32 = BitVec.ofNat 32 k
    exact (by decide : ∀ k : Fin 32, (Scalar.subi (BitVec.ofNat 32 (k.val + 1)) 1#32 : BitVec 32) = BitVec.ofNat 32 k.val) ⟨k, by omega⟩

theorem andi_zero (b : BitVec 1) : (Scalar.andi 0#1 b : BitVec 1) = 0#1 := (by decide : ∀ b : BitVec 1, Scalar.andi 0#1 b = 0#1) b
theorem one_andi (b : BitVec 1) : (Scalar.andi 1#1 b : BitVec 1) = b := (by decide : ∀ b : BitVec 1, Scalar.andi 1#1 b = b) b

/-- The diagonal block alone, and the diagonal block followed by the block before it. -/
def St.first (tri : FVec F S256x256 .bf16) (q : Vec F S1x256x128 .bf16) (k v : Vec F S1x256x128 .bf16) : St F where
  a0 := putA (diagA tri (qh0 q) k v)
  a1 := putA (diagA tri (qh1 q) k v)
  c0 := putC (diagC (qh0 q) k)
  c1 := putC (diagC (qh1 q) k)
def St.second (tri : FVec F S256x256 .bf16) (q : Vec F S1x256x128 .bf16) (k v k' v' : Vec F S1x256x128 .bf16) : St F where
  a0 := putA (addf (diagA tri (qh0 q) k v) (visA tri (qh0 q) k' v' (diagC (qh0 q) k)))
  a1 := putA (addf (diagA tri (qh1 q) k v) (visA tri (qh1 q) k' v' (diagC (qh1 q) k)))
  c0 := putC (visC (qh0 q) k' (diagC (qh0 q) k))
  c1 := putC (visC (qh1 q) k' (diagC (qh1 q) k))

/-- The state of the block of queries number `b` of the sequence when the loop begins, and when it ends. -/
def St.start (tri : FVec F S256x256 .bf16) (q : Vec F S1x256x128 .bf16) (k v : ℕ → Vec F S1x256x128 .bf16) : ℕ → St F
  | 0 => St.first tri q (k 0) (v 0)
  | b + 1 => St.second tri q (k (b + 1)) (v (b + 1)) (k b) (v b)
def St.final (tri : FVec F S256x256 .bf16) (q : Vec F S1x256x128 .bf16) (k v : ℕ → Vec F S1x256x128 .bf16) (b : ℕ) : St F :=
  St.run tri (qh0 q) (qh1 q) k v (b - 1) (St.start tri q k v b)

/-- What a block of queries gives: each lane from its own head's accumulator. -/
def St.out (s : St F) : Vec F S1x256x128 .bf16 :=
  shapeCast S1x256x128 (truncf .bf16 (select (cmpi .slt lane (broadcast S256x128 64#32)) (getA s.a0) (getA s.a1)) bitsLt_bf16_f32) shapeCasts_S256x128_S1x256x128

/-- The number of blocks a loop starts with. -/
theorem left_start (t : Fin 4) (s : Fin 8) :
    Left (8 * t.val + s.val - 1) (Scalar.subi (Scalar.addi (Scalar.muli (BitVec.ofNat 32 t.val) 8#32) (BitVec.ofNat 32 s.val)) 2#32) := by
  have h := (by decide : ∀ t : Fin 4, ∀ s : Fin 8,
    (8 * t.val + s.val - 1 = 0 → (Scalar.cmpi .sge (Scalar.subi (Scalar.addi (Scalar.muli (BitVec.ofNat 32 t.val) 8#32) (BitVec.ofNat 32 s.val)) 2#32 : BitVec 32) 0#32 : BitVec 1) = 0#1)
    ∧ (8 * t.val + s.val - 1 ≠ 0 → (Scalar.subi (Scalar.addi (Scalar.muli (BitVec.ofNat 32 t.val) 8#32) (BitVec.ofNat 32 s.val)) 2#32 : BitVec 32) = BitVec.ofNat 32 (8 * t.val + s.val - 1 - 1))) t s
  refine ⟨by omega, ?_⟩
  generalize 8 * t.val + s.val - 1 = n at h
  match n with
  | 0 => exact h.1 rfl
  | k + 1 => exact h.2 (Nat.succ_ne_zero k)

/-- After the stores of every cell, a load of one reads what its store put there. -/
theorem readA_map (g : a8.view.ty.Contents (Elt F)) (W : Fin 8 → Fin 2 → AccV F) (s : Fin 8) (h : Fin 2) (l : List (Fin 8 × Fin 2)) (hm : (s, h) ∈ l) :
    a8.view.readAt (Elt F) (rA s h).toLoadRect (a8.view.writes (Elt F) g (l.map fun p => ⟨rA p.1 p.2, W p.1 p.2⟩)) = W s h := by
  induction l with
  | nil => cases hm
  | cons p l ih =>
    by_cases hp : p = (s, h)
    · subst hp
      exact readAt_same a8.view g _ _ (W s h) _
    · have hm' : (s, h) ∈ l := by
        rcases List.mem_cons.1 hm with h' | h'
        · exact absurd h'.symm hp
        · exact h'
      refine Eq.trans ?_ (ih hm')
      by_cases h0 : s = p.1
      · have h1 : h ≠ p.2 := fun e => hp (Prod.ext h0.symm e.symm)
        have h1' : h.val + 1 ≤ p.2.val ∨ p.2.val + 1 ≤ h.val := by have := Fin.val_ne_of_ne h1; omega
        exact readAt_other (Val := Elt F) a8.view g (off := ![s.val, h.val, 0, 0]) (off' := ![p.1.val, p.2.val, 0, 0]) (size := S1x1x256x128.size) (size' := S1x1x256x128.size) _ _ (W p.1 p.2) _ (1 : Fin 4) h1'
      · have h1' : s.val + 1 ≤ p.1.val ∨ p.1.val + 1 ≤ s.val := by have := Fin.val_ne_of_ne h0; omega
        exact readAt_other (Val := Elt F) a8.view g (off := ![s.val, h.val, 0, 0]) (off' := ![p.1.val, p.2.val, 0, 0]) (size := S1x1x256x128.size) (size' := S1x1x256x128.size) _ _ (W p.1 p.2) _ (0 : Fin 4) h1'
theorem readC_map (g : a9.view.ty.Contents (Elt F)) (W : Fin 8 → Fin 2 → CarV F) (s : Fin 8) (h : Fin 2) (l : List (Fin 8 × Fin 2)) (hm : (s, h) ∈ l) :
    a9.view.readAt (Elt F) (rC s h).toLoadRect (a9.view.writes (Elt F) g (l.map fun p => ⟨rC p.1 p.2, W p.1 p.2⟩)) = W s h := by
  induction l with
  | nil => cases hm
  | cons p l ih =>
    by_cases hp : p = (s, h)
    · subst hp
      exact readAt_same a9.view g _ _ (W s h) _
    · have hm' : (s, h) ∈ l := by
        rcases List.mem_cons.1 hm with h' | h'
        · exact absurd h'.symm hp
        · exact h'
      refine Eq.trans ?_ (ih hm')
      by_cases h0 : s = p.1
      · have h1 : h ≠ p.2 := fun e => hp (Prod.ext h0.symm e.symm)
        have h1' : h.val + 1 ≤ p.2.val ∨ p.2.val + 1 ≤ h.val := by have := Fin.val_ne_of_ne h1; omega
        exact readAt_other (Val := Elt F) a9.view g (off := ![s.val, h.val, 0, 0]) (off' := ![p.1.val, p.2.val, 0, 0]) (size := S1x1x256x1.size) (size' := S1x1x256x1.size) _ _ (W p.1 p.2) _ (1 : Fin 4) h1'
      · have h1' : s.val + 1 ≤ p.1.val ∨ p.1.val + 1 ≤ s.val := by have := Fin.val_ne_of_ne h0; omega
        exact readAt_other (Val := Elt F) a9.view g (off := ![s.val, h.val, 0, 0]) (off' := ![p.1.val, p.2.val, 0, 0]) (size := S1x1x256x1.size) (size' := S1x1x256x1.size) _ _ (W p.1 p.2) _ (0 : Fin 4) h1'

/-- The first `k` blocks' states at their ends, the others' at their starts. -/
def Upto (ini fin : Fin 8 → St F) (k : ℕ) (f8 : a8.view.ty.Contents (Elt F)) (f9 : a9.view.ty.Contents (Elt F)) : Prop :=
  ∀ s, cells a8 a9 f8 f9 s = if s.val < k then fin s else ini s

/-- The cells in the order of their stores, the last first. -/
def order : List (Fin 8 × Fin 2) := [(7, 1), (7, 0), (6, 1), (6, 0), (5, 1), (5, 0), (4, 1), (4, 0), (3, 1), (3, 0), (2, 1), (2, 0), (1, 1), (1, 0), (0, 1), (0, 0)]

theorem mem_order : ∀ (s : Fin 8) (h : Fin 2), (s, h) ∈ order := by decide

def St.acc (s : St F) (h : Fin 2) : AccV F := if h = 0 then s.a0 else s.a1
def St.car (s : St F) (h : Fin 2) : CarV F := if h = 0 then s.c0 else s.c1

variable {a8 a9} in
theorem upto_zero (ini fin : Fin 8 → St F) (g8 : a8.view.ty.Contents (Elt F)) (g9 : a9.view.ty.Contents (Elt F)) (L8 : List (View.Piece (Elt F) S8x2x256x128 .f32)) (L9 : List (View.Piece (Elt F) S8x2x256x1 .f32))
    (h8 : L8 = order.map fun p => ⟨rA p.1 p.2, (ini p.1).acc p.2⟩) (h9 : L9 = order.map fun p => ⟨rC p.1 p.2, (ini p.1).car p.2⟩) :
    Upto a8 a9 ini fin 0 (a8.view.writes (Elt F) g8 L8) (a9.view.writes (Elt F) g9 L9) := by
  subst h8 h9
  intro s
  rw [if_neg (Nat.not_lt_zero _)]
  exact St.ext (readA_map a8 g8 (fun s h => (ini s).acc h) s 0 order (mem_order s 0)) (readA_map a8 g8 (fun s h => (ini s).acc h) s 1 order (mem_order s 1))
    (readC_map a9 g9 (fun s h => (ini s).car h) s 0 order (mem_order s 0)) (readC_map a9 g9 (fun s h => (ini s).car h) s 1 order (mem_order s 1))

/-- Block `s` of the queries, and blocks of keys or values, as loaded. -/
abbrev rQ (s : Fin 8) : Rect S1x2048x128 := Rect.unit (s := S1x2048x128) ![0, 256 * s.val, 0] S1x256x128.size
  (by intro a; match a with
    | ⟨0, _⟩ => exact le_rfl
    | ⟨1, _⟩ => show 256 * s.val + 256 ≤ 2048; omega
    | ⟨2, _⟩ => exact le_rfl)

/-- The starts at the first step, and at a later one, from what is loaded. -/
def startsZero (tri : FVec F S256x256 .bf16) (q k v : Fin 8 → Vec F S1x256x128 .bf16) : Fin 8 → St F
  | 0 => St.first tri (q 0) (k 0) (v 0)
  | 1 => St.second tri (q 1) (k 1) (v 1) (k 0) (v 0)
  | 2 => St.second tri (q 2) (k 2) (v 2) (k 1) (v 1)
  | 3 => St.second tri (q 3) (k 3) (v 3) (k 2) (v 2)
  | 4 => St.second tri (q 4) (k 4) (v 4) (k 3) (v 3)
  | 5 => St.second tri (q 5) (k 5) (v 5) (k 4) (v 4)
  | 6 => St.second tri (q 6) (k 6) (v 6) (k 5) (v 5)
  | 7 => St.second tri (q 7) (k 7) (v 7) (k 6) (v 6)
def startsPos (tri : FVec F S256x256 .bf16) (q k v : Fin 8 → Vec F S1x256x128 .bf16) (k' v' : Vec F S1x256x128 .bf16) : Fin 8 → St F
  | 0 => St.second tri (q 0) (k 0) (v 0) k' v'
  | 1 => St.second tri (q 1) (k 1) (v 1) (k 0) (v 0)
  | 2 => St.second tri (q 2) (k 2) (v 2) (k 1) (v 1)
  | 3 => St.second tri (q 3) (k 3) (v 3) (k 2) (v 2)
  | 4 => St.second tri (q 4) (k 4) (v 4) (k 3) (v 3)
  | 5 => St.second tri (q 5) (k 5) (v 5) (k 4) (v 4)
  | 6 => St.second tri (q 6) (k 6) (v 6) (k 5) (v 5)
  | 7 => St.second tri (q 7) (k 7) (v 7) (k 6) (v 6)

theorem startsZero_eq (tri : FVec F S256x256 .bf16) (q k v : Fin 8 → Vec F S1x256x128 .bf16) (K V : ℕ → Vec F S1x256x128 .bf16) (t : ℕ) (ht : t = 0)
    (hk : ∀ s, k s = K (8 * t + s.val)) (hv : ∀ s, v s = V (8 * t + s.val)) (s : Fin 8) :
    startsZero tri q k v s = St.start tri (q s) K V (8 * t + s.val) := by
  subst ht
  match s with
  | 0 => show St.first _ _ _ _ = _; rw [hk, hv]; rfl
  | 1 => show St.second _ _ _ _ _ _ = _; rw [hk, hv, hk, hv]; rfl
  | 2 => show St.second _ _ _ _ _ _ = _; rw [hk, hv, hk, hv]; rfl
  | 3 => show St.second _ _ _ _ _ _ = _; rw [hk, hv, hk, hv]; rfl
  | 4 => show St.second _ _ _ _ _ _ = _; rw [hk, hv, hk, hv]; rfl
  | 5 => show St.second _ _ _ _ _ _ = _; rw [hk, hv, hk, hv]; rfl
  | 6 => show St.second _ _ _ _ _ _ = _; rw [hk, hv, hk, hv]; rfl
  | 7 => show St.second _ _ _ _ _ _ = _; rw [hk, hv, hk, hv]; rfl

theorem startsPos_eq (tri : FVec F S256x256 .bf16) (q k v : Fin 8 → Vec F S1x256x128 .bf16) (k' v' : Vec F S1x256x128 .bf16) (K V : ℕ → Vec F S1x256x128 .bf16) (t : ℕ) (ht : t ≠ 0)
    (hk : ∀ s, k s = K (8 * t + s.val)) (hv : ∀ s, v s = V (8 * t + s.val)) (hk' : k' = K (8 * t - 1)) (hv' : v' = V (8 * t - 1)) (s : Fin 8) :
    startsPos tri q k v k' v' s = St.start tri (q s) K V (8 * t + s.val) := by
  obtain ⟨u, rfl⟩ := Nat.exists_eq_succ_of_ne_zero ht
  match s with
  | 0 =>
    show St.second _ _ _ _ _ _ = _
    rw [hk, hv, hk', hv', show 8 * (u.succ) - 1 = 8 * u + 7 by omega, show 8 * (u.succ) + (0 : Fin 8).val = (8 * u + 7) + 1 by show 8 * (u + 1) + 0 = _; omega]; rfl
  | 1 => show St.second _ _ _ _ _ _ = _; rw [hk, hv, hk, hv]; rfl
  | 2 => show St.second _ _ _ _ _ _ = _; rw [hk, hv, hk, hv]; rfl
  | 3 => show St.second _ _ _ _ _ _ = _; rw [hk, hv, hk, hv]; rfl
  | 4 => show St.second _ _ _ _ _ _ = _; rw [hk, hv, hk, hv]; rfl
  | 5 => show St.second _ _ _ _ _ _ = _; rw [hk, hv, hk, hv]; rfl
  | 6 => show St.second _ _ _ _ _ _ = _; rw [hk, hv, hk, hv]; rfl
  | 7 => show St.second _ _ _ _ _ _ = _; rw [hk, hv, hk, hv]; rfl

theorem Upto.step {a8 : Memref sig .tc .vmem S8x2x256x128 .f32} {a9 : Memref sig .tc .vmem S8x2x256x1 .f32} {ini fin : Fin 8 → St F} {k : ℕ} {f8 f8' : a8.view.ty.Contents (Elt F)} {f9 f9' : a9.view.ty.Contents (Elt F)}
    (h : Upto a8 a9 ini fin k f8 f9) (s : Fin 8) (hs : s.val = k) (R : St F → St F) (hR : R (ini s) = fin s)
    (hf : cells a8 a9 f8' f9' s = R (cells a8 a9 f8 f9 s) ∧ ∀ s', s' ≠ s → cells a8 a9 f8' f9' s' = cells a8 a9 f8 f9 s') :
    Upto a8 a9 ini fin (k + 1) f8' f9' := by
  intro s'
  by_cases e : s' = s
  · subst e
    rw [hf.1, h s', if_neg (by omega), if_pos (by omega), hR]
  · rw [hf.2 s' e, h s']
    have := Fin.val_ne_of_ne e
    by_cases hk : s'.val < k
    · rw [if_pos hk, if_pos (by omega)]
    · rw [if_neg hk, if_neg (by omega)]

end Cert.Kernel3Ideal.Attention

end
-- ==== Proof.AttnLoops1.lean ====
/-
  The attention's loops over the earlier blocks of keys, for its blocks of queries 0 to 3.

  From the state of its block of queries, with `n` blocks of keys before it left, a loop ends with the state after the
  run over them, and with the other blocks' states as they were.
-/
module

public import proofs.«01_k».proof.Proof.AttnCells

@[expose] public section

set_option maxRecDepth 16384

noncomputable section

namespace Cert.Kernel3Ideal.Attention

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem pay_a0_1 (c : CarV F) (v k : Vec F S1x256x128 .bf16) (q : FVec F S256x128 .bf16) (tri : FVec F S256x256 .bf16) (a : AccV F) :
    k0_pay615 (k0_pay601 c) (k0_pay604 v) (k0_pay607 q k) (k0_pay609 q tri k) a = putA (addf (getA a) (visA tri q k v (getC c))) := rfl
theorem pay_a1_1 (c : CarV F) (v k : Vec F S1x256x128 .bf16) (q : FVec F S256x128 .bf16) (tri : FVec F S256x256 .bf16) (a : AccV F) :
    k0_pay3 (k0_pay613 tri (k0_pay602 c) (k0_pay604 v) (k0_pay606 q k)) a = putA (addf (getA a) (visA tri q k v (getC c))) := rfl
theorem pay_c0_1 (c : CarV F) (k : Vec F S1x256x128 .bf16) (q : FVec F S256x128 .bf16) :
    k0_pay2 (k0_pay612 (k0_pay601 c) (k0_pay608 q k)) = putC (visC q k (getC c)) := rfl
theorem pay_c1_1 (c : CarV F) (k : Vec F S1x256x128 .bf16) (q : FVec F S256x128 .bf16) :
    k0_pay4 (k0_pay614 (k0_pay602 c) (k0_pay606 q k)) = putC (visC q k (getC c)) := rfl
theorem off_loop1 (k : ℕ) (hk : k < 32) : k0_off4 (BitVec.ofNat 32 k) = ![0, k * 256, 0] :=
  (by decide : ∀ k : Fin 32, k0_off4 (BitVec.ofNat 32 k.val) = ![0, k.val * 256, 0]) ⟨k, hk⟩

theorem chk_loop1 (k : ℕ) (hk : k < 32) : k0_chk1 (BitVec.ofNat 32 k) :=
  (by decide : ∀ k : Fin 32, k0_chk1 (BitVec.ofNat 32 k.val)) ⟨k, hk⟩

set_option maxHeartbeats 8000000 in
theorem loop1 (c : Dev nD) (i : grid0.Coords) (a9 : Memref sig .tc .vmem S8x2x256x1 .f32) (h9 : a9.IsWhole)
    (a4 : Memref sig .tc .vmem S1x8192x128 .bf16) (h4 : a4.IsWhole) (a5 : Memref sig .tc .vmem S1x8192x128 .bf16) (h5 : a5.IsWhole)
    (q0 q1 : FVec F S256x128 .bf16) (tri : FVec F S256x256 .bf16) (a8 : Memref sig .tc .vmem S8x2x256x128 .f32) (h8 : a8.IsWhole)
    (f4 : Buf (Elt F) (a4.view.loc (c : Thread nD τ))) (f5 : Buf (Elt F) (a5.view.loc (c : Thread nD τ))) (E : Set ℕ) (n : ℕ) :
    ∀ (K : BitVec 32 × BitVec 32 → sProp 𝕄) (bd : Option ℕ) (hbd : bd = none ∨ bd = some n) (j go : BitVec 32) (f8 : Buf (Elt F) (a8.view.loc (c : Thread nD τ))) (f9 : Buf (Elt F) (a9.view.loc (c : Thread nD τ))),
    Left n j → go = (cells a8 a9 f8 f9 0).go →
    iprop((a4.view.loc (c : Thread nD τ) ↦{fullShare} f4) ∗ (a5.view.loc (c : Thread nD τ) ↦{fullShare} f5) ∗ (a8.view.loc (c : Thread nD τ) ↦{fullShare} f8) ∗ (a9.view.loc (c : Thread nD τ) ↦{fullShare} f9)
      ∗ (∀ r f8' f9', ⌜cells a8 a9 f8' f9' 0 = St.run tri q0 q1 (blk (a4.view.read (Elt F) f4)) (blk (a5.view.read (Elt F) f5)) n (cells a8 a9 f8 f9 0)
            ∧ ∀ s', s' ≠ 0 → cells a8 a9 f8' f9' s' = cells a8 a9 f8 f9 s'⌝
          -∗ (a4.view.loc (c : Thread nD τ) ↦{fullShare} f4) -∗ (a5.view.loc (c : Thread nD τ) ↦{fullShare} f5) -∗ (a8.view.loc (c : Thread nD τ) ↦{fullShare} f8') -∗ (a9.view.loc (c : Thread nD τ) ↦{fullShare} f9') -∗ K r))
      ⊢ wp frame (wpE (defs₀ (F := F)) Variants.nat (c : Thread nD τ) bd) E (defs₀ (F := F) .tc 1 ⟨i, a9, h9, a4, h4, a5, h5, q0, q1, tri, a8, h8, j, go⟩) K := by
  induction n with
  | zero =>
    intro K bd hbd j go f8 f9 hj hgo
    have hj0 : (Scalar.cmpi .sge j 0#32 : BitVec 1) = 0#1 := hj.2
    show _ ⊢ wp frame (wpE (defs₀ (F := F)) Variants.nat (c : Thread nD τ) bd) E (cc0_while1 i a9 h9 a4 h4 a5 h5 q0 q1 tri a8 h8 j go) K
    rw [cc0_while1_eq_skeleton]; unfold cc0_while1_skel
    dsimp only
    rw [hj0, andi_zero]
    iintro ⟨H4, H5, H8, H9, HK⟩
    sl_exec!
    sl_step
    iapply HK $$ %(j, go) %f8 %f9 %⟨rfl, fun _ _ => rfl⟩ [H4 //] [H5 //] [H8 //] [H9 //]
  | succ k ih =>
    intro K bd hbd j go f8 f9 hj hgo
    obtain ⟨hk, rfl⟩ : k + 1 ≤ 32 ∧ j = BitVec.ofNat 32 k := hj
    have hk' : k < 32 := hk
    have hw := chk_loop1 k hk'
    have hj1 := left_sge k hk'
    show _ ⊢ wp frame (wpE (defs₀ (F := F)) Variants.nat (c : Thread nD τ) bd) E (cc0_while1 i a9 h9 a4 h4 a5 h5 q0 q1 tri a8 h8 (BitVec.ofNat 32 k) go) K
    rw [cc0_while1_eq_skeleton]; unfold cc0_while1_skel
    dsimp only
    rw [hj1, one_andi]
    by_cases hg : (Scalar.cmpi .sgt go 0#32 : BitVec 1) = 1#1
    · rw [hg]
      have e4 := fun inb => readAt_blk a4 f4 k hk' _ inb (off_loop1 k hk')
      have e5 := fun inb => readAt_blk a5 f5 k hk' _ inb (off_loop1 k hk')
      iintro ⟨H4, H5, H8, H9, HK⟩
      sl_exec! (disch := exact hw)
      iapply (wp_call Variants.nat (c : Thread nD τ) bd E k (fun u hu => by
        rcases hbd with h | h <;> rw [h] at hu <;> cases hu
        exact Nat.lt_succ_self k))
      generalize hf8 : a8.view.writes (Elt F) f8 _ = f8n
      generalize hf9 : a9.view.writes (Elt F) f9 _ = f9n
      have hvis : cells a8 a9 f8n f9n 0 = (cells a8 a9 f8 f9 0).visit tri q0 q1 (blk (a4.view.read (Elt F) f4) k) (blk (a5.view.read (Elt F) f5) k) := by
        rw [← hf8, ← hf9]
        refine (cells_writes a8 a9 f8 f9 0 _ _ _ _).trans ?_
        let kk := blk (a4.view.read (Elt F) f4) k
        let vv := blk (a5.view.read (Elt F) f5) k
        let s := cells a8 a9 f8 f9 0
        exact St.ext (pay_a0_1 s.c0 vv kk q0 tri s.a0) (pay_a1_1 s.c1 vv kk q1 tri s.a1) (pay_c0_1 s.c0 kk q0) (pay_c1_1 s.c1 kk q1)
      have hrest : ∀ s', s' ≠ 0 → cells a8 a9 f8n f9n s' = cells a8 a9 f8 f9 s' := by
        intro s' hs
        rw [← hf8, ← hf9]
        exact cells_writes_ne a8 a9 f8 f9 0 s' hs _ _ _ _
      refine BIBase.Entails.trans ?_ (ih _ (some k) (.inr rfl) _ _ f8n f9n (left_pred k hk') ?_)
      · iintro ⟨⟨⟨⟨H4, H5⟩, H8⟩, H9⟩, HK⟩
        iframe H4 H5 H8 H9
        iintro %r %f8' %f9' %hf H4 H5 H8 H9
        rw [wp_ret]
        imodintro
        have hf' : cells a8 a9 f8' f9' 0 = St.run tri q0 q1 (blk (a4.view.read (Elt F) f4)) (blk (a5.view.read (Elt F) f5)) (k + 1) (cells a8 a9 f8 f9 0)
            ∧ ∀ s', s' ≠ 0 → cells a8 a9 f8' f9' s' = cells a8 a9 f8 f9 s' :=
          ⟨(hf.1.trans (congrArg _ hvis)).trans (if_pos (hgo ▸ hg)).symm, fun s' hs => (hf.2 s' hs).trans (hrest s' hs)⟩
        iapply HK $$ %r %f8' %f9' %hf' [H4 //] [H5 //] [H8 //] [H9 //]
      · rw [← hf8, ← hf9]
        refine Eq.trans ?_ (congrArg St.go (cells_writes a8 a9 f8 f9 0 _ _ _ _)).symm
        exact congrArg₂ (fun x y => Scalar.extui (Scalar.cmpf .ogt (k0_pay5 x y) (Named.named κ "skip" 0xC3180000#32 : F .f32)))
          (congrArg St.c0 (cells_writes a8 a9 f8 a9.view.junk 0 _ _ _ _)) (congrArg St.c1 (cells_writes a8 a9 f8 a9.view.junk 0 _ _ _ _))
    · rw [if_neg hg]
      iintro ⟨H4, H5, H8, H9, HK⟩
      sl_exec!
      sl_step
      have hf' : cells a8 a9 f8 f9 0 = St.run tri q0 q1 (blk (a4.view.read (Elt F) f4)) (blk (a5.view.read (Elt F) f5)) (k + 1) (cells a8 a9 f8 f9 0)
          ∧ ∀ s', s' ≠ 0 → cells a8 a9 f8 f9 s' = cells a8 a9 f8 f9 s' :=
        ⟨(if_neg (hgo ▸ hg)).symm, fun _ _ => rfl⟩
      iapply HK $$ %(BitVec.ofNat 32 k, go) %f8 %f9 %hf' [H4 //] [H5 //] [H8 //] [H9 //]

theorem pay_a0_2 (c : CarV F) (v k : Vec F S1x256x128 .bf16) (q : FVec F S256x128 .bf16) (tri : FVec F S256x256 .bf16) (a : AccV F) :
    k0_pay630 (k0_pay616 c) (k0_pay619 v) (k0_pay622 q k) (k0_pay624 q tri k) a = putA (addf (getA a) (visA tri q k v (getC c))) := rfl
theorem pay_a1_2 (c : CarV F) (v k : Vec F S1x256x128 .bf16) (q : FVec F S256x128 .bf16) (tri : FVec F S256x256 .bf16) (a : AccV F) :
    k0_pay7 (k0_pay628 tri (k0_pay617 c) (k0_pay619 v) (k0_pay621 q k)) a = putA (addf (getA a) (visA tri q k v (getC c))) := rfl
theorem pay_c0_2 (c : CarV F) (k : Vec F S1x256x128 .bf16) (q : FVec F S256x128 .bf16) :
    k0_pay6 (k0_pay627 (k0_pay616 c) (k0_pay623 q k)) = putC (visC q k (getC c)) := rfl
theorem pay_c1_2 (c : CarV F) (k : Vec F S1x256x128 .bf16) (q : FVec F S256x128 .bf16) :
    k0_pay8 (k0_pay629 (k0_pay617 c) (k0_pay621 q k)) = putC (visC q k (getC c)) := rfl
theorem off_loop2 (k : ℕ) (hk : k < 32) : k0_off5 (BitVec.ofNat 32 k) = ![0, k * 256, 0] :=
  (by decide : ∀ k : Fin 32, k0_off5 (BitVec.ofNat 32 k.val) = ![0, k.val * 256, 0]) ⟨k, hk⟩

theorem chk_loop2 (k : ℕ) (hk : k < 32) : k0_chk2 (BitVec.ofNat 32 k) :=
  (by decide : ∀ k : Fin 32, k0_chk2 (BitVec.ofNat 32 k.val)) ⟨k, hk⟩

set_option maxHeartbeats 8000000 in
theorem loop2 (c : Dev nD) (i : grid0.Coords) (a9 : Memref sig .tc .vmem S8x2x256x1 .f32) (h9 : a9.IsWhole)
    (a4 : Memref sig .tc .vmem S1x8192x128 .bf16) (h4 : a4.IsWhole) (a5 : Memref sig .tc .vmem S1x8192x128 .bf16) (h5 : a5.IsWhole)
    (q0 q1 : FVec F S256x128 .bf16) (tri : FVec F S256x256 .bf16) (a8 : Memref sig .tc .vmem S8x2x256x128 .f32) (h8 : a8.IsWhole)
    (f4 : Buf (Elt F) (a4.view.loc (c : Thread nD τ))) (f5 : Buf (Elt F) (a5.view.loc (c : Thread nD τ))) (E : Set ℕ) (n : ℕ) :
    ∀ (K : BitVec 32 × BitVec 32 → sProp 𝕄) (bd : Option ℕ) (hbd : bd = none ∨ bd = some n) (j go : BitVec 32) (f8 : Buf (Elt F) (a8.view.loc (c : Thread nD τ))) (f9 : Buf (Elt F) (a9.view.loc (c : Thread nD τ))),
    Left n j → go = (cells a8 a9 f8 f9 1).go →
    iprop((a4.view.loc (c : Thread nD τ) ↦{fullShare} f4) ∗ (a5.view.loc (c : Thread nD τ) ↦{fullShare} f5) ∗ (a8.view.loc (c : Thread nD τ) ↦{fullShare} f8) ∗ (a9.view.loc (c : Thread nD τ) ↦{fullShare} f9)
      ∗ (∀ r f8' f9', ⌜cells a8 a9 f8' f9' 1 = St.run tri q0 q1 (blk (a4.view.read (Elt F) f4)) (blk (a5.view.read (Elt F) f5)) n (cells a8 a9 f8 f9 1)
            ∧ ∀ s', s' ≠ 1 → cells a8 a9 f8' f9' s' = cells a8 a9 f8 f9 s'⌝
          -∗ (a4.view.loc (c : Thread nD τ) ↦{fullShare} f4) -∗ (a5.view.loc (c : Thread nD τ) ↦{fullShare} f5) -∗ (a8.view.loc (c : Thread nD τ) ↦{fullShare} f8') -∗ (a9.view.loc (c : Thread nD τ) ↦{fullShare} f9') -∗ K r))
      ⊢ wp frame (wpE (defs₀ (F := F)) Variants.nat (c : Thread nD τ) bd) E (defs₀ (F := F) .tc 2 ⟨i, a9, h9, a4, h4, a5, h5, q0, q1, tri, a8, h8, j, go⟩) K := by
  induction n with
  | zero =>
    intro K bd hbd j go f8 f9 hj hgo
    have hj0 : (Scalar.cmpi .sge j 0#32 : BitVec 1) = 0#1 := hj.2
    show _ ⊢ wp frame (wpE (defs₀ (F := F)) Variants.nat (c : Thread nD τ) bd) E (cc0_while2 i a9 h9 a4 h4 a5 h5 q0 q1 tri a8 h8 j go) K
    rw [cc0_while2_eq_skeleton]; unfold cc0_while2_skel
    dsimp only
    rw [hj0, andi_zero]
    iintro ⟨H4, H5, H8, H9, HK⟩
    sl_exec!
    sl_step
    iapply HK $$ %(j, go) %f8 %f9 %⟨rfl, fun _ _ => rfl⟩ [H4 //] [H5 //] [H8 //] [H9 //]
  | succ k ih =>
    intro K bd hbd j go f8 f9 hj hgo
    obtain ⟨hk, rfl⟩ : k + 1 ≤ 32 ∧ j = BitVec.ofNat 32 k := hj
    have hk' : k < 32 := hk
    have hw := chk_loop2 k hk'
    have hj1 := left_sge k hk'
    show _ ⊢ wp frame (wpE (defs₀ (F := F)) Variants.nat (c : Thread nD τ) bd) E (cc0_while2 i a9 h9 a4 h4 a5 h5 q0 q1 tri a8 h8 (BitVec.ofNat 32 k) go) K
    rw [cc0_while2_eq_skeleton]; unfold cc0_while2_skel
    dsimp only
    rw [hj1, one_andi]
    by_cases hg : (Scalar.cmpi .sgt go 0#32 : BitVec 1) = 1#1
    · rw [hg]
      have e4 := fun inb => readAt_blk a4 f4 k hk' _ inb (off_loop2 k hk')
      have e5 := fun inb => readAt_blk a5 f5 k hk' _ inb (off_loop2 k hk')
      iintro ⟨H4, H5, H8, H9, HK⟩
      sl_exec! (disch := exact hw)
      iapply (wp_call Variants.nat (c : Thread nD τ) bd E k (fun u hu => by
        rcases hbd with h | h <;> rw [h] at hu <;> cases hu
        exact Nat.lt_succ_self k))
      generalize hf8 : a8.view.writes (Elt F) f8 _ = f8n
      generalize hf9 : a9.view.writes (Elt F) f9 _ = f9n
      have hvis : cells a8 a9 f8n f9n 1 = (cells a8 a9 f8 f9 1).visit tri q0 q1 (blk (a4.view.read (Elt F) f4) k) (blk (a5.view.read (Elt F) f5) k) := by
        rw [← hf8, ← hf9]
        refine (cells_writes a8 a9 f8 f9 1 _ _ _ _).trans ?_
        let kk := blk (a4.view.read (Elt F) f4) k
        let vv := blk (a5.view.read (Elt F) f5) k
        let s := cells a8 a9 f8 f9 1
        exact St.ext (pay_a0_2 s.c0 vv kk q0 tri s.a0) (pay_a1_2 s.c1 vv kk q1 tri s.a1) (pay_c0_2 s.c0 kk q0) (pay_c1_2 s.c1 kk q1)
      have hrest : ∀ s', s' ≠ 1 → cells a8 a9 f8n f9n s' = cells a8 a9 f8 f9 s' := by
        intro s' hs
        rw [← hf8, ← hf9]
        exact cells_writes_ne a8 a9 f8 f9 1 s' hs _ _ _ _
      refine BIBase.Entails.trans ?_ (ih _ (some k) (.inr rfl) _ _ f8n f9n (left_pred k hk') ?_)
      · iintro ⟨⟨⟨⟨H4, H5⟩, H8⟩, H9⟩, HK⟩
        iframe H4 H5 H8 H9
        iintro %r %f8' %f9' %hf H4 H5 H8 H9
        rw [wp_ret]
        imodintro
        have hf' : cells a8 a9 f8' f9' 1 = St.run tri q0 q1 (blk (a4.view.read (Elt F) f4)) (blk (a5.view.read (Elt F) f5)) (k + 1) (cells a8 a9 f8 f9 1)
            ∧ ∀ s', s' ≠ 1 → cells a8 a9 f8' f9' s' = cells a8 a9 f8 f9 s' :=
          ⟨(hf.1.trans (congrArg _ hvis)).trans (if_pos (hgo ▸ hg)).symm, fun s' hs => (hf.2 s' hs).trans (hrest s' hs)⟩
        iapply HK $$ %r %f8' %f9' %hf' [H4 //] [H5 //] [H8 //] [H9 //]
      · rw [← hf8, ← hf9]
        refine Eq.trans ?_ (congrArg St.go (cells_writes a8 a9 f8 f9 1 _ _ _ _)).symm
        exact congrArg₂ (fun x y => Scalar.extui (Scalar.cmpf .ogt (k0_pay9 x y) (Named.named κ "skip" 0xC3180000#32 : F .f32)))
          (congrArg St.c0 (cells_writes a8 a9 f8 a9.view.junk 1 _ _ _ _)) (congrArg St.c1 (cells_writes a8 a9 f8 a9.view.junk 1 _ _ _ _))
    · rw [if_neg hg]
      iintro ⟨H4, H5, H8, H9, HK⟩
      sl_exec!
      sl_step
      have hf' : cells a8 a9 f8 f9 1 = St.run tri q0 q1 (blk (a4.view.read (Elt F) f4)) (blk (a5.view.read (Elt F) f5)) (k + 1) (cells a8 a9 f8 f9 1)
          ∧ ∀ s', s' ≠ 1 → cells a8 a9 f8 f9 s' = cells a8 a9 f8 f9 s' :=
        ⟨(if_neg (hgo ▸ hg)).symm, fun _ _ => rfl⟩
      iapply HK $$ %(BitVec.ofNat 32 k, go) %f8 %f9 %hf' [H4 //] [H5 //] [H8 //] [H9 //]

theorem pay_a0_3 (c : CarV F) (v k : Vec F S1x256x128 .bf16) (q : FVec F S256x128 .bf16) (tri : FVec F S256x256 .bf16) (a : AccV F) :
    k0_pay645 (k0_pay631 c) (k0_pay634 v) (k0_pay637 q k) (k0_pay639 q tri k) a = putA (addf (getA a) (visA tri q k v (getC c))) := rfl
theorem pay_a1_3 (c : CarV F) (v k : Vec F S1x256x128 .bf16) (q : FVec F S256x128 .bf16) (tri : FVec F S256x256 .bf16) (a : AccV F) :
    k0_pay11 (k0_pay643 tri (k0_pay632 c) (k0_pay634 v) (k0_pay636 q k)) a = putA (addf (getA a) (visA tri q k v (getC c))) := rfl
theorem pay_c0_3 (c : CarV F) (k : Vec F S1x256x128 .bf16) (q : FVec F S256x128 .bf16) :
    k0_pay10 (k0_pay642 (k0_pay631 c) (k0_pay638 q k)) = putC (visC q k (getC c)) := rfl
theorem pay_c1_3 (c : CarV F) (k : Vec F S1x256x128 .bf16) (q : FVec F S256x128 .bf16) :
    k0_pay12 (k0_pay644 (k0_pay632 c) (k0_pay636 q k)) = putC (visC q k (getC c)) := rfl
theorem off_loop3 (k : ℕ) (hk : k < 32) : k0_off6 (BitVec.ofNat 32 k) = ![0, k * 256, 0] :=
  (by decide : ∀ k : Fin 32, k0_off6 (BitVec.ofNat 32 k.val) = ![0, k.val * 256, 0]) ⟨k, hk⟩

theorem chk_loop3 (k : ℕ) (hk : k < 32) : k0_chk3 (BitVec.ofNat 32 k) :=
  (by decide : ∀ k : Fin 32, k0_chk3 (BitVec.ofNat 32 k.val)) ⟨k, hk⟩

set_option maxHeartbeats 8000000 in
theorem loop3 (c : Dev nD) (i : grid0.Coords) (a9 : Memref sig .tc .vmem S8x2x256x1 .f32) (h9 : a9.IsWhole)
    (a4 : Memref sig .tc .vmem S1x8192x128 .bf16) (h4 : a4.IsWhole) (a5 : Memref sig .tc .vmem S1x8192x128 .bf16) (h5 : a5.IsWhole)
    (q0 q1 : FVec F S256x128 .bf16) (tri : FVec F S256x256 .bf16) (a8 : Memref sig .tc .vmem S8x2x256x128 .f32) (h8 : a8.IsWhole)
    (f4 : Buf (Elt F) (a4.view.loc (c : Thread nD τ))) (f5 : Buf (Elt F) (a5.view.loc (c : Thread nD τ))) (E : Set ℕ) (n : ℕ) :
    ∀ (K : BitVec 32 × BitVec 32 → sProp 𝕄) (bd : Option ℕ) (hbd : bd = none ∨ bd = some n) (j go : BitVec 32) (f8 : Buf (Elt F) (a8.view.loc (c : Thread nD τ))) (f9 : Buf (Elt F) (a9.view.loc (c : Thread nD τ))),
    Left n j → go = (cells a8 a9 f8 f9 2).go →
    iprop((a4.view.loc (c : Thread nD τ) ↦{fullShare} f4) ∗ (a5.view.loc (c : Thread nD τ) ↦{fullShare} f5) ∗ (a8.view.loc (c : Thread nD τ) ↦{fullShare} f8) ∗ (a9.view.loc (c : Thread nD τ) ↦{fullShare} f9)
      ∗ (∀ r f8' f9', ⌜cells a8 a9 f8' f9' 2 = St.run tri q0 q1 (blk (a4.view.read (Elt F) f4)) (blk (a5.view.read (Elt F) f5)) n (cells a8 a9 f8 f9 2)
            ∧ ∀ s', s' ≠ 2 → cells a8 a9 f8' f9' s' = cells a8 a9 f8 f9 s'⌝
          -∗ (a4.view.loc (c : Thread nD τ) ↦{fullShare} f4) -∗ (a5.view.loc (c : Thread nD τ) ↦{fullShare} f5) -∗ (a8.view.loc (c : Thread nD τ) ↦{fullShare} f8') -∗ (a9.view.loc (c : Thread nD τ) ↦{fullShare} f9') -∗ K r))
      ⊢ wp frame (wpE (defs₀ (F := F)) Variants.nat (c : Thread nD τ) bd) E (defs₀ (F := F) .tc 3 ⟨i, a9, h9, a4, h4, a5, h5, q0, q1, tri, a8, h8, j, go⟩) K := by
  induction n with
  | zero =>
    intro K bd hbd j go f8 f9 hj hgo
    have hj0 : (Scalar.cmpi .sge j 0#32 : BitVec 1) = 0#1 := hj.2
    show _ ⊢ wp frame (wpE (defs₀ (F := F)) Variants.nat (c : Thread nD τ) bd) E (cc0_while3 i a9 h9 a4 h4 a5 h5 q0 q1 tri a8 h8 j go) K
    rw [cc0_while3_eq_skeleton]; unfold cc0_while3_skel
    dsimp only
    rw [hj0, andi_zero]
    iintro ⟨H4, H5, H8, H9, HK⟩
    sl_exec!
    sl_step
    iapply HK $$ %(j, go) %f8 %f9 %⟨rfl, fun _ _ => rfl⟩ [H4 //] [H5 //] [H8 //] [H9 //]
  | succ k ih =>
    intro K bd hbd j go f8 f9 hj hgo
    obtain ⟨hk, rfl⟩ : k + 1 ≤ 32 ∧ j = BitVec.ofNat 32 k := hj
    have hk' : k < 32 := hk
    have hw := chk_loop3 k hk'
    have hj1 := left_sge k hk'
    show _ ⊢ wp frame (wpE (defs₀ (F := F)) Variants.nat (c : Thread nD τ) bd) E (cc0_while3 i a9 h9 a4 h4 a5 h5 q0 q1 tri a8 h8 (BitVec.ofNat 32 k) go) K
    rw [cc0_while3_eq_skeleton]; unfold cc0_while3_skel
    dsimp only
    rw [hj1, one_andi]
    by_cases hg : (Scalar.cmpi .sgt go 0#32 : BitVec 1) = 1#1
    · rw [hg]
      have e4 := fun inb => readAt_blk a4 f4 k hk' _ inb (off_loop3 k hk')
      have e5 := fun inb => readAt_blk a5 f5 k hk' _ inb (off_loop3 k hk')
      iintro ⟨H4, H5, H8, H9, HK⟩
      sl_exec! (disch := exact hw)
      iapply (wp_call Variants.nat (c : Thread nD τ) bd E k (fun u hu => by
        rcases hbd with h | h <;> rw [h] at hu <;> cases hu
        exact Nat.lt_succ_self k))
      generalize hf8 : a8.view.writes (Elt F) f8 _ = f8n
      generalize hf9 : a9.view.writes (Elt F) f9 _ = f9n
      have hvis : cells a8 a9 f8n f9n 2 = (cells a8 a9 f8 f9 2).visit tri q0 q1 (blk (a4.view.read (Elt F) f4) k) (blk (a5.view.read (Elt F) f5) k) := by
        rw [← hf8, ← hf9]
        refine (cells_writes a8 a9 f8 f9 2 _ _ _ _).trans ?_
        let kk := blk (a4.view.read (Elt F) f4) k
        let vv := blk (a5.view.read (Elt F) f5) k
        let s := cells a8 a9 f8 f9 2
        exact St.ext (pay_a0_3 s.c0 vv kk q0 tri s.a0) (pay_a1_3 s.c1 vv kk q1 tri s.a1) (pay_c0_3 s.c0 kk q0) (pay_c1_3 s.c1 kk q1)
      have hrest : ∀ s', s' ≠ 2 → cells a8 a9 f8n f9n s' = cells a8 a9 f8 f9 s' := by
        intro s' hs
        rw [← hf8, ← hf9]
        exact cells_writes_ne a8 a9 f8 f9 2 s' hs _ _ _ _
      refine BIBase.Entails.trans ?_ (ih _ (some k) (.inr rfl) _ _ f8n f9n (left_pred k hk') ?_)
      · iintro ⟨⟨⟨⟨H4, H5⟩, H8⟩, H9⟩, HK⟩
        iframe H4 H5 H8 H9
        iintro %r %f8' %f9' %hf H4 H5 H8 H9
        rw [wp_ret]
        imodintro
        have hf' : cells a8 a9 f8' f9' 2 = St.run tri q0 q1 (blk (a4.view.read (Elt F) f4)) (blk (a5.view.read (Elt F) f5)) (k + 1) (cells a8 a9 f8 f9 2)
            ∧ ∀ s', s' ≠ 2 → cells a8 a9 f8' f9' s' = cells a8 a9 f8 f9 s' :=
          ⟨(hf.1.trans (congrArg _ hvis)).trans (if_pos (hgo ▸ hg)).symm, fun s' hs => (hf.2 s' hs).trans (hrest s' hs)⟩
        iapply HK $$ %r %f8' %f9' %hf' [H4 //] [H5 //] [H8 //] [H9 //]
      · rw [← hf8, ← hf9]
        refine Eq.trans ?_ (congrArg St.go (cells_writes a8 a9 f8 f9 2 _ _ _ _)).symm
        exact congrArg₂ (fun x y => Scalar.extui (Scalar.cmpf .ogt (k0_pay13 x y) (Named.named κ "skip" 0xC3180000#32 : F .f32)))
          (congrArg St.c0 (cells_writes a8 a9 f8 a9.view.junk 2 _ _ _ _)) (congrArg St.c1 (cells_writes a8 a9 f8 a9.view.junk 2 _ _ _ _))
    · rw [if_neg hg]
      iintro ⟨H4, H5, H8, H9, HK⟩
      sl_exec!
      sl_step
      have hf' : cells a8 a9 f8 f9 2 = St.run tri q0 q1 (blk (a4.view.read (Elt F) f4)) (blk (a5.view.read (Elt F) f5)) (k + 1) (cells a8 a9 f8 f9 2)
          ∧ ∀ s', s' ≠ 2 → cells a8 a9 f8 f9 s' = cells a8 a9 f8 f9 s' :=
        ⟨(if_neg (hgo ▸ hg)).symm, fun _ _ => rfl⟩
      iapply HK $$ %(BitVec.ofNat 32 k, go) %f8 %f9 %hf' [H4 //] [H5 //] [H8 //] [H9 //]

theorem pay_a0_4 (c : CarV F) (v k : Vec F S1x256x128 .bf16) (q : FVec F S256x128 .bf16) (tri : FVec F S256x256 .bf16) (a : AccV F) :
    k0_pay660 (k0_pay646 c) (k0_pay649 v) (k0_pay652 q k) (k0_pay654 q tri k) a = putA (addf (getA a) (visA tri q k v (getC c))) := rfl
theorem pay_a1_4 (c : CarV F) (v k : Vec F S1x256x128 .bf16) (q : FVec F S256x128 .bf16) (tri : FVec F S256x256 .bf16) (a : AccV F) :
    k0_pay15 (k0_pay658 tri (k0_pay647 c) (k0_pay649 v) (k0_pay651 q k)) a = putA (addf (getA a) (visA tri q k v (getC c))) := rfl
theorem pay_c0_4 (c : CarV F) (k : Vec F S1x256x128 .bf16) (q : FVec F S256x128 .bf16) :
    k0_pay14 (k0_pay657 (k0_pay646 c) (k0_pay653 q k)) = putC (visC q k (getC c)) := rfl
theorem pay_c1_4 (c : CarV F) (k : Vec F S1x256x128 .bf16) (q : FVec F S256x128 .bf16) :
    k0_pay16 (k0_pay659 (k0_pay647 c) (k0_pay651 q k)) = putC (visC q k (getC c)) := rfl
theorem off_loop4 (k : ℕ) (hk : k < 32) : k0_off7 (BitVec.ofNat 32 k) = ![0, k * 256, 0] :=
  (by decide : ∀ k : Fin 32, k0_off7 (BitVec.ofNat 32 k.val) = ![0, k.val * 256, 0]) ⟨k, hk⟩

theorem chk_loop4 (k : ℕ) (hk : k < 32) : k0_chk4 (BitVec.ofNat 32 k) :=
  (by decide : ∀ k : Fin 32, k0_chk4 (BitVec.ofNat 32 k.val)) ⟨k, hk⟩

set_option maxHeartbeats 8000000 in
theorem loop4 (c : Dev nD) (i : grid0.Coords) (a9 : Memref sig .tc .vmem S8x2x256x1 .f32) (h9 : a9.IsWhole)
    (a4 : Memref sig .tc .vmem S1x8192x128 .bf16) (h4 : a4.IsWhole) (a5 : Memref sig .tc .vmem S1x8192x128 .bf16) (h5 : a5.IsWhole)
    (q0 q1 : FVec F S256x128 .bf16) (tri : FVec F S256x256 .bf16) (a8 : Memref sig .tc .vmem S8x2x256x128 .f32) (h8 : a8.IsWhole)
    (f4 : Buf (Elt F) (a4.view.loc (c : Thread nD τ))) (f5 : Buf (Elt F) (a5.view.loc (c : Thread nD τ))) (E : Set ℕ) (n : ℕ) :
    ∀ (K : BitVec 32 × BitVec 32 → sProp 𝕄) (bd : Option ℕ) (hbd : bd = none ∨ bd = some n) (j go : BitVec 32) (f8 : Buf (Elt F) (a8.view.loc (c : Thread nD τ))) (f9 : Buf (Elt F) (a9.view.loc (c : Thread nD τ))),
    Left n j → go = (cells a8 a9 f8 f9 3).go →
    iprop((a4.view.loc (c : Thread nD τ) ↦{fullShare} f4) ∗ (a5.view.loc (c : Thread nD τ) ↦{fullShare} f5) ∗ (a8.view.loc (c : Thread nD τ) ↦{fullShare} f8) ∗ (a9.view.loc (c : Thread nD τ) ↦{fullShare} f9)
      ∗ (∀ r f8' f9', ⌜cells a8 a9 f8' f9' 3 = St.run tri q0 q1 (blk (a4.view.read (Elt F) f4)) (blk (a5.view.read (Elt F) f5)) n (cells a8 a9 f8 f9 3)
            ∧ ∀ s', s' ≠ 3 → cells a8 a9 f8' f9' s' = cells a8 a9 f8 f9 s'⌝
          -∗ (a4.view.loc (c : Thread nD τ) ↦{fullShare} f4) -∗ (a5.view.loc (c : Thread nD τ) ↦{fullShare} f5) -∗ (a8.view.loc (c : Thread nD τ) ↦{fullShare} f8') -∗ (a9.view.loc (c : Thread nD τ) ↦{fullShare} f9') -∗ K r))
      ⊢ wp frame (wpE (defs₀ (F := F)) Variants.nat (c : Thread nD τ) bd) E (defs₀ (F := F) .tc 4 ⟨i, a9, h9, a4, h4, a5, h5, q0, q1, tri, a8, h8, j, go⟩) K := by
  induction n with
  | zero =>
    intro K bd hbd j go f8 f9 hj hgo
    have hj0 : (Scalar.cmpi .sge j 0#32 : BitVec 1) = 0#1 := hj.2
    show _ ⊢ wp frame (wpE (defs₀ (F := F)) Variants.nat (c : Thread nD τ) bd) E (cc0_while4 i a9 h9 a4 h4 a5 h5 q0 q1 tri a8 h8 j go) K
    rw [cc0_while4_eq_skeleton]; unfold cc0_while4_skel
    dsimp only
    rw [hj0, andi_zero]
    iintro ⟨H4, H5, H8, H9, HK⟩
    sl_exec!
    sl_step
    iapply HK $$ %(j, go) %f8 %f9 %⟨rfl, fun _ _ => rfl⟩ [H4 //] [H5 //] [H8 //] [H9 //]
  | succ k ih =>
    intro K bd hbd j go f8 f9 hj hgo
    obtain ⟨hk, rfl⟩ : k + 1 ≤ 32 ∧ j = BitVec.ofNat 32 k := hj
    have hk' : k < 32 := hk
    have hw := chk_loop4 k hk'
    have hj1 := left_sge k hk'
    show _ ⊢ wp frame (wpE (defs₀ (F := F)) Variants.nat (c : Thread nD τ) bd) E (cc0_while4 i a9 h9 a4 h4 a5 h5 q0 q1 tri a8 h8 (BitVec.ofNat 32 k) go) K
    rw [cc0_while4_eq_skeleton]; unfold cc0_while4_skel
    dsimp only
    rw [hj1, one_andi]
    by_cases hg : (Scalar.cmpi .sgt go 0#32 : BitVec 1) = 1#1
    · rw [hg]
      have e4 := fun inb => readAt_blk a4 f4 k hk' _ inb (off_loop4 k hk')
      have e5 := fun inb => readAt_blk a5 f5 k hk' _ inb (off_loop4 k hk')
      iintro ⟨H4, H5, H8, H9, HK⟩
      sl_exec! (disch := exact hw)
      iapply (wp_call Variants.nat (c : Thread nD τ) bd E k (fun u hu => by
        rcases hbd with h | h <;> rw [h] at hu <;> cases hu
        exact Nat.lt_succ_self k))
      generalize hf8 : a8.view.writes (Elt F) f8 _ = f8n
      generalize hf9 : a9.view.writes (Elt F) f9 _ = f9n
      have hvis : cells a8 a9 f8n f9n 3 = (cells a8 a9 f8 f9 3).visit tri q0 q1 (blk (a4.view.read (Elt F) f4) k) (blk (a5.view.read (Elt F) f5) k) := by
        rw [← hf8, ← hf9]
        refine (cells_writes a8 a9 f8 f9 3 _ _ _ _).trans ?_
        let kk := blk (a4.view.read (Elt F) f4) k
        let vv := blk (a5.view.read (Elt F) f5) k
        let s := cells a8 a9 f8 f9 3
        exact St.ext (pay_a0_4 s.c0 vv kk q0 tri s.a0) (pay_a1_4 s.c1 vv kk q1 tri s.a1) (pay_c0_4 s.c0 kk q0) (pay_c1_4 s.c1 kk q1)
      have hrest : ∀ s', s' ≠ 3 → cells a8 a9 f8n f9n s' = cells a8 a9 f8 f9 s' := by
        intro s' hs
        rw [← hf8, ← hf9]
        exact cells_writes_ne a8 a9 f8 f9 3 s' hs _ _ _ _
      refine BIBase.Entails.trans ?_ (ih _ (some k) (.inr rfl) _ _ f8n f9n (left_pred k hk') ?_)
      · iintro ⟨⟨⟨⟨H4, H5⟩, H8⟩, H9⟩, HK⟩
        iframe H4 H5 H8 H9
        iintro %r %f8' %f9' %hf H4 H5 H8 H9
        rw [wp_ret]
        imodintro
        have hf' : cells a8 a9 f8' f9' 3 = St.run tri q0 q1 (blk (a4.view.read (Elt F) f4)) (blk (a5.view.read (Elt F) f5)) (k + 1) (cells a8 a9 f8 f9 3)
            ∧ ∀ s', s' ≠ 3 → cells a8 a9 f8' f9' s' = cells a8 a9 f8 f9 s' :=
          ⟨(hf.1.trans (congrArg _ hvis)).trans (if_pos (hgo ▸ hg)).symm, fun s' hs => (hf.2 s' hs).trans (hrest s' hs)⟩
        iapply HK $$ %r %f8' %f9' %hf' [H4 //] [H5 //] [H8 //] [H9 //]
      · rw [← hf8, ← hf9]
        refine Eq.trans ?_ (congrArg St.go (cells_writes a8 a9 f8 f9 3 _ _ _ _)).symm
        exact congrArg₂ (fun x y => Scalar.extui (Scalar.cmpf .ogt (k0_pay17 x y) (Named.named κ "skip" 0xC3180000#32 : F .f32)))
          (congrArg St.c0 (cells_writes a8 a9 f8 a9.view.junk 3 _ _ _ _)) (congrArg St.c1 (cells_writes a8 a9 f8 a9.view.junk 3 _ _ _ _))
    · rw [if_neg hg]
      iintro ⟨H4, H5, H8, H9, HK⟩
      sl_exec!
      sl_step
      have hf' : cells a8 a9 f8 f9 3 = St.run tri q0 q1 (blk (a4.view.read (Elt F) f4)) (blk (a5.view.read (Elt F) f5)) (k + 1) (cells a8 a9 f8 f9 3)
          ∧ ∀ s', s' ≠ 3 → cells a8 a9 f8 f9 s' = cells a8 a9 f8 f9 s' :=
        ⟨(if_neg (hgo ▸ hg)).symm, fun _ _ => rfl⟩
      iapply HK $$ %(BitVec.ofNat 32 k, go) %f8 %f9 %hf' [H4 //] [H5 //] [H8 //] [H9 //]

end Cert.Kernel3Ideal.Attention

end
-- ==== Proof.AttnLoops2.lean ====
/-
  The attention's loops over the earlier blocks of keys, for its blocks of queries 4 to 7.

  From the state of its block of queries, with `n` blocks of keys before it left, a loop ends with the state after the
  run over them, and with the other blocks' states as they were.
-/
module

public import proofs.«01_k».proof.Proof.AttnCells

@[expose] public section

set_option maxRecDepth 16384

noncomputable section

namespace Cert.Kernel3Ideal.Attention

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem pay_a0_5 (c : CarV F) (v k : Vec F S1x256x128 .bf16) (q : FVec F S256x128 .bf16) (tri : FVec F S256x256 .bf16) (a : AccV F) :
    k0_pay675 (k0_pay661 c) (k0_pay664 v) (k0_pay667 q k) (k0_pay669 q tri k) a = putA (addf (getA a) (visA tri q k v (getC c))) := rfl
theorem pay_a1_5 (c : CarV F) (v k : Vec F S1x256x128 .bf16) (q : FVec F S256x128 .bf16) (tri : FVec F S256x256 .bf16) (a : AccV F) :
    k0_pay19 (k0_pay673 tri (k0_pay662 c) (k0_pay664 v) (k0_pay666 q k)) a = putA (addf (getA a) (visA tri q k v (getC c))) := rfl
theorem pay_c0_5 (c : CarV F) (k : Vec F S1x256x128 .bf16) (q : FVec F S256x128 .bf16) :
    k0_pay18 (k0_pay672 (k0_pay661 c) (k0_pay668 q k)) = putC (visC q k (getC c)) := rfl
theorem pay_c1_5 (c : CarV F) (k : Vec F S1x256x128 .bf16) (q : FVec F S256x128 .bf16) :
    k0_pay20 (k0_pay674 (k0_pay662 c) (k0_pay666 q k)) = putC (visC q k (getC c)) := rfl
theorem off_loop5 (k : ℕ) (hk : k < 32) : k0_off8 (BitVec.ofNat 32 k) = ![0, k * 256, 0] :=
  (by decide : ∀ k : Fin 32, k0_off8 (BitVec.ofNat 32 k.val) = ![0, k.val * 256, 0]) ⟨k, hk⟩

theorem chk_loop5 (k : ℕ) (hk : k < 32) : k0_chk5 (BitVec.ofNat 32 k) :=
  (by decide : ∀ k : Fin 32, k0_chk5 (BitVec.ofNat 32 k.val)) ⟨k, hk⟩

set_option maxHeartbeats 8000000 in
theorem loop5 (c : Dev nD) (i : grid0.Coords) (a9 : Memref sig .tc .vmem S8x2x256x1 .f32) (h9 : a9.IsWhole)
    (a4 : Memref sig .tc .vmem S1x8192x128 .bf16) (h4 : a4.IsWhole) (a5 : Memref sig .tc .vmem S1x8192x128 .bf16) (h5 : a5.IsWhole)
    (q0 q1 : FVec F S256x128 .bf16) (tri : FVec F S256x256 .bf16) (a8 : Memref sig .tc .vmem S8x2x256x128 .f32) (h8 : a8.IsWhole)
    (f4 : Buf (Elt F) (a4.view.loc (c : Thread nD τ))) (f5 : Buf (Elt F) (a5.view.loc (c : Thread nD τ))) (E : Set ℕ) (n : ℕ) :
    ∀ (K : BitVec 32 × BitVec 32 → sProp 𝕄) (bd : Option ℕ) (hbd : bd = none ∨ bd = some n) (j go : BitVec 32) (f8 : Buf (Elt F) (a8.view.loc (c : Thread nD τ))) (f9 : Buf (Elt F) (a9.view.loc (c : Thread nD τ))),
    Left n j → go = (cells a8 a9 f8 f9 4).go →
    iprop((a4.view.loc (c : Thread nD τ) ↦{fullShare} f4) ∗ (a5.view.loc (c : Thread nD τ) ↦{fullShare} f5) ∗ (a8.view.loc (c : Thread nD τ) ↦{fullShare} f8) ∗ (a9.view.loc (c : Thread nD τ) ↦{fullShare} f9)
      ∗ (∀ r f8' f9', ⌜cells a8 a9 f8' f9' 4 = St.run tri q0 q1 (blk (a4.view.read (Elt F) f4)) (blk (a5.view.read (Elt F) f5)) n (cells a8 a9 f8 f9 4)
            ∧ ∀ s', s' ≠ 4 → cells a8 a9 f8' f9' s' = cells a8 a9 f8 f9 s'⌝
          -∗ (a4.view.loc (c : Thread nD τ) ↦{fullShare} f4) -∗ (a5.view.loc (c : Thread nD τ) ↦{fullShare} f5) -∗ (a8.view.loc (c : Thread nD τ) ↦{fullShare} f8') -∗ (a9.view.loc (c : Thread nD τ) ↦{fullShare} f9') -∗ K r))
      ⊢ wp frame (wpE (defs₀ (F := F)) Variants.nat (c : Thread nD τ) bd) E (defs₀ (F := F) .tc 5 ⟨i, a9, h9, a4, h4, a5, h5, q0, q1, tri, a8, h8, j, go⟩) K := by
  induction n with
  | zero =>
    intro K bd hbd j go f8 f9 hj hgo
    have hj0 : (Scalar.cmpi .sge j 0#32 : BitVec 1) = 0#1 := hj.2
    show _ ⊢ wp frame (wpE (defs₀ (F := F)) Variants.nat (c : Thread nD τ) bd) E (cc0_while5 i a9 h9 a4 h4 a5 h5 q0 q1 tri a8 h8 j go) K
    rw [cc0_while5_eq_skeleton]; unfold cc0_while5_skel
    dsimp only
    rw [hj0, andi_zero]
    iintro ⟨H4, H5, H8, H9, HK⟩
    sl_exec!
    sl_step
    iapply HK $$ %(j, go) %f8 %f9 %⟨rfl, fun _ _ => rfl⟩ [H4 //] [H5 //] [H8 //] [H9 //]
  | succ k ih =>
    intro K bd hbd j go f8 f9 hj hgo
    obtain ⟨hk, rfl⟩ : k + 1 ≤ 32 ∧ j = BitVec.ofNat 32 k := hj
    have hk' : k < 32 := hk
    have hw := chk_loop5 k hk'
    have hj1 := left_sge k hk'
    show _ ⊢ wp frame (wpE (defs₀ (F := F)) Variants.nat (c : Thread nD τ) bd) E (cc0_while5 i a9 h9 a4 h4 a5 h5 q0 q1 tri a8 h8 (BitVec.ofNat 32 k) go) K
    rw [cc0_while5_eq_skeleton]; unfold cc0_while5_skel
    dsimp only
    rw [hj1, one_andi]
    by_cases hg : (Scalar.cmpi .sgt go 0#32 : BitVec 1) = 1#1
    · rw [hg]
      have e4 := fun inb => readAt_blk a4 f4 k hk' _ inb (off_loop5 k hk')
      have e5 := fun inb => readAt_blk a5 f5 k hk' _ inb (off_loop5 k hk')
      iintro ⟨H4, H5, H8, H9, HK⟩
      sl_exec! (disch := exact hw)
      iapply (wp_call Variants.nat (c : Thread nD τ) bd E k (fun u hu => by
        rcases hbd with h | h <;> rw [h] at hu <;> cases hu
        exact Nat.lt_succ_self k))
      generalize hf8 : a8.view.writes (Elt F) f8 _ = f8n
      generalize hf9 : a9.view.writes (Elt F) f9 _ = f9n
      have hvis : cells a8 a9 f8n f9n 4 = (cells a8 a9 f8 f9 4).visit tri q0 q1 (blk (a4.view.read (Elt F) f4) k) (blk (a5.view.read (Elt F) f5) k) := by
        rw [← hf8, ← hf9]
        refine (cells_writes a8 a9 f8 f9 4 _ _ _ _).trans ?_
        let kk := blk (a4.view.read (Elt F) f4) k
        let vv := blk (a5.view.read (Elt F) f5) k
        let s := cells a8 a9 f8 f9 4
        exact St.ext (pay_a0_5 s.c0 vv kk q0 tri s.a0) (pay_a1_5 s.c1 vv kk q1 tri s.a1) (pay_c0_5 s.c0 kk q0) (pay_c1_5 s.c1 kk q1)
      have hrest : ∀ s', s' ≠ 4 → cells a8 a9 f8n f9n s' = cells a8 a9 f8 f9 s' := by
        intro s' hs
        rw [← hf8, ← hf9]
        exact cells_writes_ne a8 a9 f8 f9 4 s' hs _ _ _ _
      refine BIBase.Entails.trans ?_ (ih _ (some k) (.inr rfl) _ _ f8n f9n (left_pred k hk') ?_)
      · iintro ⟨⟨⟨⟨H4, H5⟩, H8⟩, H9⟩, HK⟩
        iframe H4 H5 H8 H9
        iintro %r %f8' %f9' %hf H4 H5 H8 H9
        rw [wp_ret]
        imodintro
        have hf' : cells a8 a9 f8' f9' 4 = St.run tri q0 q1 (blk (a4.view.read (Elt F) f4)) (blk (a5.view.read (Elt F) f5)) (k + 1) (cells a8 a9 f8 f9 4)
            ∧ ∀ s', s' ≠ 4 → cells a8 a9 f8' f9' s' = cells a8 a9 f8 f9 s' :=
          ⟨(hf.1.trans (congrArg _ hvis)).trans (if_pos (hgo ▸ hg)).symm, fun s' hs => (hf.2 s' hs).trans (hrest s' hs)⟩
        iapply HK $$ %r %f8' %f9' %hf' [H4 //] [H5 //] [H8 //] [H9 //]
      · rw [← hf8, ← hf9]
        refine Eq.trans ?_ (congrArg St.go (cells_writes a8 a9 f8 f9 4 _ _ _ _)).symm
        exact congrArg₂ (fun x y => Scalar.extui (Scalar.cmpf .ogt (k0_pay21 x y) (Named.named κ "skip" 0xC3180000#32 : F .f32)))
          (congrArg St.c0 (cells_writes a8 a9 f8 a9.view.junk 4 _ _ _ _)) (congrArg St.c1 (cells_writes a8 a9 f8 a9.view.junk 4 _ _ _ _))
    · rw [if_neg hg]
      iintro ⟨H4, H5, H8, H9, HK⟩
      sl_exec!
      sl_step
      have hf' : cells a8 a9 f8 f9 4 = St.run tri q0 q1 (blk (a4.view.read (Elt F) f4)) (blk (a5.view.read (Elt F) f5)) (k + 1) (cells a8 a9 f8 f9 4)
          ∧ ∀ s', s' ≠ 4 → cells a8 a9 f8 f9 s' = cells a8 a9 f8 f9 s' :=
        ⟨(if_neg (hgo ▸ hg)).symm, fun _ _ => rfl⟩
      iapply HK $$ %(BitVec.ofNat 32 k, go) %f8 %f9 %hf' [H4 //] [H5 //] [H8 //] [H9 //]

theorem pay_a0_6 (c : CarV F) (v k : Vec F S1x256x128 .bf16) (q : FVec F S256x128 .bf16) (tri : FVec F S256x256 .bf16) (a : AccV F) :
    k0_pay690 (k0_pay676 c) (k0_pay679 v) (k0_pay682 q k) (k0_pay684 q tri k) a = putA (addf (getA a) (visA tri q k v (getC c))) := rfl
theorem pay_a1_6 (c : CarV F) (v k : Vec F S1x256x128 .bf16) (q : FVec F S256x128 .bf16) (tri : FVec F S256x256 .bf16) (a : AccV F) :
    k0_pay23 (k0_pay688 tri (k0_pay677 c) (k0_pay679 v) (k0_pay681 q k)) a = putA (addf (getA a) (visA tri q k v (getC c))) := rfl
theorem pay_c0_6 (c : CarV F) (k : Vec F S1x256x128 .bf16) (q : FVec F S256x128 .bf16) :
    k0_pay22 (k0_pay687 (k0_pay676 c) (k0_pay683 q k)) = putC (visC q k (getC c)) := rfl
theorem pay_c1_6 (c : CarV F) (k : Vec F S1x256x128 .bf16) (q : FVec F S256x128 .bf16) :
    k0_pay24 (k0_pay689 (k0_pay677 c) (k0_pay681 q k)) = putC (visC q k (getC c)) := rfl
theorem off_loop6 (k : ℕ) (hk : k < 32) : k0_off9 (BitVec.ofNat 32 k) = ![0, k * 256, 0] :=
  (by decide : ∀ k : Fin 32, k0_off9 (BitVec.ofNat 32 k.val) = ![0, k.val * 256, 0]) ⟨k, hk⟩

theorem chk_loop6 (k : ℕ) (hk : k < 32) : k0_chk6 (BitVec.ofNat 32 k) :=
  (by decide : ∀ k : Fin 32, k0_chk6 (BitVec.ofNat 32 k.val)) ⟨k, hk⟩

set_option maxHeartbeats 8000000 in
theorem loop6 (c : Dev nD) (i : grid0.Coords) (a9 : Memref sig .tc .vmem S8x2x256x1 .f32) (h9 : a9.IsWhole)
    (a4 : Memref sig .tc .vmem S1x8192x128 .bf16) (h4 : a4.IsWhole) (a5 : Memref sig .tc .vmem S1x8192x128 .bf16) (h5 : a5.IsWhole)
    (q0 q1 : FVec F S256x128 .bf16) (tri : FVec F S256x256 .bf16) (a8 : Memref sig .tc .vmem S8x2x256x128 .f32) (h8 : a8.IsWhole)
    (f4 : Buf (Elt F) (a4.view.loc (c : Thread nD τ))) (f5 : Buf (Elt F) (a5.view.loc (c : Thread nD τ))) (E : Set ℕ) (n : ℕ) :
    ∀ (K : BitVec 32 × BitVec 32 → sProp 𝕄) (bd : Option ℕ) (hbd : bd = none ∨ bd = some n) (j go : BitVec 32) (f8 : Buf (Elt F) (a8.view.loc (c : Thread nD τ))) (f9 : Buf (Elt F) (a9.view.loc (c : Thread nD τ))),
    Left n j → go = (cells a8 a9 f8 f9 5).go →
    iprop((a4.view.loc (c : Thread nD τ) ↦{fullShare} f4) ∗ (a5.view.loc (c : Thread nD τ) ↦{fullShare} f5) ∗ (a8.view.loc (c : Thread nD τ) ↦{fullShare} f8) ∗ (a9.view.loc (c : Thread nD τ) ↦{fullShare} f9)
      ∗ (∀ r f8' f9', ⌜cells a8 a9 f8' f9' 5 = St.run tri q0 q1 (blk (a4.view.read (Elt F) f4)) (blk (a5.view.read (Elt F) f5)) n (cells a8 a9 f8 f9 5)
            ∧ ∀ s', s' ≠ 5 → cells a8 a9 f8' f9' s' = cells a8 a9 f8 f9 s'⌝
          -∗ (a4.view.loc (c : Thread nD τ) ↦{fullShare} f4) -∗ (a5.view.loc (c : Thread nD τ) ↦{fullShare} f5) -∗ (a8.view.loc (c : Thread nD τ) ↦{fullShare} f8') -∗ (a9.view.loc (c : Thread nD τ) ↦{fullShare} f9') -∗ K r))
      ⊢ wp frame (wpE (defs₀ (F := F)) Variants.nat (c : Thread nD τ) bd) E (defs₀ (F := F) .tc 6 ⟨i, a9, h9, a4, h4, a5, h5, q0, q1, tri, a8, h8, j, go⟩) K := by
  induction n with
  | zero =>
    intro K bd hbd j go f8 f9 hj hgo
    have hj0 : (Scalar.cmpi .sge j 0#32 : BitVec 1) = 0#1 := hj.2
    show _ ⊢ wp frame (wpE (defs₀ (F := F)) Variants.nat (c : Thread nD τ) bd) E (cc0_while6 i a9 h9 a4 h4 a5 h5 q0 q1 tri a8 h8 j go) K
    rw [cc0_while6_eq_skeleton]; unfold cc0_while6_skel
    dsimp only
    rw [hj0, andi_zero]
    iintro ⟨H4, H5, H8, H9, HK⟩
    sl_exec!
    sl_step
    iapply HK $$ %(j, go) %f8 %f9 %⟨rfl, fun _ _ => rfl⟩ [H4 //] [H5 //] [H8 //] [H9 //]
  | succ k ih =>
    intro K bd hbd j go f8 f9 hj hgo
    obtain ⟨hk, rfl⟩ : k + 1 ≤ 32 ∧ j = BitVec.ofNat 32 k := hj
    have hk' : k < 32 := hk
    have hw := chk_loop6 k hk'
    have hj1 := left_sge k hk'
    show _ ⊢ wp frame (wpE (defs₀ (F := F)) Variants.nat (c : Thread nD τ) bd) E (cc0_while6 i a9 h9 a4 h4 a5 h5 q0 q1 tri a8 h8 (BitVec.ofNat 32 k) go) K
    rw [cc0_while6_eq_skeleton]; unfold cc0_while6_skel
    dsimp only
    rw [hj1, one_andi]
    by_cases hg : (Scalar.cmpi .sgt go 0#32 : BitVec 1) = 1#1
    · rw [hg]
      have e4 := fun inb => readAt_blk a4 f4 k hk' _ inb (off_loop6 k hk')
      have e5 := fun inb => readAt_blk a5 f5 k hk' _ inb (off_loop6 k hk')
      iintro ⟨H4, H5, H8, H9, HK⟩
      sl_exec! (disch := exact hw)
      iapply (wp_call Variants.nat (c : Thread nD τ) bd E k (fun u hu => by
        rcases hbd with h | h <;> rw [h] at hu <;> cases hu
        exact Nat.lt_succ_self k))
      generalize hf8 : a8.view.writes (Elt F) f8 _ = f8n
      generalize hf9 : a9.view.writes (Elt F) f9 _ = f9n
      have hvis : cells a8 a9 f8n f9n 5 = (cells a8 a9 f8 f9 5).visit tri q0 q1 (blk (a4.view.read (Elt F) f4) k) (blk (a5.view.read (Elt F) f5) k) := by
        rw [← hf8, ← hf9]
        refine (cells_writes a8 a9 f8 f9 5 _ _ _ _).trans ?_
        let kk := blk (a4.view.read (Elt F) f4) k
        let vv := blk (a5.view.read (Elt F) f5) k
        let s := cells a8 a9 f8 f9 5
        exact St.ext (pay_a0_6 s.c0 vv kk q0 tri s.a0) (pay_a1_6 s.c1 vv kk q1 tri s.a1) (pay_c0_6 s.c0 kk q0) (pay_c1_6 s.c1 kk q1)
      have hrest : ∀ s', s' ≠ 5 → cells a8 a9 f8n f9n s' = cells a8 a9 f8 f9 s' := by
        intro s' hs
        rw [← hf8, ← hf9]
        exact cells_writes_ne a8 a9 f8 f9 5 s' hs _ _ _ _
      refine BIBase.Entails.trans ?_ (ih _ (some k) (.inr rfl) _ _ f8n f9n (left_pred k hk') ?_)
      · iintro ⟨⟨⟨⟨H4, H5⟩, H8⟩, H9⟩, HK⟩
        iframe H4 H5 H8 H9
        iintro %r %f8' %f9' %hf H4 H5 H8 H9
        rw [wp_ret]
        imodintro
        have hf' : cells a8 a9 f8' f9' 5 = St.run tri q0 q1 (blk (a4.view.read (Elt F) f4)) (blk (a5.view.read (Elt F) f5)) (k + 1) (cells a8 a9 f8 f9 5)
            ∧ ∀ s', s' ≠ 5 → cells a8 a9 f8' f9' s' = cells a8 a9 f8 f9 s' :=
          ⟨(hf.1.trans (congrArg _ hvis)).trans (if_pos (hgo ▸ hg)).symm, fun s' hs => (hf.2 s' hs).trans (hrest s' hs)⟩
        iapply HK $$ %r %f8' %f9' %hf' [H4 //] [H5 //] [H8 //] [H9 //]
      · rw [← hf8, ← hf9]
        refine Eq.trans ?_ (congrArg St.go (cells_writes a8 a9 f8 f9 5 _ _ _ _)).symm
        exact congrArg₂ (fun x y => Scalar.extui (Scalar.cmpf .ogt (k0_pay25 x y) (Named.named κ "skip" 0xC3180000#32 : F .f32)))
          (congrArg St.c0 (cells_writes a8 a9 f8 a9.view.junk 5 _ _ _ _)) (congrArg St.c1 (cells_writes a8 a9 f8 a9.view.junk 5 _ _ _ _))
    · rw [if_neg hg]
      iintro ⟨H4, H5, H8, H9, HK⟩
      sl_exec!
      sl_step
      have hf' : cells a8 a9 f8 f9 5 = St.run tri q0 q1 (blk (a4.view.read (Elt F) f4)) (blk (a5.view.read (Elt F) f5)) (k + 1) (cells a8 a9 f8 f9 5)
          ∧ ∀ s', s' ≠ 5 → cells a8 a9 f8 f9 s' = cells a8 a9 f8 f9 s' :=
        ⟨(if_neg (hgo ▸ hg)).symm, fun _ _ => rfl⟩
      iapply HK $$ %(BitVec.ofNat 32 k, go) %f8 %f9 %hf' [H4 //] [H5 //] [H8 //] [H9 //]

theorem pay_a0_7 (c : CarV F) (v k : Vec F S1x256x128 .bf16) (q : FVec F S256x128 .bf16) (tri : FVec F S256x256 .bf16) (a : AccV F) :
    k0_pay705 (k0_pay691 c) (k0_pay694 v) (k0_pay697 q k) (k0_pay699 q tri k) a = putA (addf (getA a) (visA tri q k v (getC c))) := rfl
theorem pay_a1_7 (c : CarV F) (v k : Vec F S1x256x128 .bf16) (q : FVec F S256x128 .bf16) (tri : FVec F S256x256 .bf16) (a : AccV F) :
    k0_pay27 (k0_pay703 tri (k0_pay692 c) (k0_pay694 v) (k0_pay696 q k)) a = putA (addf (getA a) (visA tri q k v (getC c))) := rfl
theorem pay_c0_7 (c : CarV F) (k : Vec F S1x256x128 .bf16) (q : FVec F S256x128 .bf16) :
    k0_pay26 (k0_pay702 (k0_pay691 c) (k0_pay698 q k)) = putC (visC q k (getC c)) := rfl
theorem pay_c1_7 (c : CarV F) (k : Vec F S1x256x128 .bf16) (q : FVec F S256x128 .bf16) :
    k0_pay28 (k0_pay704 (k0_pay692 c) (k0_pay696 q k)) = putC (visC q k (getC c)) := rfl
theorem off_loop7 (k : ℕ) (hk : k < 32) : k0_off10 (BitVec.ofNat 32 k) = ![0, k * 256, 0] :=
  (by decide : ∀ k : Fin 32, k0_off10 (BitVec.ofNat 32 k.val) = ![0, k.val * 256, 0]) ⟨k, hk⟩

theorem chk_loop7 (k : ℕ) (hk : k < 32) : k0_chk7 (BitVec.ofNat 32 k) :=
  (by decide : ∀ k : Fin 32, k0_chk7 (BitVec.ofNat 32 k.val)) ⟨k, hk⟩

set_option maxHeartbeats 8000000 in
theorem loop7 (c : Dev nD) (i : grid0.Coords) (a9 : Memref sig .tc .vmem S8x2x256x1 .f32) (h9 : a9.IsWhole)
    (a4 : Memref sig .tc .vmem S1x8192x128 .bf16) (h4 : a4.IsWhole) (a5 : Memref sig .tc .vmem S1x8192x128 .bf16) (h5 : a5.IsWhole)
    (q0 q1 : FVec F S256x128 .bf16) (tri : FVec F S256x256 .bf16) (a8 : Memref sig .tc .vmem S8x2x256x128 .f32) (h8 : a8.IsWhole)
    (f4 : Buf (Elt F) (a4.view.loc (c : Thread nD τ))) (f5 : Buf (Elt F) (a5.view.loc (c : Thread nD τ))) (E : Set ℕ) (n : ℕ) :
    ∀ (K : BitVec 32 × BitVec 32 → sProp 𝕄) (bd : Option ℕ) (hbd : bd = none ∨ bd = some n) (j go : BitVec 32) (f8 : Buf (Elt F) (a8.view.loc (c : Thread nD τ))) (f9 : Buf (Elt F) (a9.view.loc (c : Thread nD τ))),
    Left n j → go = (cells a8 a9 f8 f9 6).go →
    iprop((a4.view.loc (c : Thread nD τ) ↦{fullShare} f4) ∗ (a5.view.loc (c : Thread nD τ) ↦{fullShare} f5) ∗ (a8.view.loc (c : Thread nD τ) ↦{fullShare} f8) ∗ (a9.view.loc (c : Thread nD τ) ↦{fullShare} f9)
      ∗ (∀ r f8' f9', ⌜cells a8 a9 f8' f9' 6 = St.run tri q0 q1 (blk (a4.view.read (Elt F) f4)) (blk (a5.view.read (Elt F) f5)) n (cells a8 a9 f8 f9 6)
            ∧ ∀ s', s' ≠ 6 → cells a8 a9 f8' f9' s' = cells a8 a9 f8 f9 s'⌝
          -∗ (a4.view.loc (c : Thread nD τ) ↦{fullShare} f4) -∗ (a5.view.loc (c : Thread nD τ) ↦{fullShare} f5) -∗ (a8.view.loc (c : Thread nD τ) ↦{fullShare} f8') -∗ (a9.view.loc (c : Thread nD τ) ↦{fullShare} f9') -∗ K r))
      ⊢ wp frame (wpE (defs₀ (F := F)) Variants.nat (c : Thread nD τ) bd) E (defs₀ (F := F) .tc 7 ⟨i, a9, h9, a4, h4, a5, h5, q0, q1, tri, a8, h8, j, go⟩) K := by
  induction n with
  | zero =>
    intro K bd hbd j go f8 f9 hj hgo
    have hj0 : (Scalar.cmpi .sge j 0#32 : BitVec 1) = 0#1 := hj.2
    show _ ⊢ wp frame (wpE (defs₀ (F := F)) Variants.nat (c : Thread nD τ) bd) E (cc0_while7 i a9 h9 a4 h4 a5 h5 q0 q1 tri a8 h8 j go) K
    rw [cc0_while7_eq_skeleton]; unfold cc0_while7_skel
    dsimp only
    rw [hj0, andi_zero]
    iintro ⟨H4, H5, H8, H9, HK⟩
    sl_exec!
    sl_step
    iapply HK $$ %(j, go) %f8 %f9 %⟨rfl, fun _ _ => rfl⟩ [H4 //] [H5 //] [H8 //] [H9 //]
  | succ k ih =>
    intro K bd hbd j go f8 f9 hj hgo
    obtain ⟨hk, rfl⟩ : k + 1 ≤ 32 ∧ j = BitVec.ofNat 32 k := hj
    have hk' : k < 32 := hk
    have hw := chk_loop7 k hk'
    have hj1 := left_sge k hk'
    show _ ⊢ wp frame (wpE (defs₀ (F := F)) Variants.nat (c : Thread nD τ) bd) E (cc0_while7 i a9 h9 a4 h4 a5 h5 q0 q1 tri a8 h8 (BitVec.ofNat 32 k) go) K
    rw [cc0_while7_eq_skeleton]; unfold cc0_while7_skel
    dsimp only
    rw [hj1, one_andi]
    by_cases hg : (Scalar.cmpi .sgt go 0#32 : BitVec 1) = 1#1
    · rw [hg]
      have e4 := fun inb => readAt_blk a4 f4 k hk' _ inb (off_loop7 k hk')
      have e5 := fun inb => readAt_blk a5 f5 k hk' _ inb (off_loop7 k hk')
      iintro ⟨H4, H5, H8, H9, HK⟩
      sl_exec! (disch := exact hw)
      iapply (wp_call Variants.nat (c : Thread nD τ) bd E k (fun u hu => by
        rcases hbd with h | h <;> rw [h] at hu <;> cases hu
        exact Nat.lt_succ_self k))
      generalize hf8 : a8.view.writes (Elt F) f8 _ = f8n
      generalize hf9 : a9.view.writes (Elt F) f9 _ = f9n
      have hvis : cells a8 a9 f8n f9n 6 = (cells a8 a9 f8 f9 6).visit tri q0 q1 (blk (a4.view.read (Elt F) f4) k) (blk (a5.view.read (Elt F) f5) k) := by
        rw [← hf8, ← hf9]
        refine (cells_writes a8 a9 f8 f9 6 _ _ _ _).trans ?_
        let kk := blk (a4.view.read (Elt F) f4) k
        let vv := blk (a5.view.read (Elt F) f5) k
        let s := cells a8 a9 f8 f9 6
        exact St.ext (pay_a0_7 s.c0 vv kk q0 tri s.a0) (pay_a1_7 s.c1 vv kk q1 tri s.a1) (pay_c0_7 s.c0 kk q0) (pay_c1_7 s.c1 kk q1)
      have hrest : ∀ s', s' ≠ 6 → cells a8 a9 f8n f9n s' = cells a8 a9 f8 f9 s' := by
        intro s' hs
        rw [← hf8, ← hf9]
        exact cells_writes_ne a8 a9 f8 f9 6 s' hs _ _ _ _
      refine BIBase.Entails.trans ?_ (ih _ (some k) (.inr rfl) _ _ f8n f9n (left_pred k hk') ?_)
      · iintro ⟨⟨⟨⟨H4, H5⟩, H8⟩, H9⟩, HK⟩
        iframe H4 H5 H8 H9
        iintro %r %f8' %f9' %hf H4 H5 H8 H9
        rw [wp_ret]
        imodintro
        have hf' : cells a8 a9 f8' f9' 6 = St.run tri q0 q1 (blk (a4.view.read (Elt F) f4)) (blk (a5.view.read (Elt F) f5)) (k + 1) (cells a8 a9 f8 f9 6)
            ∧ ∀ s', s' ≠ 6 → cells a8 a9 f8' f9' s' = cells a8 a9 f8 f9 s' :=
          ⟨(hf.1.trans (congrArg _ hvis)).trans (if_pos (hgo ▸ hg)).symm, fun s' hs => (hf.2 s' hs).trans (hrest s' hs)⟩
        iapply HK $$ %r %f8' %f9' %hf' [H4 //] [H5 //] [H8 //] [H9 //]
      · rw [← hf8, ← hf9]
        refine Eq.trans ?_ (congrArg St.go (cells_writes a8 a9 f8 f9 6 _ _ _ _)).symm
        exact congrArg₂ (fun x y => Scalar.extui (Scalar.cmpf .ogt (k0_pay29 x y) (Named.named κ "skip" 0xC3180000#32 : F .f32)))
          (congrArg St.c0 (cells_writes a8 a9 f8 a9.view.junk 6 _ _ _ _)) (congrArg St.c1 (cells_writes a8 a9 f8 a9.view.junk 6 _ _ _ _))
    · rw [if_neg hg]
      iintro ⟨H4, H5, H8, H9, HK⟩
      sl_exec!
      sl_step
      have hf' : cells a8 a9 f8 f9 6 = St.run tri q0 q1 (blk (a4.view.read (Elt F) f4)) (blk (a5.view.read (Elt F) f5)) (k + 1) (cells a8 a9 f8 f9 6)
          ∧ ∀ s', s' ≠ 6 → cells a8 a9 f8 f9 s' = cells a8 a9 f8 f9 s' :=
        ⟨(if_neg (hgo ▸ hg)).symm, fun _ _ => rfl⟩
      iapply HK $$ %(BitVec.ofNat 32 k, go) %f8 %f9 %hf' [H4 //] [H5 //] [H8 //] [H9 //]

theorem pay_a0_8 (c : CarV F) (v k : Vec F S1x256x128 .bf16) (q : FVec F S256x128 .bf16) (tri : FVec F S256x256 .bf16) (a : AccV F) :
    k0_pay720 (k0_pay706 c) (k0_pay709 v) (k0_pay712 q k) (k0_pay714 q tri k) a = putA (addf (getA a) (visA tri q k v (getC c))) := rfl
theorem pay_a1_8 (c : CarV F) (v k : Vec F S1x256x128 .bf16) (q : FVec F S256x128 .bf16) (tri : FVec F S256x256 .bf16) (a : AccV F) :
    k0_pay31 (k0_pay718 tri (k0_pay707 c) (k0_pay709 v) (k0_pay711 q k)) a = putA (addf (getA a) (visA tri q k v (getC c))) := rfl
theorem pay_c0_8 (c : CarV F) (k : Vec F S1x256x128 .bf16) (q : FVec F S256x128 .bf16) :
    k0_pay30 (k0_pay717 (k0_pay706 c) (k0_pay713 q k)) = putC (visC q k (getC c)) := rfl
theorem pay_c1_8 (c : CarV F) (k : Vec F S1x256x128 .bf16) (q : FVec F S256x128 .bf16) :
    k0_pay32 (k0_pay719 (k0_pay707 c) (k0_pay711 q k)) = putC (visC q k (getC c)) := rfl
theorem off_loop8 (k : ℕ) (hk : k < 32) : k0_off11 (BitVec.ofNat 32 k) = ![0, k * 256, 0] :=
  (by decide : ∀ k : Fin 32, k0_off11 (BitVec.ofNat 32 k.val) = ![0, k.val * 256, 0]) ⟨k, hk⟩

theorem chk_loop8 (k : ℕ) (hk : k < 32) : k0_chk8 (BitVec.ofNat 32 k) :=
  (by decide : ∀ k : Fin 32, k0_chk8 (BitVec.ofNat 32 k.val)) ⟨k, hk⟩

set_option maxHeartbeats 8000000 in
theorem loop8 (c : Dev nD) (i : grid0.Coords) (a9 : Memref sig .tc .vmem S8x2x256x1 .f32) (h9 : a9.IsWhole)
    (a4 : Memref sig .tc .vmem S1x8192x128 .bf16) (h4 : a4.IsWhole) (a5 : Memref sig .tc .vmem S1x8192x128 .bf16) (h5 : a5.IsWhole)
    (q0 q1 : FVec F S256x128 .bf16) (tri : FVec F S256x256 .bf16) (a8 : Memref sig .tc .vmem S8x2x256x128 .f32) (h8 : a8.IsWhole)
    (f4 : Buf (Elt F) (a4.view.loc (c : Thread nD τ))) (f5 : Buf (Elt F) (a5.view.loc (c : Thread nD τ))) (E : Set ℕ) (n : ℕ) :
    ∀ (K : BitVec 32 × BitVec 32 → sProp 𝕄) (bd : Option ℕ) (hbd : bd = none ∨ bd = some n) (j go : BitVec 32) (f8 : Buf (Elt F) (a8.view.loc (c : Thread nD τ))) (f9 : Buf (Elt F) (a9.view.loc (c : Thread nD τ))),
    Left n j → go = (cells a8 a9 f8 f9 7).go →
    iprop((a4.view.loc (c : Thread nD τ) ↦{fullShare} f4) ∗ (a5.view.loc (c : Thread nD τ) ↦{fullShare} f5) ∗ (a8.view.loc (c : Thread nD τ) ↦{fullShare} f8) ∗ (a9.view.loc (c : Thread nD τ) ↦{fullShare} f9)
      ∗ (∀ r f8' f9', ⌜cells a8 a9 f8' f9' 7 = St.run tri q0 q1 (blk (a4.view.read (Elt F) f4)) (blk (a5.view.read (Elt F) f5)) n (cells a8 a9 f8 f9 7)
            ∧ ∀ s', s' ≠ 7 → cells a8 a9 f8' f9' s' = cells a8 a9 f8 f9 s'⌝
          -∗ (a4.view.loc (c : Thread nD τ) ↦{fullShare} f4) -∗ (a5.view.loc (c : Thread nD τ) ↦{fullShare} f5) -∗ (a8.view.loc (c : Thread nD τ) ↦{fullShare} f8') -∗ (a9.view.loc (c : Thread nD τ) ↦{fullShare} f9') -∗ K r))
      ⊢ wp frame (wpE (defs₀ (F := F)) Variants.nat (c : Thread nD τ) bd) E (defs₀ (F := F) .tc 8 ⟨i, a9, h9, a4, h4, a5, h5, q0, q1, tri, a8, h8, j, go⟩) K := by
  induction n with
  | zero =>
    intro K bd hbd j go f8 f9 hj hgo
    have hj0 : (Scalar.cmpi .sge j 0#32 : BitVec 1) = 0#1 := hj.2
    show _ ⊢ wp frame (wpE (defs₀ (F := F)) Variants.nat (c : Thread nD τ) bd) E (cc0_while8 i a9 h9 a4 h4 a5 h5 q0 q1 tri a8 h8 j go) K
    rw [cc0_while8_eq_skeleton]; unfold cc0_while8_skel
    dsimp only
    rw [hj0, andi_zero]
    iintro ⟨H4, H5, H8, H9, HK⟩
    sl_exec!
    sl_step
    iapply HK $$ %(j, go) %f8 %f9 %⟨rfl, fun _ _ => rfl⟩ [H4 //] [H5 //] [H8 //] [H9 //]
  | succ k ih =>
    intro K bd hbd j go f8 f9 hj hgo
    obtain ⟨hk, rfl⟩ : k + 1 ≤ 32 ∧ j = BitVec.ofNat 32 k := hj
    have hk' : k < 32 := hk
    have hw := chk_loop8 k hk'
    have hj1 := left_sge k hk'
    show _ ⊢ wp frame (wpE (defs₀ (F := F)) Variants.nat (c : Thread nD τ) bd) E (cc0_while8 i a9 h9 a4 h4 a5 h5 q0 q1 tri a8 h8 (BitVec.ofNat 32 k) go) K
    rw [cc0_while8_eq_skeleton]; unfold cc0_while8_skel
    dsimp only
    rw [hj1, one_andi]
    by_cases hg : (Scalar.cmpi .sgt go 0#32 : BitVec 1) = 1#1
    · rw [hg]
      have e4 := fun inb => readAt_blk a4 f4 k hk' _ inb (off_loop8 k hk')
      have e5 := fun inb => readAt_blk a5 f5 k hk' _ inb (off_loop8 k hk')
      iintro ⟨H4, H5, H8, H9, HK⟩
      sl_exec! (disch := exact hw)
      iapply (wp_call Variants.nat (c : Thread nD τ) bd E k (fun u hu => by
        rcases hbd with h | h <;> rw [h] at hu <;> cases hu
        exact Nat.lt_succ_self k))
      generalize hf8 : a8.view.writes (Elt F) f8 _ = f8n
      generalize hf9 : a9.view.writes (Elt F) f9 _ = f9n
      have hvis : cells a8 a9 f8n f9n 7 = (cells a8 a9 f8 f9 7).visit tri q0 q1 (blk (a4.view.read (Elt F) f4) k) (blk (a5.view.read (Elt F) f5) k) := by
        rw [← hf8, ← hf9]
        refine (cells_writes a8 a9 f8 f9 7 _ _ _ _).trans ?_
        let kk := blk (a4.view.read (Elt F) f4) k
        let vv := blk (a5.view.read (Elt F) f5) k
        let s := cells a8 a9 f8 f9 7
        exact St.ext (pay_a0_8 s.c0 vv kk q0 tri s.a0) (pay_a1_8 s.c1 vv kk q1 tri s.a1) (pay_c0_8 s.c0 kk q0) (pay_c1_8 s.c1 kk q1)
      have hrest : ∀ s', s' ≠ 7 → cells a8 a9 f8n f9n s' = cells a8 a9 f8 f9 s' := by
        intro s' hs
        rw [← hf8, ← hf9]
        exact cells_writes_ne a8 a9 f8 f9 7 s' hs _ _ _ _
      refine BIBase.Entails.trans ?_ (ih _ (some k) (.inr rfl) _ _ f8n f9n (left_pred k hk') ?_)
      · iintro ⟨⟨⟨⟨H4, H5⟩, H8⟩, H9⟩, HK⟩
        iframe H4 H5 H8 H9
        iintro %r %f8' %f9' %hf H4 H5 H8 H9
        rw [wp_ret]
        imodintro
        have hf' : cells a8 a9 f8' f9' 7 = St.run tri q0 q1 (blk (a4.view.read (Elt F) f4)) (blk (a5.view.read (Elt F) f5)) (k + 1) (cells a8 a9 f8 f9 7)
            ∧ ∀ s', s' ≠ 7 → cells a8 a9 f8' f9' s' = cells a8 a9 f8 f9 s' :=
          ⟨(hf.1.trans (congrArg _ hvis)).trans (if_pos (hgo ▸ hg)).symm, fun s' hs => (hf.2 s' hs).trans (hrest s' hs)⟩
        iapply HK $$ %r %f8' %f9' %hf' [H4 //] [H5 //] [H8 //] [H9 //]
      · rw [← hf8, ← hf9]
        refine Eq.trans ?_ (congrArg St.go (cells_writes a8 a9 f8 f9 7 _ _ _ _)).symm
        exact congrArg₂ (fun x y => Scalar.extui (Scalar.cmpf .ogt (k0_pay33 x y) (Named.named κ "skip" 0xC3180000#32 : F .f32)))
          (congrArg St.c0 (cells_writes a8 a9 f8 a9.view.junk 7 _ _ _ _)) (congrArg St.c1 (cells_writes a8 a9 f8 a9.view.junk 7 _ _ _ _))
    · rw [if_neg hg]
      iintro ⟨H4, H5, H8, H9, HK⟩
      sl_exec!
      sl_step
      have hf' : cells a8 a9 f8 f9 7 = St.run tri q0 q1 (blk (a4.view.read (Elt F) f4)) (blk (a5.view.read (Elt F) f5)) (k + 1) (cells a8 a9 f8 f9 7)
          ∧ ∀ s', s' ≠ 7 → cells a8 a9 f8 f9 s' = cells a8 a9 f8 f9 s' :=
        ⟨(if_neg (hgo ▸ hg)).symm, fun _ _ => rfl⟩
      iapply HK $$ %(BitVec.ofNat 32 k, go) %f8 %f9 %hf' [H4 //] [H5 //] [H8 //] [H9 //]

end Cert.Kernel3Ideal.Attention

end
-- ==== Proof.AttnBody.lean ====
/-
  The attention's body at one grid point.
-/
module

public import proofs.«01_k».proof.Proof.AttnLoops1
public import proofs.«01_k».proof.Proof.AttnLoops2

@[expose] public section

set_option maxRecDepth 16384

noncomputable section

namespace Cert.Kernel3Ideal.Attention

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What the body stores of eight blocks of results, the last first. -/
def outs (o : Fin 8 → Vec F S1x256x128 .bf16) : List (View.Piece (Elt F) S1x2048x128 .bf16) :=
  [⟨rQ 7, o 7⟩, ⟨rQ 6, o 6⟩, ⟨rQ 5, o 5⟩, ⟨rQ 4, o 4⟩, ⟨rQ 3, o 3⟩, ⟨rQ 2, o 2⟩, ⟨rQ 1, o 1⟩, ⟨rQ 0, o 0⟩]
set_option maxHeartbeats 40000000 in
theorem body_zero (c : Dev nD) (i : grid0.Coords) (a3 : Memref sig .tc .vmem S1x2048x128 .bf16) (h3 : a3.IsWhole)
    (a4 : Memref sig .tc .vmem S1x8192x128 .bf16) (h4 : a4.IsWhole) (a5 : Memref sig .tc .vmem S1x8192x128 .bf16) (h5 : a5.IsWhole)
    (a6 : Memref sig .tc .vmem S256x256 .bf16) (h6 : a6.IsWhole) (a7 : Memref sig .tc .vmem S1x2048x128 .bf16) (h7 : a7.IsWhole)
    (a8 : Memref sig .tc .vmem S8x2x256x128 .f32) (h8 : a8.IsWhole) (a9 : Memref sig .tc .vmem S8x2x256x1 .f32) (h9 : a9.IsWhole)
    (f3 : Buf (Elt F) (a3.view.loc (c : Thread nD τ))) (f4 : Buf (Elt F) (a4.view.loc (c : Thread nD τ))) (f5 : Buf (Elt F) (a5.view.loc (c : Thread nD τ)))
    (f6 : Buf (Elt F) (a6.view.loc (c : Thread nD τ))) (f7 : Buf (Elt F) (a7.view.loc (c : Thread nD τ))) (f8 : Buf (Elt F) (a8.view.loc (c : Thread nD τ)))
    (f9 : Buf (Elt F) (a9.view.loc (c : Thread nD τ))) (E : Set ℕ) (K : PUnit → sProp 𝕄) (hc1 : k0_cond1 i = 1#1) (hc2 : ¬ k0_cond2 i = 1#1) :
    iprop((a3.view.loc (c : Thread nD τ) ↦{fullShare} f3) ∗ (a4.view.loc (c : Thread nD τ) ↦{fullShare} f4) ∗ (a5.view.loc (c : Thread nD τ) ↦{fullShare} f5) ∗ (a6.view.loc (c : Thread nD τ) ↦{fullShare} f6)
      ∗ (a7.view.loc (c : Thread nD τ) ↦{fullShare} f7) ∗ (a8.view.loc (c : Thread nD τ) ↦{fullShare} f8) ∗ (a9.view.loc (c : Thread nD τ) ↦{fullShare} f9) ∗ (iprop((a3.view.loc (c : Thread nD τ) ↦{fullShare} f3) ∗ (a4.view.loc (c : Thread nD τ) ↦{fullShare} f4) ∗ (a5.view.loc (c : Thread nD τ) ↦{fullShare} f5) ∗ (a6.view.loc (c : Thread nD τ) ↦{fullShare} f6)
        ∗ (a7.view.loc (c : Thread nD τ) ↦{fullShare} a7.view.writes (Elt F) a7.view.junk (outs (fun s : Fin 8 => St.out (St.run (k0_pay540 (a6.view.readAt (Elt F) (Rect.unit (s := S256x256) ![0, 0] S256x256.size inb_S256x256_S256x256_0_0).toLoadRect f6)) (qh0 ((fun s : Fin 8 => a3.view.readAt (Elt F) (rQ s).toLoadRect f3) s)) (qh1 ((fun s : Fin 8 => a3.view.readAt (Elt F) (rQ s).toLoadRect f3) s)) (blk (a4.view.read (Elt F) f4)) (blk (a5.view.read (Elt F) f5)) (8 * (i 2).val + s.val - 1) (startsZero (k0_pay540 (a6.view.readAt (Elt F) (Rect.unit (s := S256x256) ![0, 0] S256x256.size inb_S256x256_S256x256_0_0).toLoadRect f6)) (fun s : Fin 8 => a3.view.readAt (Elt F) (rQ s).toLoadRect f3) (fun s : Fin 8 => a4.view.readAt (Elt F) (Rect.unit (s := S1x8192x128) (k0_off1 i (BitVec.ofNat 32 s.val)) S1x256x128.size (k0_off1_inb i hc1 s)).toLoadRect f4) (fun s : Fin 8 => a5.view.readAt (Elt F) (Rect.unit (s := S1x8192x128) (k0_off1 i (BitVec.ofNat 32 s.val)) S1x256x128.size (k0_off1_inb i hc1 s)).toLoadRect f5) s)))))
        ∗ (∃ f, a8.view.loc (c : Thread nD τ) ↦{fullShare} f) ∗ (∃ f, a9.view.loc (c : Thread nD τ) ↦{fullShare} f)) -∗ K ⟨⟩))
      ⊢ wp frame (wpE (defs₀ (F := F)) Variants.nat (c : Thread nD τ) none) E (cc0_sb_attention i a3 h3 a4 h4 a5 h5 a6 h6 a7 h7 a8 h8 a9 h9) K := by
  let tri : FVec F S256x256 .bf16 := k0_pay540 (a6.view.readAt (Elt F) (Rect.unit (s := S256x256) ![0, 0] S256x256.size inb_S256x256_S256x256_0_0).toLoadRect f6)
  let q : Fin 8 → Vec F S1x256x128 .bf16 := fun s => a3.view.readAt (Elt F) (rQ s).toLoadRect f3
  let kl : Fin 8 → Vec F S1x256x128 .bf16 := fun s => a4.view.readAt (Elt F) (Rect.unit (s := S1x8192x128) (k0_off1 i (BitVec.ofNat 32 s.val)) S1x256x128.size (k0_off1_inb i hc1 s)).toLoadRect f4
  let vl : Fin 8 → Vec F S1x256x128 .bf16 := fun s => a5.view.readAt (Elt F) (Rect.unit (s := S1x8192x128) (k0_off1 i (BitVec.ofNat 32 s.val)) S1x256x128.size (k0_off1_inb i hc1 s)).toLoadRect f5
  let ini := startsZero tri q kl vl
  let fin : Fin 8 → St F := fun s => St.run tri (qh0 (q s)) (qh1 (q s)) (blk (a4.view.read (Elt F) f4)) (blk (a5.view.read (Elt F) f5)) (8 * (i 2).val + s.val - 1) (ini s)
  rw [cc0_sb_attention_eq_skeleton]; unfold cc0_sb_attention_skel
  iintro ⟨H3, H4, H5, H6, H7, H8, H9, HK⟩
  sl_exec!
  generalize hf8 : a8.view.writes (Elt F) _ _ = f8_0
  generalize hf9 : a9.view.writes (Elt F) _ _ = f9_0
  have hu0 : Upto a8 a9 ini fin 0 f8_0 f9_0 := by
    rw [← hf8, ← hf9]
    refine upto_zero ini fin _ _ _ _ ?_ ?_
    · rfl
    · rfl
  iapply (wp_call Variants.nat (c : Thread nD τ) none E (8 * (i 2).val + 0 - 1) (fun u hu => nomatch hu))
  refine BIBase.Entails.trans ?_ (loop1 c i a9 h9 a4 h4 a5 h5 (qh0 (q 0)) (qh1 (q 0)) tri a8 h8 f4 f5 E (8 * (i 2).val + 0 - 1) _ _ (.inr rfl) _ _ f8_0 f9_0 (left_start (i 2) 0) ?_)
  rotate_left
  · rw [← hf8, ← hf9]; rfl
  iintro ⟨⟨⟨⟨⟨⟨⟨H3, H4⟩, H5⟩, H6⟩, H7⟩, H8⟩, H9⟩, HK⟩
  iframe H4 H5 H8 H9
  iintro %r_0 %f8_1 %f9_1 %hf_0 H4 H5 H8 H9
  obtain ⟨r0_0, r1_0⟩ := r_0
  have hu1 : Upto a8 a9 ini fin 1 f8_1 f9_1 := hu0.step 0 rfl _ rfl hf_0
  sl_exec!
  iapply (wp_call Variants.nat (c : Thread nD τ) none E (8 * (i 2).val + 1 - 1) (fun u hu => nomatch hu))
  refine BIBase.Entails.trans ?_ (loop2 c i a9 h9 a4 h4 a5 h5 (qh0 (q 1)) (qh1 (q 1)) tri a8 h8 f4 f5 E (8 * (i 2).val + 1 - 1) _ _ (.inr rfl) _ _ f8_1 f9_1 (left_start (i 2) 1) ?_)
  rotate_left
  · rfl
  iintro ⟨⟨⟨⟨⟨⟨⟨H3, H6⟩, H7⟩, HK⟩, H4⟩, H5⟩, H8⟩, H9⟩
  iframe H4 H5 H8 H9
  iintro %r_1 %f8_2 %f9_2 %hf_1 H4 H5 H8 H9
  obtain ⟨r0_1, r1_1⟩ := r_1
  have hu2 : Upto a8 a9 ini fin 2 f8_2 f9_2 := hu1.step 1 rfl _ rfl hf_1
  sl_exec!
  iapply (wp_call Variants.nat (c : Thread nD τ) none E (8 * (i 2).val + 2 - 1) (fun u hu => nomatch hu))
  refine BIBase.Entails.trans ?_ (loop3 c i a9 h9 a4 h4 a5 h5 (qh0 (q 2)) (qh1 (q 2)) tri a8 h8 f4 f5 E (8 * (i 2).val + 2 - 1) _ _ (.inr rfl) _ _ f8_2 f9_2 (left_start (i 2) 2) ?_)
  rotate_left
  · rfl
  iintro ⟨⟨⟨⟨⟨⟨⟨H3, H6⟩, H7⟩, HK⟩, H4⟩, H5⟩, H8⟩, H9⟩
  iframe H4 H5 H8 H9
  iintro %r_2 %f8_3 %f9_3 %hf_2 H4 H5 H8 H9
  obtain ⟨r0_2, r1_2⟩ := r_2
  have hu3 : Upto a8 a9 ini fin 3 f8_3 f9_3 := hu2.step 2 rfl _ rfl hf_2
  sl_exec!
  iapply (wp_call Variants.nat (c : Thread nD τ) none E (8 * (i 2).val + 3 - 1) (fun u hu => nomatch hu))
  refine BIBase.Entails.trans ?_ (loop4 c i a9 h9 a4 h4 a5 h5 (qh0 (q 3)) (qh1 (q 3)) tri a8 h8 f4 f5 E (8 * (i 2).val + 3 - 1) _ _ (.inr rfl) _ _ f8_3 f9_3 (left_start (i 2) 3) ?_)
  rotate_left
  · rfl
  iintro ⟨⟨⟨⟨⟨⟨⟨H3, H6⟩, H7⟩, HK⟩, H4⟩, H5⟩, H8⟩, H9⟩
  iframe H4 H5 H8 H9
  iintro %r_3 %f8_4 %f9_4 %hf_3 H4 H5 H8 H9
  obtain ⟨r0_3, r1_3⟩ := r_3
  have hu4 : Upto a8 a9 ini fin 4 f8_4 f9_4 := hu3.step 3 rfl _ rfl hf_3
  sl_exec!
  iapply (wp_call Variants.nat (c : Thread nD τ) none E (8 * (i 2).val + 4 - 1) (fun u hu => nomatch hu))
  refine BIBase.Entails.trans ?_ (loop5 c i a9 h9 a4 h4 a5 h5 (qh0 (q 4)) (qh1 (q 4)) tri a8 h8 f4 f5 E (8 * (i 2).val + 4 - 1) _ _ (.inr rfl) _ _ f8_4 f9_4 (left_start (i 2) 4) ?_)
  rotate_left
  · rfl
  iintro ⟨⟨⟨⟨⟨⟨⟨H3, H6⟩, H7⟩, HK⟩, H4⟩, H5⟩, H8⟩, H9⟩
  iframe H4 H5 H8 H9
  iintro %r_4 %f8_5 %f9_5 %hf_4 H4 H5 H8 H9
  obtain ⟨r0_4, r1_4⟩ := r_4
  have hu5 : Upto a8 a9 ini fin 5 f8_5 f9_5 := hu4.step 4 rfl _ rfl hf_4
  sl_exec!
  iapply (wp_call Variants.nat (c : Thread nD τ) none E (8 * (i 2).val + 5 - 1) (fun u hu => nomatch hu))
  refine BIBase.Entails.trans ?_ (loop6 c i a9 h9 a4 h4 a5 h5 (qh0 (q 5)) (qh1 (q 5)) tri a8 h8 f4 f5 E (8 * (i 2).val + 5 - 1) _ _ (.inr rfl) _ _ f8_5 f9_5 (left_start (i 2) 5) ?_)
  rotate_left
  · rfl
  iintro ⟨⟨⟨⟨⟨⟨⟨H3, H6⟩, H7⟩, HK⟩, H4⟩, H5⟩, H8⟩, H9⟩
  iframe H4 H5 H8 H9
  iintro %r_5 %f8_6 %f9_6 %hf_5 H4 H5 H8 H9
  obtain ⟨r0_5, r1_5⟩ := r_5
  have hu6 : Upto a8 a9 ini fin 6 f8_6 f9_6 := hu5.step 5 rfl _ rfl hf_5
  sl_exec!
  iapply (wp_call Variants.nat (c : Thread nD τ) none E (8 * (i 2).val + 6 - 1) (fun u hu => nomatch hu))
  refine BIBase.Entails.trans ?_ (loop7 c i a9 h9 a4 h4 a5 h5 (qh0 (q 6)) (qh1 (q 6)) tri a8 h8 f4 f5 E (8 * (i 2).val + 6 - 1) _ _ (.inr rfl) _ _ f8_6 f9_6 (left_start (i 2) 6) ?_)
  rotate_left
  · rfl
  iintro ⟨⟨⟨⟨⟨⟨⟨H3, H6⟩, H7⟩, HK⟩, H4⟩, H5⟩, H8⟩, H9⟩
  iframe H4 H5 H8 H9
  iintro %r_6 %f8_7 %f9_7 %hf_6 H4 H5 H8 H9
  obtain ⟨r0_6, r1_6⟩ := r_6
  have hu7 : Upto a8 a9 ini fin 7 f8_7 f9_7 := hu6.step 6 rfl _ rfl hf_6
  sl_exec!
  iapply (wp_call Variants.nat (c : Thread nD τ) none E (8 * (i 2).val + 7 - 1) (fun u hu => nomatch hu))
  refine BIBase.Entails.trans ?_ (loop8 c i a9 h9 a4 h4 a5 h5 (qh0 (q 7)) (qh1 (q 7)) tri a8 h8 f4 f5 E (8 * (i 2).val + 7 - 1) _ _ (.inr rfl) _ _ f8_7 f9_7 (left_start (i 2) 7) ?_)
  rotate_left
  · rfl
  iintro ⟨⟨⟨⟨⟨⟨⟨H3, H6⟩, H7⟩, HK⟩, H4⟩, H5⟩, H8⟩, H9⟩
  iframe H4 H5 H8 H9
  iintro %r_7 %f8_8 %f9_8 %hf_7 H4 H5 H8 H9
  obtain ⟨r0_7, r1_7⟩ := r_7
  have hu8 : Upto a8 a9 ini fin 8 f8_8 f9_8 := hu7.step 7 rfl _ rfl hf_7
  sl_exec!
  have ho : (outs (fun s => St.out (fin s)) : List (View.Piece (Elt F) S1x2048x128 .bf16)) = outs (fun s => St.out (cells a8 a9 f8_8 f9_8 s)) :=
    congrArg outs (funext fun s => congrArg St.out ((hu8 s).trans (if_pos s.isLt)).symm)
  sl_step
  iapply HK
  iframe H3 H4 H5 H6
  isplitl [H7]
  · rw [show (outs _ : List (View.Piece (Elt F) S1x2048x128 .bf16)) = body_zero.sl.H7_8 a8 f8_8 from ho]
    iexact H7
  isplitl [H8]
  · iexists _; iexact H8
  iexists _; iexact H9

end Cert.Kernel3Ideal.Attention

end
-- ==== Proof.AttnBody2.lean ====
/-
  The attention's body at one grid point.
-/
module

public import proofs.«01_k».proof.Proof.AttnBody

@[expose] public section

set_option maxRecDepth 16384

noncomputable section

namespace Cert.Kernel3Ideal.Attention

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 40000000 in
theorem body_pos (c : Dev nD) (i : grid0.Coords) (a3 : Memref sig .tc .vmem S1x2048x128 .bf16) (h3 : a3.IsWhole)
    (a4 : Memref sig .tc .vmem S1x8192x128 .bf16) (h4 : a4.IsWhole) (a5 : Memref sig .tc .vmem S1x8192x128 .bf16) (h5 : a5.IsWhole)
    (a6 : Memref sig .tc .vmem S256x256 .bf16) (h6 : a6.IsWhole) (a7 : Memref sig .tc .vmem S1x2048x128 .bf16) (h7 : a7.IsWhole)
    (a8 : Memref sig .tc .vmem S8x2x256x128 .f32) (h8 : a8.IsWhole) (a9 : Memref sig .tc .vmem S8x2x256x1 .f32) (h9 : a9.IsWhole)
    (f3 : Buf (Elt F) (a3.view.loc (c : Thread nD τ))) (f4 : Buf (Elt F) (a4.view.loc (c : Thread nD τ))) (f5 : Buf (Elt F) (a5.view.loc (c : Thread nD τ)))
    (f6 : Buf (Elt F) (a6.view.loc (c : Thread nD τ))) (f7 : Buf (Elt F) (a7.view.loc (c : Thread nD τ))) (f8 : Buf (Elt F) (a8.view.loc (c : Thread nD τ)))
    (f9 : Buf (Elt F) (a9.view.loc (c : Thread nD τ))) (E : Set ℕ) (K : PUnit → sProp 𝕄) (hc1 : ¬ k0_cond1 i = 1#1) (hc2 : k0_cond2 i = 1#1) :
    iprop((a3.view.loc (c : Thread nD τ) ↦{fullShare} f3) ∗ (a4.view.loc (c : Thread nD τ) ↦{fullShare} f4) ∗ (a5.view.loc (c : Thread nD τ) ↦{fullShare} f5) ∗ (a6.view.loc (c : Thread nD τ) ↦{fullShare} f6)
      ∗ (a7.view.loc (c : Thread nD τ) ↦{fullShare} f7) ∗ (a8.view.loc (c : Thread nD τ) ↦{fullShare} f8) ∗ (a9.view.loc (c : Thread nD τ) ↦{fullShare} f9) ∗ (iprop((a3.view.loc (c : Thread nD τ) ↦{fullShare} f3) ∗ (a4.view.loc (c : Thread nD τ) ↦{fullShare} f4) ∗ (a5.view.loc (c : Thread nD τ) ↦{fullShare} f5) ∗ (a6.view.loc (c : Thread nD τ) ↦{fullShare} f6)
        ∗ (a7.view.loc (c : Thread nD τ) ↦{fullShare} a7.view.writes (Elt F) a7.view.junk (outs (fun s : Fin 8 => St.out (St.run (k0_pay540 (a6.view.readAt (Elt F) (Rect.unit (s := S256x256) ![0, 0] S256x256.size inb_S256x256_S256x256_0_0).toLoadRect f6)) (qh0 ((fun s : Fin 8 => a3.view.readAt (Elt F) (rQ s).toLoadRect f3) s)) (qh1 ((fun s : Fin 8 => a3.view.readAt (Elt F) (rQ s).toLoadRect f3) s)) (blk (a4.view.read (Elt F) f4)) (blk (a5.view.read (Elt F) f5)) (8 * (i 2).val + s.val - 1) (startsPos (k0_pay540 (a6.view.readAt (Elt F) (Rect.unit (s := S256x256) ![0, 0] S256x256.size inb_S256x256_S256x256_0_0).toLoadRect f6)) (fun s : Fin 8 => a3.view.readAt (Elt F) (rQ s).toLoadRect f3) (fun s : Fin 8 => a4.view.readAt (Elt F) (Rect.unit (s := S1x8192x128) (k0_off2 i (BitVec.ofNat 32 s.val)) S1x256x128.size (k0_off2_inb i hc2 s)).toLoadRect f4) (fun s : Fin 8 => a5.view.readAt (Elt F) (Rect.unit (s := S1x8192x128) (k0_off2 i (BitVec.ofNat 32 s.val)) S1x256x128.size (k0_off2_inb i hc2 s)).toLoadRect f5) (a4.view.readAt (Elt F) (Rect.unit (s := S1x8192x128) (k0_off3 i) S1x256x128.size (k0_off3_inb i hc2)).toLoadRect f4) (a5.view.readAt (Elt F) (Rect.unit (s := S1x8192x128) (k0_off3 i) S1x256x128.size (k0_off3_inb i hc2)).toLoadRect f5) s)))))
        ∗ (∃ f, a8.view.loc (c : Thread nD τ) ↦{fullShare} f) ∗ (∃ f, a9.view.loc (c : Thread nD τ) ↦{fullShare} f)) -∗ K ⟨⟩))
      ⊢ wp frame (wpE (defs₀ (F := F)) Variants.nat (c : Thread nD τ) none) E (cc0_sb_attention i a3 h3 a4 h4 a5 h5 a6 h6 a7 h7 a8 h8 a9 h9) K := by
  let tri : FVec F S256x256 .bf16 := k0_pay540 (a6.view.readAt (Elt F) (Rect.unit (s := S256x256) ![0, 0] S256x256.size inb_S256x256_S256x256_0_0).toLoadRect f6)
  let q : Fin 8 → Vec F S1x256x128 .bf16 := fun s => a3.view.readAt (Elt F) (rQ s).toLoadRect f3
  let kl : Fin 8 → Vec F S1x256x128 .bf16 := fun s => a4.view.readAt (Elt F) (Rect.unit (s := S1x8192x128) (k0_off2 i (BitVec.ofNat 32 s.val)) S1x256x128.size (k0_off2_inb i hc2 s)).toLoadRect f4
  let vl : Fin 8 → Vec F S1x256x128 .bf16 := fun s => a5.view.readAt (Elt F) (Rect.unit (s := S1x8192x128) (k0_off2 i (BitVec.ofNat 32 s.val)) S1x256x128.size (k0_off2_inb i hc2 s)).toLoadRect f5
  let ini := startsPos tri q kl vl (a4.view.readAt (Elt F) (Rect.unit (s := S1x8192x128) (k0_off3 i) S1x256x128.size (k0_off3_inb i hc2)).toLoadRect f4) (a5.view.readAt (Elt F) (Rect.unit (s := S1x8192x128) (k0_off3 i) S1x256x128.size (k0_off3_inb i hc2)).toLoadRect f5)
  let fin : Fin 8 → St F := fun s => St.run tri (qh0 (q s)) (qh1 (q s)) (blk (a4.view.read (Elt F) f4)) (blk (a5.view.read (Elt F) f5)) (8 * (i 2).val + s.val - 1) (ini s)
  rw [cc0_sb_attention_eq_skeleton]; unfold cc0_sb_attention_skel
  iintro ⟨H3, H4, H5, H6, H7, H8, H9, HK⟩
  sl_exec!
  generalize hf8 : a8.view.writes (Elt F) _ _ = f8_0
  generalize hf9 : a9.view.writes (Elt F) _ _ = f9_0
  have hu0 : Upto a8 a9 ini fin 0 f8_0 f9_0 := by
    rw [← hf8, ← hf9]
    refine upto_zero ini fin _ _ _ _ ?_ ?_
    · rfl
    · rfl
  iapply (wp_call Variants.nat (c : Thread nD τ) none E (8 * (i 2).val + 0 - 1) (fun u hu => nomatch hu))
  refine BIBase.Entails.trans ?_ (loop1 c i a9 h9 a4 h4 a5 h5 (qh0 (q 0)) (qh1 (q 0)) tri a8 h8 f4 f5 E (8 * (i 2).val + 0 - 1) _ _ (.inr rfl) _ _ f8_0 f9_0 (left_start (i 2) 0) ?_)
  rotate_left
  · rw [← hf8, ← hf9]; rfl
  iintro ⟨⟨⟨⟨⟨⟨⟨H3, H4⟩, H5⟩, H6⟩, H7⟩, H8⟩, H9⟩, HK⟩
  iframe H4 H5 H8 H9
  iintro %r_0 %f8_1 %f9_1 %hf_0 H4 H5 H8 H9
  obtain ⟨r0_0, r1_0⟩ := r_0
  have hu1 : Upto a8 a9 ini fin 1 f8_1 f9_1 := hu0.step 0 rfl _ rfl hf_0
  sl_exec!
  iapply (wp_call Variants.nat (c : Thread nD τ) none E (8 * (i 2).val + 1 - 1) (fun u hu => nomatch hu))
  refine BIBase.Entails.trans ?_ (loop2 c i a9 h9 a4 h4 a5 h5 (qh0 (q 1)) (qh1 (q 1)) tri a8 h8 f4 f5 E (8 * (i 2).val + 1 - 1) _ _ (.inr rfl) _ _ f8_1 f9_1 (left_start (i 2) 1) ?_)
  rotate_left
  · rfl
  iintro ⟨⟨⟨⟨⟨⟨⟨H3, H6⟩, H7⟩, HK⟩, H4⟩, H5⟩, H8⟩, H9⟩
  iframe H4 H5 H8 H9
  iintro %r_1 %f8_2 %f9_2 %hf_1 H4 H5 H8 H9
  obtain ⟨r0_1, r1_1⟩ := r_1
  have hu2 : Upto a8 a9 ini fin 2 f8_2 f9_2 := hu1.step 1 rfl _ rfl hf_1
  sl_exec!
  iapply (wp_call Variants.nat (c : Thread nD τ) none E (8 * (i 2).val + 2 - 1) (fun u hu => nomatch hu))
  refine BIBase.Entails.trans ?_ (loop3 c i a9 h9 a4 h4 a5 h5 (qh0 (q 2)) (qh1 (q 2)) tri a8 h8 f4 f5 E (8 * (i 2).val + 2 - 1) _ _ (.inr rfl) _ _ f8_2 f9_2 (left_start (i 2) 2) ?_)
  rotate_left
  · rfl
  iintro ⟨⟨⟨⟨⟨⟨⟨H3, H6⟩, H7⟩, HK⟩, H4⟩, H5⟩, H8⟩, H9⟩
  iframe H4 H5 H8 H9
  iintro %r_2 %f8_3 %f9_3 %hf_2 H4 H5 H8 H9
  obtain ⟨r0_2, r1_2⟩ := r_2
  have hu3 : Upto a8 a9 ini fin 3 f8_3 f9_3 := hu2.step 2 rfl _ rfl hf_2
  sl_exec!
  iapply (wp_call Variants.nat (c : Thread nD τ) none E (8 * (i 2).val + 3 - 1) (fun u hu => nomatch hu))
  refine BIBase.Entails.trans ?_ (loop4 c i a9 h9 a4 h4 a5 h5 (qh0 (q 3)) (qh1 (q 3)) tri a8 h8 f4 f5 E (8 * (i 2).val + 3 - 1) _ _ (.inr rfl) _ _ f8_3 f9_3 (left_start (i 2) 3) ?_)
  rotate_left
  · rfl
  iintro ⟨⟨⟨⟨⟨⟨⟨H3, H6⟩, H7⟩, HK⟩, H4⟩, H5⟩, H8⟩, H9⟩
  iframe H4 H5 H8 H9
  iintro %r_3 %f8_4 %f9_4 %hf_3 H4 H5 H8 H9
  obtain ⟨r0_3, r1_3⟩ := r_3
  have hu4 : Upto a8 a9 ini fin 4 f8_4 f9_4 := hu3.step 3 rfl _ rfl hf_3
  sl_exec!
  iapply (wp_call Variants.nat (c : Thread nD τ) none E (8 * (i 2).val + 4 - 1) (fun u hu => nomatch hu))
  refine BIBase.Entails.trans ?_ (loop5 c i a9 h9 a4 h4 a5 h5 (qh0 (q 4)) (qh1 (q 4)) tri a8 h8 f4 f5 E (8 * (i 2).val + 4 - 1) _ _ (.inr rfl) _ _ f8_4 f9_4 (left_start (i 2) 4) ?_)
  rotate_left
  · rfl
  iintro ⟨⟨⟨⟨⟨⟨⟨H3, H6⟩, H7⟩, HK⟩, H4⟩, H5⟩, H8⟩, H9⟩
  iframe H4 H5 H8 H9
  iintro %r_4 %f8_5 %f9_5 %hf_4 H4 H5 H8 H9
  obtain ⟨r0_4, r1_4⟩ := r_4
  have hu5 : Upto a8 a9 ini fin 5 f8_5 f9_5 := hu4.step 4 rfl _ rfl hf_4
  sl_exec!
  iapply (wp_call Variants.nat (c : Thread nD τ) none E (8 * (i 2).val + 5 - 1) (fun u hu => nomatch hu))
  refine BIBase.Entails.trans ?_ (loop6 c i a9 h9 a4 h4 a5 h5 (qh0 (q 5)) (qh1 (q 5)) tri a8 h8 f4 f5 E (8 * (i 2).val + 5 - 1) _ _ (.inr rfl) _ _ f8_5 f9_5 (left_start (i 2) 5) ?_)
  rotate_left
  · rfl
  iintro ⟨⟨⟨⟨⟨⟨⟨H3, H6⟩, H7⟩, HK⟩, H4⟩, H5⟩, H8⟩, H9⟩
  iframe H4 H5 H8 H9
  iintro %r_5 %f8_6 %f9_6 %hf_5 H4 H5 H8 H9
  obtain ⟨r0_5, r1_5⟩ := r_5
  have hu6 : Upto a8 a9 ini fin 6 f8_6 f9_6 := hu5.step 5 rfl _ rfl hf_5
  sl_exec!
  iapply (wp_call Variants.nat (c : Thread nD τ) none E (8 * (i 2).val + 6 - 1) (fun u hu => nomatch hu))
  refine BIBase.Entails.trans ?_ (loop7 c i a9 h9 a4 h4 a5 h5 (qh0 (q 6)) (qh1 (q 6)) tri a8 h8 f4 f5 E (8 * (i 2).val + 6 - 1) _ _ (.inr rfl) _ _ f8_6 f9_6 (left_start (i 2) 6) ?_)
  rotate_left
  · rfl
  iintro ⟨⟨⟨⟨⟨⟨⟨H3, H6⟩, H7⟩, HK⟩, H4⟩, H5⟩, H8⟩, H9⟩
  iframe H4 H5 H8 H9
  iintro %r_6 %f8_7 %f9_7 %hf_6 H4 H5 H8 H9
  obtain ⟨r0_6, r1_6⟩ := r_6
  have hu7 : Upto a8 a9 ini fin 7 f8_7 f9_7 := hu6.step 6 rfl _ rfl hf_6
  sl_exec!
  iapply (wp_call Variants.nat (c : Thread nD τ) none E (8 * (i 2).val + 7 - 1) (fun u hu => nomatch hu))
  refine BIBase.Entails.trans ?_ (loop8 c i a9 h9 a4 h4 a5 h5 (qh0 (q 7)) (qh1 (q 7)) tri a8 h8 f4 f5 E (8 * (i 2).val + 7 - 1) _ _ (.inr rfl) _ _ f8_7 f9_7 (left_start (i 2) 7) ?_)
  rotate_left
  · rfl
  iintro ⟨⟨⟨⟨⟨⟨⟨H3, H6⟩, H7⟩, HK⟩, H4⟩, H5⟩, H8⟩, H9⟩
  iframe H4 H5 H8 H9
  iintro %r_7 %f8_8 %f9_8 %hf_7 H4 H5 H8 H9
  obtain ⟨r0_7, r1_7⟩ := r_7
  have hu8 : Upto a8 a9 ini fin 8 f8_8 f9_8 := hu7.step 7 rfl _ rfl hf_7
  sl_exec!
  have ho : (outs (fun s => St.out (fin s)) : List (View.Piece (Elt F) S1x2048x128 .bf16)) = outs (fun s => St.out (cells a8 a9 f8_8 f9_8 s)) :=
    congrArg outs (funext fun s => congrArg St.out ((hu8 s).trans (if_pos s.isLt)).symm)
  sl_step
  iapply HK
  iframe H3 H4 H5 H6
  isplitl [H7]
  · rw [show (outs _ : List (View.Piece (Elt F) S1x2048x128 .bf16)) = body_pos.sl.H7_8 a8 f8_8 from ho]
    iexact H7
  isplitl [H8]
  · iexists _; iexact H8
  iexists _; iexact H9

end Cert.Kernel3Ideal.Attention

end
-- ==== Proof.AttnStep.lean ====
/-
  The attention over the whole grid.

  Each point of the grid leaves, in its block of results, eight blocks of queries attended over every earlier key. The
  pipeline writes every point's block back; the run from launch to end follows, over any float instance.
-/
module

public import proofs.«01_k».proof.Proof.AttnBody2
public import proofs.«01_k».proof.Proof.Gen.Kernel3Ideal.Points

@[expose] public section

set_option maxRecDepth 16384

noncomputable section

namespace Cert.Kernel3Ideal.Attention

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The first condition holds at the first step of a sequence, the second at the later ones. -/
theorem cond1_iff (i : grid0.Coords) : k0_cond1 i = 1#1 ↔ (i 2).val = 0 := by
  unfold k0_cond1
  generalize (i 2 : Fin 4) = t
  revert t
  decide
theorem cond2_iff (i : grid0.Coords) : k0_cond2 i = 1#1 ↔ (i 2).val ≠ 0 := by
  unfold k0_cond2
  generalize (i 2 : Fin 4) = t
  revert t
  decide

/-- Where the block of keys before the step's first lies, and the step's own. -/
theorem off3_eq (i : grid0.Coords) (h : (i 2).val ≠ 0) : k0_off3 i = ![0, (8 * (i 2).val - 1) * 256, 0] := by
  unfold k0_off3
  revert h
  generalize (i 2 : Fin 4) = t
  revert t
  decide
theorem off_row (t : Fin 4) (s : Fin 8) : (![0, 2048 * t.val + 256 * s.val, 0] : Fin 3 → ℕ) = ![0, (8 * t.val + s.val) * 256, 0] := by
  rw [show 2048 * t.val + 256 * s.val = (8 * t.val + s.val) * 256 by omega]

/-- The whole of the block of earlier keys against later. -/
abbrev rT : Rect S256x256 := Rect.unit (s := S256x256) ![0, 0] S256x256.size inb_S256x256_S256x256_0_0

/-- What a point of the grid leaves: its eight blocks of queries attended, from the staged queries, keys, values and
    triangle. -/
def leftBlock (t : ℕ) (x0 : Vec F S1x2048x128 .bf16) (x1 x2 : Vec F S1x8192x128 .bf16) (x3 : Vec F S256x256 .bf16) : Vec F S1x2048x128 .bf16 :=
  View.canon (outs fun s => St.out (St.final (k0_pay540 (View.ld x3 rT)) (View.ld x0 (rQ s)) (blk x1) (blk x2) (8 * t + s.val)))

/-- The eight stores cover the block. -/
theorem cover (o : Fin 8 → Vec F S1x256x128 .bf16) (y : S1x2048x128.Idx) : ∃ pc ∈ outs o, y ∈ pc.1.set :=
  View.cover_of_tiled (outs o) S1x256x128.size (by rfl) y

set_option maxHeartbeats 8000000 in
/-- The body at any point: from the staged blocks it leaves the attended ones. -/
theorem body_run (c : Dev nD) (i : grid0.Coords) (a3 : Memref sig .tc .vmem S1x2048x128 .bf16) (h3 : a3.IsWhole)
    (a4 : Memref sig .tc .vmem S1x8192x128 .bf16) (h4 : a4.IsWhole) (a5 : Memref sig .tc .vmem S1x8192x128 .bf16) (h5 : a5.IsWhole)
    (a6 : Memref sig .tc .vmem S256x256 .bf16) (h6 : a6.IsWhole) (a7 : Memref sig .tc .vmem S1x2048x128 .bf16) (h7 : a7.IsWhole)
    (a8 : Memref sig .tc .vmem S8x2x256x128 .f32) (h8 : a8.IsWhole) (a9 : Memref sig .tc .vmem S8x2x256x1 .f32) (h9 : a9.IsWhole)
    (x0 : Vec F S1x2048x128 .bf16) (x1 x2 : Vec F S1x8192x128 .bf16) (x3 : Vec F S256x256 .bf16) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ (∃ d, owns (c : Thread nD τ) a7 fullShare d)
        ∗ (∃ f, a8.view.loc (c : Thread nD τ) ↦{fullShare} f) ∗ (∃ f, a9.view.loc (c : Thread nD τ) ↦{fullShare} f)
        ∗ (iprop(owns (c : Thread nD τ) a3 fullShare x0 ∗ owns (c : Thread nD τ) a4 fullShare x1 ∗ owns (c : Thread nD τ) a5 fullShare x2
            ∗ owns (c : Thread nD τ) a6 fullShare x3
            ∗ (∃ f, a8.view.loc (c : Thread nD τ) ↦{fullShare} f) ∗ (∃ f, a9.view.loc (c : Thread nD τ) ↦{fullShare} f)
            ∗ owns (c : Thread nD τ) a7 fullShare (leftBlock (i 2).val x0 x1 x2 x3)) -∗ K ⟨⟩))
      ⊢ wp frame (wpE (defs₀ (F := F)) Variants.nat (c : Thread nD τ) none) Set.univ (cc0_sb_attention i a3 h3 a4 h4 a5 h5 a6 h6 a7 h7 a8 h8 a9 h9) K := by
  unfold owns
  simp only [h3.set_eq_univ, h4.set_eq_univ, h5.set_eq_univ, h6.set_eq_univ, h7.set_eq_univ]
  iintro ⟨⟨%f3, %hf3, H3⟩, ⟨%f4, %hf4, H4⟩, ⟨%f5, %hf5, H5⟩, ⟨%f6, %hf6, H6⟩, ⟨%d7, %f7, -, H7⟩, ⟨%f8, H8⟩, ⟨%f9, H9⟩, Hk⟩
  subst hf3 hf4 hf5 hf6
  have hi : (i 2).val < 4 := (i 2).isLt
  by_cases ht : (i 2).val = 0
  · have hc1 := (cond1_iff i).2 ht
    have hc2 : ¬ k0_cond2 i = 1#1 := fun h => (cond2_iff i).1 h ht
    iapply (body_zero c i a3 h3 a4 h4 a5 h5 a6 h6 a7 h7 a8 h8 a9 h9 f3 f4 f5 f6 f7 f8 f9 Set.univ K hc1 hc2)
    iframe H3 H4 H5 H6 H7 H8 H9
    iintro ⟨H3, H4, H5, H6, H7, H8, H9⟩
    iapply Hk
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iframe H8 H9
    iexists _; isplitr
    swap; · iexact H7
    ipureintro
    refine (View.read_writes_eq_canon _ _ _ (cover _)).trans ?_
    unfold leftBlock
    refine congrArg (fun o => View.canon (outs o)) (funext fun s => congrArg St.out ?_)
    refine congrArg (St.run _ _ _ _ _ _) ?_
    exact startsZero_eq _ _ _ _ (blk (a4.view.read (Elt F) f4)) (blk (a5.view.read (Elt F) f5)) (i 2).val ht
          (fun s => readAt_blk a4 f4 (8 * (i 2).val + s.val) (by omega) _ _ ((k0_off1_eq i s).trans (off_row (i 2) s)))
          (fun s => readAt_blk a5 f5 (8 * (i 2).val + s.val) (by omega) _ _ ((k0_off1_eq i s).trans (off_row (i 2) s))) s
  · have hc1 : ¬ k0_cond1 i = 1#1 := fun h => ht ((cond1_iff i).1 h)
    have hc2 := (cond2_iff i).2 ht
    iapply (body_pos c i a3 h3 a4 h4 a5 h5 a6 h6 a7 h7 a8 h8 a9 h9 f3 f4 f5 f6 f7 f8 f9 Set.univ K hc1 hc2)
    iframe H3 H4 H5 H6 H7 H8 H9
    iintro ⟨H3, H4, H5, H6, H7, H8, H9⟩
    iapply Hk
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iframe H8 H9
    iexists _; isplitr
    swap; · iexact H7
    ipureintro
    refine (View.read_writes_eq_canon _ _ _ (cover _)).trans ?_
    unfold leftBlock
    refine congrArg (fun o => View.canon (outs o)) (funext fun s => congrArg St.out ?_)
    refine congrArg (St.run _ _ _ _ _ _) ?_
    exact startsPos_eq _ _ _ _ _ _ (blk (a4.view.read (Elt F) f4)) (blk (a5.view.read (Elt F) f5)) (i 2).val ht
          (fun s => readAt_blk a4 f4 (8 * (i 2).val + s.val) (by omega) _ _ ((k0_off2_eq i s).trans (off_row (i 2) s)))
          (fun s => readAt_blk a5 f5 (8 * (i 2).val + s.val) (by omega) _ _ ((k0_off2_eq i s).trans (off_row (i 2) s)))
          (readAt_blk a4 f4 (8 * (i 2).val - 1) (by omega) _ _ (off3_eq i ht)) (readAt_blk a5 f5 (8 * (i 2).val - 1) (by omega) _ _ (off3_eq i ht)) s

end Cert.Kernel3Ideal.Attention

end
-- ==== Proof.AttnRun.lean ====
/-
  The attention's call from launch to end.

  The call reads one array three times, as queries, keys and values, so the three windows share it. Every point's body
  leaves the block `AttnStep` states, and every point writes it back.
-/
module

public import proofs.«01_k».proof.Proof.AttnStep

@[expose] public section

set_option maxRecDepth 16384

noncomputable section

namespace Cert.Kernel3Ideal.Attention

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

open Idealize.ShloMosaic.Pipeline (Dat Cfg Window BodyObligation BodyObligationLoose cellOf)

variable (m : (ℓ : Loc nD τ sig) → Buf (Elt F) ℓ) (ρ : Dev nD → PrngReg)

/-- The buffers when the call begins: after the host's operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host leaves the argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-- Window `w`'s block at a point, read off its array. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the body leaves at a point. -/
def leftAt (c : Dev nD) (t : Fin (cfg0 (F := F)).N) : Vec F S1x2048x128 .bf16 :=
  leftBlock (grid0.coords t 2).val (iblk m c 0 t) (iblk m c 1 t) (iblk m c 2 t) (iblk m c 3 t)

/-- The pipeline's data: the inputs' buffers at their blocks, the output's at what the body leaves. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => leftAt m c t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by dsimp only [dats]
theorem after0 (c : Dev nD) (t : Fin (cfg0 (F := F)).N) : (dats m 0 c).after (0 : Fin 5) t = iblk m c 0 t := rfl
theorem after1 (c : Dev nD) (t : Fin (cfg0 (F := F)).N) : (dats m 0 c).after (1 : Fin 5) t = iblk m c 1 t := rfl
theorem after2 (c : Dev nD) (t : Fin (cfg0 (F := F)).N) : (dats m 0 c).after (2 : Fin 5) t = iblk m c 2 t := rfl
theorem after3 (c : Dev nD) (t : Fin (cfg0 (F := F)).N) : (dats m 0 c).after (3 : Fin 5) t = iblk m c 3 t := rfl
theorem after4 (c : Dev nD) (t : Fin (cfg0 (F := F)).N) : (dats m 0 c).after (4 : Fin 5) t = leftAt m c t := by
  dsimp only [dats]

/-- Each input's buffer holds its block at every point. -/
theorem before0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfg0 (F := F)).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfg0 (F := F)).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfg0 (F := F)).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- What the body is called with at a point, and what it returns. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 4000000 in
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0, before1, before2, before3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4]
  unfold Pipeline.ΦA
  rw [scopedRest0_eq]
  iintro ⟨⟨⟨H8, H9⟩, Hr⟩, Ho, ⟨%d0, H0⟩, ⟨%d1, H1⟩, ⟨%d2, H2⟩, ⟨%d3, H3⟩, ⟨%d4, H4⟩⟩
  iapply (body_run c (grid0.coords t) _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H8]; · iexact H8
  isplitl [H9]; · iexact H9
  iintro ⟨H0, H1, H2, H3, H8, H9, H4⟩
  isplitl [H8 H9 Hr]
  · isplitl [H8 H9]
    · isplitl [H8]
      · iexact H8
      iexact H9
    iexact Hr
  isplitl [Ho]; · iexact Ho
  isplitl [H0]; · iexact H0
  isplitl [H1]; · iexact H1
  isplitl [H2]; · iexact H2
  isplitl [H3]; · iexact H3
  iexact H4

/-- The body that the table of bodies names at a point. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

set_option backward.isDefEq.respectTransparency.types false in
set_option maxHeartbeats 800000 in
/-- Every fair execution ends, each array at what the pipeline computes, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.nat m ρ main
    (hbody := fun c => (body_obligation m c).loose) (hq := fun _ _ _ => rfl)
    (howed := fun _ _ => rfl) (V := V m) (hmain := hmain m Variants.nat) (hA := A_eq m) (hΦ := fun _ _ => rfl)

/-- What the run leaves: the argument as it was, the result at the pipeline's array. -/
theorem run : θ_run defs (onTc (τ := τ) (main (F := F))) ⟨m, fun _ => 0, ρ⟩ (fun r => (∀ c : Dev nD,
      r.2.mem ((c.tc : Thread nD τ).loc main_v6) = (dats m 0 c).arrAt 4 (cfg0 (F := F)).N
      ∧ r.2.mem ((c.tc : Thread nD τ).loc main_arg0) = m ((c.tc : Thread nD τ).loc main_arg0))
      ∧ r.2.sem = fun _ => 0) :=
  (θ_run defs _ _).mono (fun _ h => ⟨fun c => ⟨(h.1 c).1 4,
    ((h.1 c).2 main_arg0 (Pipeline.mem_restRefs_of main_arg0 (by decide) (by decide : ∀ w : Fin 5, (spec0 w).arr.view.ref ≠ main_arg0))).trans (V_main_arg0 m c)⟩, h.2⟩) (run_quiescent m ρ)

end Cert.Kernel3Ideal.Attention

end
-- ==== Proof.AttnFrame.lean ====
/-
  The attention's frames: the idealised call's, the word-exact call's, and the reference's; and the step from the one
  call to the other, whose three constants are named.
-/
module

public import proofs.«01_k».proof.Defs
public import proofs.«01_k».proof.Proof.AttnRun
public import proofs.«01_k».proof.Proof.WordsRun
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Pre_finite

@[expose] public section

set_option maxRecDepth 65536

noncomputable section

namespace Cert.Kernel3Ideal.Attention

open Idealize.ShloMosaic Idealize.ShloMosaic.TcCoe
open Idealize.SL.Sem

/-- Every fair execution of the word-exact attention ends, its argument unchanged and every counter at zero. -/
theorem frame_kernel : Cert.quiescent_Kernel3 := fun m ρ _ =>
  (θ_run Cert.Kernel3.defs _ _).mono (fun _ h => ⟨fun c => (h.1 c).2, h.2⟩)
    (Cert.Kernel3.Attention.run (F := Bits) m ρ)

/-- The same for the idealised attention, from every memory. -/
theorem frame_kernelIdeal : Cert.quiescent_Kernel3Ideal := fun m ρ _ =>
  (θ_run Cert.Kernel3Ideal.defs _ _).mono (fun _ h => ⟨fun c => (h.1 c).2, h.2⟩) (run (F := Ideal) m ρ)

/-- So also from the memories of the equation. -/
theorem frame_kernelIdeal_finite : Cert.quiescent_Kernel3Ideal_pre_finite := fun m ρ _ =>
  frame_kernelIdeal m ρ trivial

/-- The same for the attention's reference. -/
theorem frame_referenceIdeal : Cert.quiescent_Reference3Ideal := by
  intro m ρ _
  exact (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- So also from the memories of the equation. -/
theorem frame_referenceIdeal_finite : Cert.quiescent_Reference3Ideal_pre_finite := fun m ρ _ =>
  frame_referenceIdeal m ρ trivial

/-- Each named constant reads as its real at the extended reals, and as its word elsewhere. -/
theorem preserves : Cert.preserves_Kernel3_Kernel3Ideal :=
  ⟨IdealRules.named_const.statement _ _ _ _ _ rfl, IdealRules.named_const.statement _ _ _ _ _ rfl,
    IdealRules.named_const.statement _ _ _ _ _ rfl⟩

end Cert.Kernel3Ideal.Attention

end
-- ==== Proof.AttnReal.lean ====
/-
  Stick-breaking over the reals: the logarithm of the logistic function, the weight of a key, and the weighted sum of
  the values over a stretch of the sequence.
-/
module

public import Idealize.ShloMosaic.PureOps.Ideal.Laws

@[expose] public section

noncomputable section

namespace Cert.Kernel3Ideal.Attention

open Idealize.ShloMosaic
open scoped BigOperators

/-- The logarithm of the logistic function. -/
def ls (x : ℝ) : ℝ := min x 0 - Real.log (1 + Real.exp (-|x|))

/-- The logarithm of what is left of the stick. -/
theorem ls_sub (x : ℝ) : ls x - x = ls (-x) := by
  unfold ls
  rw [abs_neg]
  rcases le_total x 0 with h | h
  · rw [min_eq_left h, min_eq_right (neg_nonneg.2 h)]; ring
  · rw [min_eq_right h, min_eq_left (neg_nonpos.2 h)]; ring

/-- The weight of key `j` for query `i`: its piece of what the keys between them left. -/
def wt (i : ℕ) (z : ℕ → ℝ) (j : ℕ) : ℝ :=
  if j < i then Real.exp (ls (z j) + ∑ a ∈ Finset.Ico (j + 1) i, ls (-z a)) else 0

/-- The weighted values of the keys from `s` to `e`. -/
def mix (i : ℕ) (z : ℕ → ℝ) (v : ℕ → EReal) (s e : ℕ) : EReal := ∑ j ∈ Finset.Ico s e, (wt i z j : EReal) * v j

theorem mix_join (i : ℕ) (z : ℕ → ℝ) (v : ℕ → EReal) {s m e : ℕ} (h : s ≤ m) (h' : m ≤ e) :
    mix i z v m e + mix i z v s m = mix i z v s e := by
  rw [add_comm]; exact Finset.sum_Ico_consecutive _ h h'

/-- Keys at or after the query weigh nothing. -/
theorem mix_after (i : ℕ) (z : ℕ → ℝ) (v : ℕ → EReal) {s e : ℕ} (h : i ≤ s) : mix i z v s e = 0 :=
  Finset.sum_eq_zero fun j hj => by
    rw [wt, if_neg (by have := (Finset.mem_Ico.1 hj).1; omega)]; exact zero_mul _

/-- A sum of reals is the sum of the extended reals. -/
theorem coe_sum {ι : Type} (s : Finset ι) (f : ι → ℝ) : ((∑ a ∈ s, f a : ℝ) : EReal) = ∑ a ∈ s, (f a : EReal) := by
  classical
  induction s using Finset.induction_on with
  | empty => rfl
  | insert a s ha ih => rw [Finset.sum_insert ha, Finset.sum_insert ha, EReal.coe_add, ih]

theorem log_two_pos : 0 < Real.log 2 := Real.log_pos one_lt_two

/-- Powers of two of base-two logarithms. -/
theorem exp2_div (x : ℝ) : Ideal.exp2 ((x / Real.log 2 : ℝ) : EReal) = (Real.exp x : EReal) := by
  rw [Ideal.exp2_coe]
  congr 1
  show (2 : ℝ) ^ (x / Real.log 2) = _
  rw [Real.rpow_def_of_pos two_pos, mul_div_cancel₀ _ log_two_pos.ne']

theorem coe_min (x y : ℝ) : min (x : EReal) (y : EReal) = ((min x y : ℝ) : EReal) :=
  (EReal.coe_strictMono.monotone.map_min).symm
theorem coe_max (x y : ℝ) : max (x : EReal) (y : EReal) = ((max x y : ℝ) : EReal) :=
  (EReal.coe_strictMono.monotone.map_max).symm

/-- The logarithm of the piece, as the kernel takes it in base two. -/
theorem ls_two (x : ℝ) : min ((x / Real.log 2 : ℝ) : EReal) 0
      - Ideal.log (1 + Ideal.exp2 (0 - max ((x / Real.log 2 : ℝ) : EReal) (-((x / Real.log 2 : ℝ) : EReal)))) * (((Real.log 2)⁻¹ : ℝ) : EReal)
    = ((ls x / Real.log 2 : ℝ) : EReal) := by
  have hl := log_two_pos
  have ha : (0 : EReal) - max ((x / Real.log 2 : ℝ) : EReal) (-((x / Real.log 2 : ℝ) : EReal)) = (((-|x|) / Real.log 2 : ℝ) : EReal) := by
    rw [← EReal.coe_neg, coe_max, ← EReal.coe_zero, ← EReal.coe_sub]
    congr 1
    show 0 - |x / Real.log 2| = _
    rw [abs_div, abs_of_pos hl]; ring
  have hp : ¬ (1 + Real.exp (-|x|) ≤ 0) := not_le.2 (by positivity)
  rw [ha, exp2_div, ← EReal.coe_one, ← EReal.coe_add, Ideal.log_coe, if_neg hp, ← EReal.coe_mul, ← EReal.coe_zero, coe_min, ← EReal.coe_sub]
  congr 1
  unfold ls
  rw [sub_div, div_eq_mul_inv (Real.log _)]
  congr 1
  rcases le_total x 0 with h | h
  · rw [min_eq_left h, min_eq_left (div_nonpos_of_nonpos_of_nonneg h hl.le)]
  · rw [min_eq_right h, min_eq_right (div_nonneg h hl.le), zero_div]

/-- The logarithm of the logistic function, as the reference takes it. -/
theorem ls_nat (x : ℝ) : -(max (-(x : EReal)) 0 + Ideal.log1p (Ideal.exp (-(max (-(x : EReal) - 0) (-(-(x : EReal) - 0)))))) = ((ls x : ℝ) : EReal) := by
  have ha : -(max (-(x : EReal) - 0) (-(-(x : EReal) - 0))) = ((-|x| : ℝ) : EReal) := by
    rw [sub_zero, ← EReal.coe_neg, ← EReal.coe_neg, coe_max, ← EReal.coe_neg]
    congr 2
    show |-x| = |x|
    exact abs_neg x
  have hp : ¬ (1 + Real.exp (-|x|) ≤ 0) := not_le.2 (by positivity)
  rw [ha, Ideal.exp_coe]
  unfold Ideal.log1p
  rw [← EReal.coe_one, ← EReal.coe_add, Ideal.log_coe, if_neg hp, ← EReal.coe_neg, ← EReal.coe_zero, coe_max, ← EReal.coe_add, ← EReal.coe_neg]
  congr 1
  unfold ls
  rcases le_total x 0 with h | h
  · rw [min_eq_left h, max_eq_left (neg_nonneg.2 h)]; ring
  · rw [min_eq_right h, max_eq_right (neg_nonpos.2 h)]; ring

end Cert.Kernel3Ideal.Attention

end
-- ==== Proof.AttnIdeal.lean ====
/-
  One block of keys over the extended reals, for one query: the logarithms, their sums over the later keys, the weighted
  values, and the mass that the block leaves.
-/
module

public import proofs.«01_k».proof.Proof.AttnReal
public import proofs.«01_k».proof.Proof.AttnChain
public import Idealize.ShloMosaic.Lib.Pipeline.Value
public import Idealize.ShloMosaic.Lib.MatmulPlain
public import Idealize.ShloMosaic.Lib.ValueIdx
public import Idealize.ShloMosaic.Lib.IdealHost
public import Idealize.ShloMosaic.PureOps.Ideal.Laws

@[expose] public section

set_option maxRecDepth 16384

noncomputable section

namespace Cert.Kernel3Ideal.Attention

open Cert.Kernel3Ideal Cert.Kernel3Ideal.Gen
open Idealize.ShloMosaic Idealize.ShloMosaic.ValueIdx
open scoped BigOperators

/-- The words of zero and one. -/
theorem zero_f32 : Ideal.ofBits .f32 (0x00000000#32) = (0 : EReal) := by
  simp [Ideal.ofBits, Ideal.ieee]
theorem zero_bf16 : Ideal.ofBits .bf16 (0x0000#16) = (0 : EReal) := by
  simp [Ideal.ofBits, Ideal.ieee]
theorem one_f32 : Ideal.ofBits .f32 (0x3F800000#32) = (1 : EReal) := Ideal.ofBits_one_f32

/-- A block of keys or values as a matrix, entry by entry. -/
theorem mat_apply (k : Vec Ideal S1x256x128 .bf16) (j : Fin 256) (d : Fin 128) : (mat k : FVec Ideal S256x128 .bf16) (ix2 j d) = k (ix3 0 j d) := by
  refine shapeCast_apply _ _ _ _ ?_
  rw [Shape.rowMajor_val_two, Shape.rowMajor_val_three]
  show (0 * 256 + j.val) * 128 + d.val = j.val * 128 + d.val
  omega

/-- A scaled product. -/
theorem zz_apply (q : FVec Ideal S256x128 .bf16) (k : Vec Ideal S1x256x128 .bf16) (y j : Fin 256) :
    (zz q k : FVec Ideal S256x256 .f32) (ix2 y j)
      = (∑ d : Fin 128, (q (ix2 y d) : EReal) * (k (ix3 0 j d) : EReal)) * (((8 * Real.log 2)⁻¹ : ℝ) : EReal) := by
  refine congrArg (· * (((8 * Real.log 2)⁻¹ : ℝ) : EReal)) ?_
  refine (Ideal.matmul_transposedRhs_apply (M := 256) (K := 128) (N := 256) none q (mat k) _ y j).trans ?_
  rw [show (constant S256x256 .f32 0x00000000#32 : FVec Ideal S256x256 .f32) (ix2 y j) = (0 : EReal) from zero_f32]
  exact (zero_add _).trans (Finset.sum_congr rfl fun d _ => congrArg (fun t : EReal => (q (ix2 y d) : EReal) * t) (mat_apply k j d))

/-- Which keys lie before the query. -/
theorem causal_apply (y j : Fin 256) : causal (ix2 y j) = if j.val < y.val then 1#1 else 0#1 := by
  show IntOp.cmpi .slt (BitVec.ofNat 32 (0 * 256 + j.val)) (BitVec.ofNat 32 (0 * 256 + y.val)) = _
  have hj := j.isLt
  have hy := y.isLt
  have e (n : ℕ) (h : n < 256) : (BitVec.ofNat 32 (0 * 256 + n)).toInt = (n : ℤ) := by
    rw [BitVec.toInt_ofNat', show 0 * 256 + n = n by omega]
    exact Int.bmod_eq_of_le (by omega) (by omega)
  unfold IntOp.cmpi
  show BitVec.ofBool (BitVec.slt _ _) = _
  rw [BitVec.slt_eq_decide, e _ hj, e _ hy]
  by_cases h : j.val < y.val
  · rw [if_pos h, decide_eq_true (by exact_mod_cast h)]; rfl
  · rw [if_neg h, decide_eq_false (by exact_mod_cast h)]; rfl

section Logs

variable (z : FVec Ideal S256x256 .f32) (y : Fin 256) (x : ℕ → ℝ)
  (hz : ∀ j : Fin 256, z (ix2 y j) = ((x j.val / Real.log 2 : ℝ) : EReal))
include hz

theorem lbeta_apply (j : Fin 256) : (lbeta z : FVec Ideal S256x256 .f32) (ix2 y j) = ((ls (x j.val) / Real.log 2 : ℝ) : EReal) := by
  refine Eq.trans ?_ (ls_two (x j.val))
  rw [← hz j]
  show min (z (ix2 y j) : EReal) (Ideal.ofBits .f32 (0x00000000#32)) - Ideal.log (Ideal.ofBits .f32 (0x3F800000#32)
    + Ideal.exp2 (Ideal.ofBits .f32 (0x00000000#32) - max (z (ix2 y j) : EReal) (-(z (ix2 y j) : EReal)))) * (((Real.log 2)⁻¹ : ℝ) : EReal) = _
  rw [zero_f32, one_f32]

theorem lrest_apply (j : Fin 256) : (lrest z : FVec Ideal S256x256 .f32) (ix2 y j) = ((ls (-x j.val) / Real.log 2 : ℝ) : EReal) := by
  show (lbeta z (ix2 y j) : EReal) - (z (ix2 y j) : EReal) = _
  rw [lbeta_apply z y x hz j, hz j, ← EReal.coe_sub, ← sub_div, ls_sub]

theorem lrestD_apply (j : Fin 256) : (lrestD z : FVec Ideal S256x256 .f32) (ix2 y j)
    = (((if j.val < y.val then ls (-x j.val) else 0) / Real.log 2 : ℝ) : EReal) := by
  show Scalar.select (causal (ix2 y j)) (lrest z (ix2 y j)) (Ideal.ofBits .f32 (0x00000000#32)) = _
  rw [causal_apply]
  by_cases h : j.val < y.val
  · rw [if_pos h, if_pos h]; exact lrest_apply z y x hz j
  · rw [if_neg h, if_neg h, zero_div]; exact zero_f32

end Logs

section Sums

variable (l : FVec Ideal S256x256 .f32) (y : Fin 256) (f : ℕ → ℝ)
  (hl : ∀ j : Fin 256, l (ix2 y j) = ((f j.val / Real.log 2 : ℝ) : EReal))
include hl

/-- The sum of the later keys of the block. -/
theorem suffix_apply (tri : FVec Ideal S256x256 .bf16) (ht : ∀ a c : Fin 256, tri (ix2 a c) = ((if c.val < a.val then 1 else 0 : ℝ) : EReal)) (j : Fin 256) :
    (suffix tri l : FVec Ideal S256x256 .f32) (ix2 y j) = (((∑ a ∈ Finset.Ico (j.val + 1) 256, f a) / Real.log 2 : ℝ) : EReal) := by
  refine (Ideal.matmul_plain_apply (M := 256) (K := 256) (N := 256) none _ _ _ y j).trans ?_
  rw [show (constant S256x256 .f32 0x00000000#32 : FVec Ideal S256x256 .f32) (ix2 y j) = (0 : EReal) from zero_f32]
  refine (zero_add _).trans ?_
  have e : (∑ a ∈ Finset.Ico (j.val + 1) 256, f a) / Real.log 2 = ∑ a : Fin 256, f a.val / Real.log 2 * (if j.val < a.val then 1 else 0) := by
    rw [Finset.sum_div, Fin.sum_univ_eq_sum_range (fun a => f a / Real.log 2 * (if j.val < a then 1 else 0)) 256]
    simp only [mul_ite, mul_one, mul_zero]
    rw [← Finset.sum_filter]
    refine Finset.sum_congr (Finset.ext fun a => ?_) fun _ _ => rfl
    simp only [Finset.mem_Ico, Finset.mem_filter, Finset.mem_range]
    omega
  rw [e, coe_sum]
  refine Finset.sum_congr rfl fun a _ => ?_
  rw [EReal.coe_mul]
  exact congrArg₂ (· * ·) (hl a) (ht a j)

/-- The sum of the whole block. -/
theorem tot_apply : (tot l : FVec Ideal S256x1 .f32) (ix2 y 0) = (((∑ a ∈ Finset.range 256, f a) / Real.log 2 : ℝ) : EReal) := by
  refine (shapeCast_apply _ _ (ix2 y 0) (ix1 y) ?_).trans ?_
  · rw [Shape.rowMajor_val_one, Shape.rowMajor_val_two]
    show y.val = y.val * 1 + 0
    omega
  refine (Ideal.multiReduction_add_single l 0x00000000#32 reduces_S256x256_S256 (.inl rfl) rfl (ix1 y)).trans ?_
  rw [Finset.sum_div, ← Fin.sum_univ_eq_sum_range (fun a => f a / Real.log 2) 256, coe_sum]
  refine Finset.sum_congr rfl fun a _ => (congrArg l ?_).trans (hl a)
  funext b
  match b with
  | ⟨0, _⟩ => rfl
  | ⟨1, _⟩ => rfl

end Sums

/-- Weighted values, feature by feature. -/
theorem pv_apply (w : FVec Ideal S256x256 .f32) (v : Vec Ideal S1x256x128 .bf16) (y : Fin 256) (d : Fin 128) :
    (pv w v : FVec Ideal S256x128 .f32) (ix2 y d) = ∑ j : Fin 256, (w (ix2 y j) : EReal) * (v (ix3 0 j d) : EReal) := by
  refine (Ideal.matmul_plain_apply (M := 256) (K := 256) (N := 128) none _ _ _ y d).trans ?_
  rw [show (constant S256x128 .f32 0x00000000#32 : FVec Ideal S256x128 .f32) (ix2 y d) = (0 : EReal) from zero_f32]
  exact (zero_add _).trans (Finset.sum_congr rfl fun j _ => congrArg (fun t : EReal => (w (ix2 y j) : EReal) * t) (mat_apply v j d))

section Blocks

variable (tri : FVec Ideal S256x256 .bf16) (ht : ∀ a c : Fin 256, tri (ix2 a c) = ((if c.val < a.val then 1 else 0 : ℝ) : EReal))
  (q : FVec Ideal S256x128 .bf16) (k v : Vec Ideal S1x256x128 .bf16) (y : Fin 256) (x : ℕ → ℝ)
  (hz : ∀ j : Fin 256, (zz q k : FVec Ideal S256x256 .f32) (ix2 y j) = ((x j.val / Real.log 2 : ℝ) : EReal))
include hz

theorem sum_before : ∀ (n : ℕ) (hn : n ≤ 256), (∑ a ∈ Finset.range 256, if a < n then ls (-x a) else 0) = ∑ a ∈ Finset.range n, ls (-x a) := by
  intro n hn
  rw [← Finset.sum_filter]
  refine Finset.sum_congr (Finset.ext fun a => ?_) fun _ _ => rfl
  simp only [Finset.mem_filter, Finset.mem_range]
  omega

theorem diagC_apply : (diagC q k : FVec Ideal S256x1 .f32) (ix2 y 0) = (((∑ a ∈ Finset.range y.val, ls (-x a)) / Real.log 2 : ℝ) : EReal) := by
  refine (tot_apply _ y (fun a => if a < y.val then ls (-x a) else 0) (lrestD_apply _ y x hz)).trans ?_
  rw [sum_before q k y x hz y.val (by omega)]

theorem visC_apply (c : FVec Ideal S256x1 .f32) (g : ℝ) (hc : c (ix2 y 0) = ((g / Real.log 2 : ℝ) : EReal)) :
    (visC q k c : FVec Ideal S256x1 .f32) (ix2 y 0) = (((g + ∑ a ∈ Finset.range 256, ls (-x a)) / Real.log 2 : ℝ) : EReal) := by
  show (c (ix2 y 0) : EReal) + (tot (lrest (zz q k)) (ix2 y 0) : EReal) = _
  rw [tot_apply _ y (fun a => ls (-x a)) (lrest_apply _ y x hz), hc, ← EReal.coe_add, add_div]

include ht

theorem diagA_apply (d : Fin 128) : (diagA tri q k v : FVec Ideal S256x128 .f32) (ix2 y d)
    = ∑ j : Fin 256, (((if j.val < y.val then Real.exp (ls (x j.val) + ∑ a ∈ Finset.Ico (j.val + 1) y.val, ls (-x a)) else 0 : ℝ)) : EReal) * (v (ix3 0 j d) : EReal) := by
  refine (pv_apply _ v y d).trans (Finset.sum_congr rfl fun j _ => congrArg (fun t : EReal => t * (v (ix3 0 j d) : EReal)) ?_)
  show Scalar.select (causal (ix2 y j)) (Ideal.exp2 ((lbeta (zz q k) (ix2 y j) : EReal) + (suffix tri (lrestD (zz q k)) (ix2 y j) : EReal))) (Ideal.ofBits .f32 (0x00000000#32)) = _
  rw [causal_apply]
  by_cases h : j.val < y.val
  · rw [if_pos h, if_pos h, lbeta_apply _ y x hz, suffix_apply _ y (fun a => if a < y.val then ls (-x a) else 0) (lrestD_apply _ y x hz) tri ht, ← EReal.coe_add, ← add_div, exp2_div]
    have e : (∑ a ∈ Finset.Ico (j.val + 1) 256, if a < y.val then ls (-x a) else 0) = ∑ a ∈ Finset.Ico (j.val + 1) y.val, ls (-x a) := by
      rw [← Finset.sum_filter]
      refine Finset.sum_congr (Finset.ext fun a => ?_) fun _ _ => rfl
      have := y.isLt
      simp only [Finset.mem_filter, Finset.mem_Ico]
      omega
    rw [e]; rfl
  · rw [if_neg h, if_neg h]; exact zero_f32

theorem visA_apply (c : FVec Ideal S256x1 .f32) (g : ℝ) (hc : c (ix2 y 0) = ((g / Real.log 2 : ℝ) : EReal)) (d : Fin 128) :
    (visA tri q k v c : FVec Ideal S256x128 .f32) (ix2 y d)
    = ∑ j : Fin 256, ((Real.exp (ls (x j.val) + (∑ a ∈ Finset.Ico (j.val + 1) 256, ls (-x a)) + g) : ℝ) : EReal) * (v (ix3 0 j d) : EReal) := by
  refine (pv_apply _ v y d).trans (Finset.sum_congr rfl fun j _ => congrArg (fun t : EReal => t * (v (ix3 0 j d) : EReal)) ?_)
  have hb : broadcastTo S256x256 c broadcasts_S256x1_S256x256 (ix2 y j) = c (ix2 y 0) :=
    broadcastTo_apply _ _ _ _ (fun a => by match a with | ⟨0, _⟩ => rfl | ⟨1, _⟩ => rfl)
  show Ideal.exp2 ((lbeta (zz q k) (ix2 y j) : EReal) + (suffix tri (lrest (zz q k)) (ix2 y j) : EReal) + (broadcastTo S256x256 c broadcasts_S256x1_S256x256 (ix2 y j) : EReal)) = _
  rw [hb, hc, lbeta_apply _ y x hz, suffix_apply _ y (fun a => ls (-x a)) (lrest_apply _ y x hz) tri ht, ← EReal.coe_add, ← EReal.coe_add, ← add_div, ← add_div, exp2_div]

end Blocks

end Cert.Kernel3Ideal.Attention

end
-- ==== Proof.AttnFinal.lean ====
/-
  What a block of queries ends with, over the extended reals: each query's values weighted by its stick-breaking weights.

  With finite products the mass left over is a real number, so the loop visits every earlier block; block by block the
  accumulator gains the weighted values of its keys and the mass loses what they took.
-/
module

public import proofs.«01_k».proof.Proof.AttnIdeal
public import proofs.«01_k».proof.Proof.AttnCells

@[expose] public section

set_option maxRecDepth 16384

noncomputable section

namespace Cert.Kernel3Ideal.Attention

open Cert.Kernel3Ideal Cert.Kernel3Ideal.Gen
open Idealize.ShloMosaic Idealize.ShloMosaic.ValueIdx
open scoped BigOperators

/-- What is put into a cell is what is read from it. -/
theorem getA_putA (a : FVec Ideal S256x128 .f32) (y : Fin 256) (d : Fin 128) : getA (putA a) (ix2 y d) = a (ix2 y d) := by
  refine (shapeCast_apply _ _ (ix2 y d) (ix4 0 0 y d) ?_).trans (shapeCast_apply _ _ (ix4 0 0 y d) (ix2 y d) ?_)
  · rw [Shape.rowMajor_val_two, Shape.rowMajor_val_four]
    show ((0 * 1 + 0) * 256 + y.val) * 128 + d.val = y.val * 128 + d.val
    omega
  · rw [Shape.rowMajor_val_two, Shape.rowMajor_val_four]
    show y.val * 128 + d.val = ((0 * 1 + 0) * 256 + y.val) * 128 + d.val
    omega
theorem getC_putC (c : FVec Ideal S256x1 .f32) (y : Fin 256) : getC (putC c) (ix2 y 0) = c (ix2 y 0) := by
  refine (shapeCast_apply _ _ (ix2 y 0) (ix4 0 0 y 0) ?_).trans (shapeCast_apply _ _ (ix4 0 0 y 0) (ix2 y 0) ?_)
  · rw [Shape.rowMajor_val_two, Shape.rowMajor_val_four]
    show ((0 * 1 + 0) * 256 + y.val) * 1 + 0 = y.val * 1 + 0
    omega
  · rw [Shape.rowMajor_val_two, Shape.rowMajor_val_four]
    show y.val * 1 + 0 = ((0 * 1 + 0) * 256 + y.val) * 1 + 0
    omega

/-- The largest mass is above any number below one query's. -/
theorem lt_most (c : CarV Ideal) (y : Fin 256) (g : EReal) (h : g < getC c (ix2 y 0)) : g < (most c : EReal) := by
  unfold most
  refine lt_of_lt_of_eq ?_ (shapeCast_apply _ shapeCasts_S1_S1x1x1 _ (ix1 (0 : Fin 1)) (by
    rw [Shape.rowMajor_val_one, Shape.rowMajor_val_three]
    rfl)).symm
  refine lt_of_lt_of_eq ?_ (multiReduction_maximumf_eq_fold (F := Ideal) _ _ _ _ _ _).symm
  refine (Finset.lt_fold_max (α := S1x256x1.Idx) (β := EReal) _).2 (.inr ⟨ix3 0 y 0, ?_, ?_⟩)
  · refine Finset.mem_filter.2 ⟨Finset.mem_univ _, ?_⟩
    funext a
    match a with
    | ⟨0, _⟩ => exact Subsingleton.elim (α := Fin 1) _ _
  · refine lt_of_lt_of_eq h (shapeCast_apply _ _ (ix3 0 y 0) (ix2 y 0) ?_).symm
    rw [Shape.rowMajor_val_two, Shape.rowMajor_val_three]
    show y.val * 1 + 0 = (0 * 256 + y.val) * 1 + 0
    omega

/-- A finite mass is worth another visit. -/
theorem go_on (s : St Ideal) (y : Fin 256) (g : ℝ) (h : getC s.c0 (ix2 y 0) = (g : EReal)) :
    (Scalar.cmpi .sgt s.go 0#32 : BitVec 1) = 1#1 := by
  have hm : (⊥ : EReal) < max (most s.c0 : EReal) (most s.c1) :=
    lt_max_of_lt_left (lt_most s.c0 y ⊥ (by rw [h]; exact EReal.bot_lt_coe g))
  have e : s.go = (BitVec.ofBool (decide ((⊥ : EReal) < max (most s.c0 : EReal) (most s.c1)))).setWidth 32 := rfl
  rw [e, decide_eq_true hm]
  rfl

section Head

variable (tri : FVec Ideal S256x256 .bf16) (ht : ∀ a c : Fin 256, tri (ix2 a c) = ((if c.val < a.val then 1 else 0 : ℝ) : EReal))
  (q : FVec Ideal S256x128 .bf16) (k v : Vec Ideal S1x256x128 .bf16) (b n : ℕ) (y : Fin 256) (d : Fin 128) (z : ℕ → ℝ) (u : ℕ → EReal)
  (hz : ∀ j : Fin 256, (zz q k : FVec Ideal S256x256 .f32) (ix2 y j) = ((z (256 * n + j.val) / Real.log 2 : ℝ) : EReal))
  (hv : ∀ j : Fin 256, v (ix3 0 j d) = u (256 * n + j.val))

/-- A block's weighted values are a stretch of the sequence's. -/
theorem mix_block (i : ℕ) : ∑ j : Fin 256, ((wt i z (256 * n + j.val) : ℝ) : EReal) * u (256 * n + j.val) = mix i z u (256 * n) (256 * (n + 1)) := by
  unfold mix
  rw [Fin.sum_univ_eq_sum_range (fun j => ((wt i z (256 * n + j) : ℝ) : EReal) * u (256 * n + j)) 256, Finset.sum_Ico_eq_sum_range,
    show 256 * (n + 1) - 256 * n = 256 by omega]

theorem shift (s e : ℕ) : ∑ a ∈ Finset.Ico s e, ls (-z (256 * n + a)) = ∑ a ∈ Finset.Ico (256 * n + s) (256 * n + e), ls (-z a) := by
  rw [Finset.sum_Ico_add (fun a => ls (-z a)) s e (256 * n), Nat.add_comm s, Nat.add_comm e]

include hz

theorem diag_mass (hb : n = b) : (diagC q k : FVec Ideal S256x1 .f32) (ix2 y 0)
    = (((∑ a ∈ Finset.Ico (256 * n) (256 * b + y.val), ls (-z a)) / Real.log 2 : ℝ) : EReal) := by
  refine (diagC_apply q k y (fun a => z (256 * n + a)) hz).trans ?_
  rw [Finset.range_eq_Ico, shift n z, hb]
  rfl

theorem vis_mass (hb : n < b) (c : FVec Ideal S256x1 .f32)
    (hc : c (ix2 y 0) = (((∑ a ∈ Finset.Ico (256 * (n + 1)) (256 * b + y.val), ls (-z a)) / Real.log 2 : ℝ) : EReal)) :
    (visC q k c : FVec Ideal S256x1 .f32) (ix2 y 0)
    = (((∑ a ∈ Finset.Ico (256 * n) (256 * b + y.val), ls (-z a)) / Real.log 2 : ℝ) : EReal) := by
  refine (visC_apply q k y (fun a => z (256 * n + a)) hz c _ hc).trans ?_
  rw [Finset.range_eq_Ico, shift n z, add_comm, show 256 * n + 256 = 256 * (n + 1) by omega,
    show 256 * n + 0 = 256 * n by omega, Finset.sum_Ico_consecutive _ (by omega) (by omega)]

include ht hv

theorem diag_values (hb : n = b) : (diagA tri q k v : FVec Ideal S256x128 .f32) (ix2 y d)
    = mix (256 * b + y.val) z u (256 * n) (256 * (n + 1)) := by
  refine (diagA_apply tri ht q k v y (fun a => z (256 * n + a)) hz d).trans ?_
  rw [← mix_block]
  refine Finset.sum_congr rfl fun j _ => ?_
  rw [hv j]
  refine congrArg (fun t : ℝ => (t : EReal) * u (256 * n + j.val)) ?_
  unfold wt
  rw [shift n z, hb]
  by_cases h : j.val < y.val
  · rw [if_pos h, if_pos (by omega)]; rfl
  · rw [if_neg h, if_neg (by omega)]

theorem vis_values (hb : n < b) (c : FVec Ideal S256x1 .f32)
    (hc : c (ix2 y 0) = (((∑ a ∈ Finset.Ico (256 * (n + 1)) (256 * b + y.val), ls (-z a)) / Real.log 2 : ℝ) : EReal)) :
    (visA tri q k v c : FVec Ideal S256x128 .f32) (ix2 y d) = mix (256 * b + y.val) z u (256 * n) (256 * (n + 1)) := by
  refine (visA_apply tri ht q k v y (fun a => z (256 * n + a)) hz c _ hc d).trans ?_
  rw [← mix_block]
  refine Finset.sum_congr rfl fun j _ => ?_
  rw [hv j]
  refine congrArg (fun t : ℝ => (t : EReal) * u (256 * n + j.val)) ?_
  have hj := j.isLt
  unfold wt
  rw [if_pos (by omega), shift n z, add_assoc, show 256 * n + 256 = 256 * (n + 1) by omega,
    Finset.sum_Ico_consecutive _ (by omega) (by omega)]
  rfl

end Head

section Both

variable (tri : FVec Ideal S256x256 .bf16) (ht : ∀ a c : Fin 256, tri (ix2 a c) = ((if c.val < a.val then 1 else 0 : ℝ) : EReal))
  (q : Vec Ideal S1x256x128 .bf16) (k v : ℕ → Vec Ideal S1x256x128 .bf16) (b : ℕ) (y : Fin 256) (d : Fin 128) (z0 z1 : ℕ → ℝ) (u : ℕ → EReal)

/-- After the visits down to block `n`: each head's mass and weighted values are those of the keys from there on. -/
structure From (n : ℕ) (s : St Ideal) : Prop where
  c0 : getC s.c0 (ix2 y 0) = (((∑ a ∈ Finset.Ico (256 * n) (256 * b + y.val), ls (-z0 a)) / Real.log 2 : ℝ) : EReal)
  c1 : getC s.c1 (ix2 y 0) = (((∑ a ∈ Finset.Ico (256 * n) (256 * b + y.val), ls (-z1 a)) / Real.log 2 : ℝ) : EReal)
  a0 : getA s.a0 (ix2 y d) = mix (256 * b + y.val) z0 u (256 * n) (256 * (b + 1))
  a1 : getA s.a1 (ix2 y d) = mix (256 * b + y.val) z1 u (256 * n) (256 * (b + 1))

variable (hz0 : ∀ n, n ≤ b → ∀ j : Fin 256, (zz (qh0 q) (k n) : FVec Ideal S256x256 .f32) (ix2 y j) = ((z0 (256 * n + j.val) / Real.log 2 : ℝ) : EReal))
  (hz1 : ∀ n, n ≤ b → ∀ j : Fin 256, (zz (qh1 q) (k n) : FVec Ideal S256x256 .f32) (ix2 y j) = ((z1 (256 * n + j.val) / Real.log 2 : ℝ) : EReal))
  (hv : ∀ n, n ≤ b → ∀ j : Fin 256, v n (ix3 0 j d) = u (256 * n + j.val))
include ht hz0 hz1 hv

/-- The diagonal block. -/
theorem from_first : From b y d z0 z1 u b (St.first tri q (k b) (v b)) where
  c0 := (getC_putC (diagC (qh0 q) (k b)) y).trans (diag_mass (qh0 q) (k b) b b y z0 (hz0 b le_rfl) rfl)
  c1 := (getC_putC (diagC (qh1 q) (k b)) y).trans (diag_mass (qh1 q) (k b) b b y z1 (hz1 b le_rfl) rfl)
  a0 := (getA_putA (diagA tri (qh0 q) (k b) (v b)) y d).trans
    (diag_values tri ht (qh0 q) (k b) (v b) b b y d z0 u (hz0 b le_rfl) (hv b le_rfl) rfl)
  a1 := (getA_putA (diagA tri (qh1 q) (k b) (v b)) y d).trans
    (diag_values tri ht (qh1 q) (k b) (v b) b b y d z1 u (hz1 b le_rfl) (hv b le_rfl) rfl)

/-- One more block, from a mass and weighted values. -/
theorem from_step (n : ℕ) (hn : n < b) (c0 c1 : FVec Ideal S256x1 .f32) (a0 a1 : FVec Ideal S256x128 .f32)
    (h0 : c0 (ix2 y 0) = (((∑ a ∈ Finset.Ico (256 * (n + 1)) (256 * b + y.val), ls (-z0 a)) / Real.log 2 : ℝ) : EReal))
    (h1 : c1 (ix2 y 0) = (((∑ a ∈ Finset.Ico (256 * (n + 1)) (256 * b + y.val), ls (-z1 a)) / Real.log 2 : ℝ) : EReal))
    (g0 : a0 (ix2 y d) = mix (256 * b + y.val) z0 u (256 * (n + 1)) (256 * (b + 1)))
    (g1 : a1 (ix2 y d) = mix (256 * b + y.val) z1 u (256 * (n + 1)) (256 * (b + 1))) :
    From b y d z0 z1 u n ⟨putA (addf a0 (visA tri (qh0 q) (k n) (v n) c0)), putA (addf a1 (visA tri (qh1 q) (k n) (v n) c1)),
      putC (visC (qh0 q) (k n) c0), putC (visC (qh1 q) (k n) c1)⟩ where
  c0 := (getC_putC (visC (qh0 q) (k n) c0) y).trans (vis_mass (qh0 q) (k n) b n y z0 (hz0 n hn.le) hn c0 h0)
  c1 := (getC_putC (visC (qh1 q) (k n) c1) y).trans (vis_mass (qh1 q) (k n) b n y z1 (hz1 n hn.le) hn c1 h1)
  a0 := (getA_putA (addf a0 (visA tri (qh0 q) (k n) (v n) c0)) y d).trans ((congrArg₂ (fun x w : EReal => x + w) g0
    (vis_values tri ht (qh0 q) (k n) (v n) b n y d z0 u (hz0 n hn.le) (hv n hn.le) hn c0 h0)).trans (mix_join _ _ _ (by omega) (by omega)))
  a1 := (getA_putA (addf a1 (visA tri (qh1 q) (k n) (v n) c1)) y d).trans ((congrArg₂ (fun x w : EReal => x + w) g1
    (vis_values tri ht (qh1 q) (k n) (v n) b n y d z1 u (hz1 n hn.le) (hv n hn.le) hn c1 h1)).trans (mix_join _ _ _ (by omega) (by omega)))

/-- One more block, from a state. -/
theorem from_visit (n : ℕ) (hn : n < b) (s : St Ideal) (h : From b y d z0 z1 u (n + 1) s) :
    From b y d z0 z1 u n (s.visit tri (qh0 q) (qh1 q) (k n) (v n)) :=
  from_step tri ht q k v b y d z0 z1 u hz0 hz1 hv n hn (getC s.c0) (getC s.c1) (getA s.a0) (getA s.a1) h.c0 h.c1 h.a0 h.a1

/-- All the earlier blocks. -/
theorem from_run : ∀ (n : ℕ) (_ : n ≤ b) (s : St Ideal), From b y d z0 z1 u n s → From b y d z0 z1 u 0 (St.run tri (qh0 q) (qh1 q) k v n s)
  | 0, _, _, h => h
  | n + 1, hn, s, h => by
    rw [St.run, if_pos (go_on s y _ h.c0)]
    exact from_run n (by omega) _ (from_visit tri ht q k v b y d z0 z1 u hz0 hz1 hv n (by omega) s h)

/-- The start: the diagonal block and the one before it. -/
theorem from_start : From b y d z0 z1 u (b - 1) (St.start tri q k v b) := by
  cases b with
  | zero => exact from_first tri ht q k v 0 y d z0 z1 u hz0 hz1 hv
  | succ n =>
    exact from_step tri ht q k v (n + 1) y d z0 z1 u hz0 hz1 hv n (Nat.lt_succ_self n)
      (diagC (qh0 q) (k (n + 1))) (diagC (qh1 q) (k (n + 1))) (diagA tri (qh0 q) (k (n + 1)) (v (n + 1))) (diagA tri (qh1 q) (k (n + 1)) (v (n + 1)))
      (diag_mass (qh0 q) (k (n + 1)) (n + 1) (n + 1) y z0 (hz0 (n + 1) le_rfl) rfl)
      (diag_mass (qh1 q) (k (n + 1)) (n + 1) (n + 1) y z1 (hz1 (n + 1) le_rfl) rfl)
      (diag_values tri ht (qh0 q) (k (n + 1)) (v (n + 1)) (n + 1) (n + 1) y d z0 u (hz0 (n + 1) le_rfl) (hv (n + 1) le_rfl) rfl)
      (diag_values tri ht (qh1 q) (k (n + 1)) (v (n + 1)) (n + 1) (n + 1) y d z1 u (hz1 (n + 1) le_rfl) (hv (n + 1) le_rfl) rfl)

/-- A query's result, lane by lane: its own head's weighted values. -/
theorem out_apply : (St.out (St.final tri q k v b) : FVec Ideal S1x256x128 .bf16) (ix3 0 y d)
    = mix (256 * b + y.val) (if d.val < 64 then z0 else z1) u 0 (256 * (b + 1)) := by
  have h : From b y d z0 z1 u 0 (St.final tri q k v b) :=
    from_run tri ht q k v b y d z0 z1 u hz0 hz1 hv (b - 1) (by omega) _ (from_start tri ht q k v b y d z0 z1 u hz0 hz1 hv)
  refine (shapeCast_apply _ _ (ix3 0 y d) (ix2 y d) ?_).trans ?_
  · rw [Shape.rowMajor_val_two, Shape.rowMajor_val_three]
    show y.val * 128 + d.val = (0 * 256 + y.val) * 128 + d.val
    omega
  show Scalar.select (IntOp.cmpi .slt (BitVec.ofNat 32 (0 * 128 + d.val)) 64#32) (getA (St.final tri q k v b).a0 (ix2 y d)) (getA (St.final tri q k v b).a1 (ix2 y d)) = _
  rw [h.a0, h.a1]
  have e : (IntOp.cmpi .slt (BitVec.ofNat 32 (0 * 128 + d.val)) 64#32 : BitVec 1) = if d.val < 64 then 1#1 else 0#1 := by
    exact (by decide : ∀ d : Fin 128, (IntOp.cmpi .slt (BitVec.ofNat 32 (0 * 128 + d.val)) 64#32 : BitVec 1) = if d.val < 64 then 1#1 else 0#1) d
  rw [e]
  by_cases hd : d.val < 64
  · rw [if_pos hd, if_pos hd]; rfl
  · rw [if_neg hd, if_neg hd]; rfl

end Both

end Cert.Kernel3Ideal.Attention

end
-- ==== Proof.AttnQuery.lean ====
/-
  What the call computes, stated over the argument: each query's values, weighted. And a point's block is that.

  A batch's rows are 8192 consecutive rows of the argument; head `h` has its queries in columns `64 h` onward, its keys
  512 columns further on, its values 1024.
-/
module

public import proofs.«01_k».proof.Proof.AttnFinal
public import proofs.«01_k».proof.Proof.AttnStep

@[expose] public section

set_option maxRecDepth 16384

noncomputable section

namespace Cert.Kernel3Ideal.Attention

open Cert.Kernel3Ideal Cert.Kernel3Ideal.Gen
open Idealize.ShloMosaic Idealize.ShloMosaic.ValueIdx
open scoped BigOperators

/-- The argument's entry of batch `b`, position `i`, column `c`. -/
def entry (X : S32768x1536.Idx → EReal) (b i c : ℕ) : EReal :=
  X (ix2 ⟨(8192 * b + i) % 32768, Nat.mod_lt _ (by decide)⟩ ⟨c % 1536, Nat.mod_lt _ (by decide)⟩)

/-- The scaled product of head `h`'s query `i` with its key `j`. -/
def score (X : S32768x1536.Idx → EReal) (b h i j : ℕ) : ℝ :=
  (∑ d ∈ Finset.range 64, (entry X b i (64 * h + d)).toReal * (entry X b j (512 + (64 * h + d))).toReal) / 8

/-- Column `c` of query `i`'s result: the values weighted by their stick-breaking weights. -/
def attend (X : S32768x1536.Idx → EReal) (b i c : ℕ) : EReal :=
  mix i (score X b (c / 64) i) (fun j => entry X b j (1024 + c)) 0 8192

/-- The queries and keys are finite. -/
def Fin2 (X : S32768x1536.Idx → EReal) : Prop := ∀ b i c, c < 1024 → entry X b i c = ((entry X b i c).toReal : EReal)

/-- The masked queries, lane by lane. -/
theorem qh0_apply (q : Vec Ideal S1x256x128 .bf16) (y : Fin 256) (d : Fin 128) :
    (qh0 q : FVec Ideal S256x128 .bf16) (ix2 y d) = if d.val < 64 then (q (ix3 0 y d) : EReal) else 0 := by
  have e : (IntOp.cmpi .slt (BitVec.ofNat 32 (0 * 128 + d.val)) 64#32 : BitVec 1) = if d.val < 64 then 1#1 else 0#1 :=
    (by decide : ∀ d : Fin 128, (IntOp.cmpi .slt (BitVec.ofNat 32 (0 * 128 + d.val)) 64#32 : BitVec 1) = if d.val < 64 then 1#1 else 0#1) d
  show Scalar.select (IntOp.cmpi .slt (BitVec.ofNat 32 (0 * 128 + d.val)) 64#32) (mat q (ix2 y d)) (FloatOps.ofBits .bf16 0x0000#16 : Ideal .bf16) = _
  rw [e, mat_apply]
  by_cases hd : d.val < 64
  · rw [if_pos hd, if_pos hd]; rfl
  · rw [if_neg hd, if_neg hd]; exact zero_bf16
theorem qh1_apply (q : Vec Ideal S1x256x128 .bf16) (y : Fin 256) (d : Fin 128) :
    (qh1 q : FVec Ideal S256x128 .bf16) (ix2 y d) = if d.val < 64 then 0 else (q (ix3 0 y d) : EReal) := by
  have e : (IntOp.cmpi .sge (BitVec.ofNat 32 (0 * 128 + d.val)) 64#32 : BitVec 1) = if d.val < 64 then 0#1 else 1#1 :=
    (by decide : ∀ d : Fin 128, (IntOp.cmpi .sge (BitVec.ofNat 32 (0 * 128 + d.val)) 64#32 : BitVec 1) = if d.val < 64 then 0#1 else 1#1) d
  show Scalar.select (IntOp.cmpi .sge (BitVec.ofNat 32 (0 * 128 + d.val)) 64#32) (mat q (ix2 y d)) (FloatOps.ofBits .bf16 0x0000#16 : Ideal .bf16) = _
  rw [e, mat_apply]
  by_cases hd : d.val < 64
  · rw [if_pos hd, if_pos hd]; exact zero_bf16
  · rw [if_neg hd, if_neg hd]; rfl

theorem scale_eq (x : ℝ) : (x : EReal) * (((8 * Real.log 2)⁻¹ : ℝ) : EReal) = ((x / 8 / Real.log 2 : ℝ) : EReal) := by
  rw [← EReal.coe_mul, div_div, div_eq_mul_inv]

section Products

variable (q k : Vec Ideal S1x256x128 .bf16) (y j : Fin 256) (f g : ℕ → ℝ)
  (hq : ∀ d : Fin 128, (q (ix3 0 y d) : EReal) = (f d.val : EReal)) (hk : ∀ d : Fin 128, (k (ix3 0 j d) : EReal) = (g d.val : EReal))
include hq hk

/-- A scaled product with the first head's lanes. -/
theorem zz0_apply : (zz (qh0 q) k : FVec Ideal S256x256 .f32) (ix2 y j) = (((∑ d ∈ Finset.range 64, f d * g d) / 8 / Real.log 2 : ℝ) : EReal) := by
  refine (zz_apply (qh0 q) k y j).trans ?_
  rw [← scale_eq]
  refine congrArg (· * (((8 * Real.log 2)⁻¹ : ℝ) : EReal)) ?_
  have e : ∀ d : Fin 128, (qh0 q (ix2 y d) : EReal) * (k (ix3 0 j d) : EReal) = (((fun n => if n < 64 then f n * g n else 0) d.val : ℝ) : EReal) := by
    intro d
    rw [qh0_apply, hq d, hk d]
    show _ = ((if d.val < 64 then f d.val * g d.val else 0 : ℝ) : EReal)
    by_cases hd : d.val < 64
    · rw [if_pos hd, if_pos hd, EReal.coe_mul]
    · rw [if_neg hd, if_neg hd]; exact zero_mul _
  rw [Finset.sum_congr rfl fun d _ => e d, ← coe_sum, Fin.sum_univ_eq_sum_range (fun n => if n < 64 then f n * g n else 0) 128,
    Finset.range_eq_Ico, ← Finset.sum_Ico_consecutive _ (Nat.zero_le 64) (by decide : 64 ≤ 128), ← Finset.range_eq_Ico,
    Finset.sum_congr rfl fun d hd => if_pos (Finset.mem_range.1 hd),
    Finset.sum_eq_zero (s := Finset.Ico 64 128) fun d hd => if_neg (Nat.not_lt.2 (Finset.mem_Ico.1 hd).1), add_zero]

/-- A scaled product with the second head's lanes. -/
theorem zz1_apply : (zz (qh1 q) k : FVec Ideal S256x256 .f32) (ix2 y j)
    = (((∑ d ∈ Finset.range 64, f (64 + d) * g (64 + d)) / 8 / Real.log 2 : ℝ) : EReal) := by
  refine (zz_apply (qh1 q) k y j).trans ?_
  rw [← scale_eq]
  refine congrArg (· * (((8 * Real.log 2)⁻¹ : ℝ) : EReal)) ?_
  have e : ∀ d : Fin 128, (qh1 q (ix2 y d) : EReal) * (k (ix3 0 j d) : EReal) = (((fun n => if n < 64 then 0 else f n * g n) d.val : ℝ) : EReal) := by
    intro d
    rw [qh1_apply, hq d, hk d]
    show _ = ((if d.val < 64 then 0 else f d.val * g d.val : ℝ) : EReal)
    by_cases hd : d.val < 64
    · rw [if_pos hd, if_pos hd]; exact zero_mul _
    · rw [if_neg hd, if_neg hd, EReal.coe_mul]
  rw [Finset.sum_congr rfl fun d _ => e d, ← coe_sum, Fin.sum_univ_eq_sum_range (fun n => if n < 64 then 0 else f n * g n) 128,
    Finset.range_eq_Ico, ← Finset.sum_Ico_consecutive _ (Nat.zero_le 64) (by decide : 64 ≤ 128),
    Finset.sum_eq_zero (s := Finset.Ico 0 64) fun d hd => if_pos (Finset.mem_Ico.1 hd).2, zero_add,
    Finset.sum_congr rfl fun d hd => if_neg (Nat.not_lt.2 (Finset.mem_Ico.1 hd).1), Finset.sum_Ico_eq_sum_range]

end Products

/-- A query's result needs no keys after its own block. -/
theorem mix_all (i e : ℕ) (z : ℕ → ℝ) (v : ℕ → EReal) (hi : i ≤ e) (he : e ≤ 8192) : mix i z v 0 e = mix i z v 0 8192 := by
  rw [← mix_join i z v (Nat.zero_le e) he, mix_after i z v hi, zero_add]

section Block

variable (X : S32768x1536.Idx → EReal) (hX : Fin2 X) (b p t : ℕ) (hp : p < 4) (ht4 : t < 4)
  (x0 : Vec Ideal S1x2048x128 .bf16) (x1 x2 : Vec Ideal S1x8192x128 .bf16) (x3 : Vec Ideal S256x256 .bf16)
  (h0 : ∀ (y : Fin 2048) (d : Fin 128), (x0 (ix3 0 y d) : EReal) = entry X b (2048 * t + y.val) (128 * p + d.val))
  (h1 : ∀ (y : Fin 8192) (d : Fin 128), (x1 (ix3 0 y d) : EReal) = entry X b y.val (512 + (128 * p + d.val)))
  (h2 : ∀ (y : Fin 8192) (d : Fin 128), (x2 (ix3 0 y d) : EReal) = entry X b y.val (1024 + (128 * p + d.val)))
  (h3 : ∀ a c : Fin 256, x3 (ix2 a c) = ((if c.val < a.val then 1 else 0 : ℝ) : EReal))

theorem tri_apply (a c : Fin 256) : (k0_pay540 (View.ld x3 rT) : FVec Ideal S256x256 .bf16) (ix2 a c) = x3 (ix2 a c) := by
  show shapeCast S256x256 (View.ld x3 rT) shapeCasts_S256x256_S256x256 (ix2 a c) = _
  refine (shapeCast_apply (View.ld x3 rT) shapeCasts_S256x256_S256x256 (ix2 a c) (ix2 a c) rfl).trans ?_
  refine congrArg x3 (funext fun e => Fin.ext ?_)
  match e with
  | ⟨0, _⟩ => show 0 + 1 * a.val = a.val; omega
  | ⟨1, _⟩ => show 0 + 1 * c.val = c.val; omega

theorem queries_apply (s : Fin 8) (y : Fin 256) (d : Fin 128) (Y : Fin 2048) (hY : Y.val = 256 * s.val + y.val) :
    (View.ld x0 (rQ s) : Vec Ideal S1x256x128 .bf16) (ix3 0 y d) = x0 (ix3 0 Y d) := by
  refine congrArg x0 (funext fun e => Fin.ext ?_)
  match e with
  | ⟨0, _⟩ => rfl
  | ⟨1, _⟩ => show 256 * s.val + 1 * y.val = Y.val; omega
  | ⟨2, _⟩ => show 0 + 1 * d.val = d.val; omega

theorem blk_apply (x : Vec Ideal S1x8192x128 .bf16) (n : ℕ) (y : Fin 256) (d : Fin 128) (Y : Fin 8192) (hY : Y.val = 256 * n + y.val) :
    (blk x n : Vec Ideal S1x256x128 .bf16) (ix3 0 y d) = x (ix3 0 Y d) := by
  refine congrArg x (funext fun e => Fin.ext ?_)
  match e with
  | ⟨0, _⟩ => rfl
  | ⟨1, _⟩ => show (n * 256 + y.val) % 8192 = Y.val; have := Y.isLt; omega
  | ⟨2, _⟩ => rfl

include hX hp ht4 h0 h1 h2 h3

/-- Block `s` of what a point leaves. -/
theorem piece_apply (s : Fin 8) (y : Fin 256) (d : Fin 128) :
    (St.out (St.final (k0_pay540 (View.ld x3 rT)) (View.ld x0 (rQ s)) (blk x1) (blk x2) (8 * t + s.val)) : FVec Ideal S1x256x128 .bf16) (ix3 0 y d)
      = attend X b (2048 * t + (256 * s.val + y.val)) (128 * p + d.val) := by
  have hs := s.isLt
  have hy := y.isLt
  have hd := d.isLt
  have ei : 256 * (8 * t + s.val) + y.val = 2048 * t + (256 * s.val + y.val) := by omega
  have hq : ∀ d : Fin 128, ((View.ld x0 (rQ s) : Vec Ideal S1x256x128 .bf16) (ix3 0 y d) : EReal)
      = (((fun n => (entry X b (2048 * t + (256 * s.val + y.val)) (128 * p + n)).toReal) d.val : ℝ) : EReal) := fun d => by
    rw [queries_apply x0 s y d ⟨256 * s.val + y.val, by omega⟩ rfl, h0]
    exact hX _ _ _ (by have := d.isLt; omega)
  have hk : ∀ (n : ℕ) (_ : n ≤ 8 * t + s.val) (j : Fin 256) (d : Fin 128), ((blk x1 n : Vec Ideal S1x256x128 .bf16) (ix3 0 j d) : EReal)
      = (((fun c => (entry X b (256 * n + j.val) (512 + (128 * p + c))).toReal) d.val : ℝ) : EReal) := fun n hn j d => by
    rw [blk_apply x1 n j d ⟨256 * n + j.val, by have := j.isLt; omega⟩ rfl, h1]
    exact hX _ _ _ (by have := d.isLt; omega)
  refine (out_apply (k0_pay540 (View.ld x3 rT)) (fun a c => (tri_apply x3 a c).trans (h3 a c)) (View.ld x0 (rQ s)) (blk x1) (blk x2) (8 * t + s.val) y d
    (score X b (2 * p) (2048 * t + (256 * s.val + y.val))) (score X b (2 * p + 1) (2048 * t + (256 * s.val + y.val)))
    (fun j => entry X b j (1024 + (128 * p + d.val))) ?_ ?_ ?_).trans ?_
  · intro n hn j
    refine (zz0_apply (View.ld x0 (rQ s)) (blk x1 n) y j (fun c => (entry X b (2048 * t + (256 * s.val + y.val)) (128 * p + c)).toReal)
      (fun c => (entry X b (256 * n + j.val) (512 + (128 * p + c))).toReal) hq (hk n hn j)).trans ?_
    unfold score
    rw [show 64 * (2 * p) = 128 * p by omega]
  · intro n hn j
    refine (zz1_apply (View.ld x0 (rQ s)) (blk x1 n) y j (fun c => (entry X b (2048 * t + (256 * s.val + y.val)) (128 * p + c)).toReal)
      (fun c => (entry X b (256 * n + j.val) (512 + (128 * p + c))).toReal) hq (hk n hn j)).trans ?_
    unfold score
    rw [show 64 * (2 * p + 1) = 128 * p + 64 by omega]
    simp only [Nat.add_assoc]
  · intro n hn j
    exact (blk_apply x2 n j d ⟨256 * n + j.val, by have := j.isLt; omega⟩ rfl).trans (h2 _ _)
  · unfold attend
    rw [ei, mix_all _ _ _ _ (by omega) (by omega)]
    by_cases hd' : d.val < 64
    · rw [if_pos hd', show (128 * p + d.val) / 64 = 2 * p by omega]
    · rw [if_neg hd', show (128 * p + d.val) / 64 = 2 * p + 1 by omega]

set_option maxHeartbeats 1000000 in
/-- What a point leaves. -/
theorem leftBlock_apply (y : Fin 2048) (d : Fin 128) :
    (leftBlock t x0 x1 x2 x3 : Vec Ideal S1x2048x128 .bf16) (ix3 0 y d) = attend X b (2048 * t + y.val) (128 * p + d.val) := by
  refine View.canon_apply_of_pieces (Val := Elt Ideal)
    ((fun y => attend X b (2048 * t + (y 1).val) (128 * p + (y 2).val)) : Vec Ideal S1x2048x128 .bf16) _ ?_ (ix3 0 y d) (cover _ _)
  intro pc hpc
  obtain ⟨s, rfl⟩ : ∃ s : Fin 8, pc = ⟨rQ s, St.out (St.final (k0_pay540 (View.ld x3 rT)) (View.ld x0 (rQ s)) (blk x1) (blk x2) (8 * t + s.val))⟩ := by
    simp only [outs, List.mem_cons, List.not_mem_nil, or_false] at hpc
    rcases hpc with h | h | h | h | h | h | h | h <;> exact ⟨_, h⟩
  intro z
  obtain ⟨z0, z1, z2, rfl⟩ : ∃ (z0 : Fin 1) (z1 : Fin 256) (z2 : Fin 128), (z : S1x256x128.Idx) = ix3 z0 z1 z2 := ⟨z 0, z 1, z 2, eq_ix3 _⟩
  obtain rfl : z0 = 0 := Subsingleton.elim _ _
  refine (piece_apply X hX b p t hp ht4 x0 x1 x2 x3 h0 h1 h2 h3 s z1 z2).trans ?_
  show attend X b (2048 * t + (256 * s.val + z1.val)) (128 * p + z2.val) = attend X b (2048 * t + (256 * s.val + 1 * z1.val)) (128 * p + (0 + 1 * z2.val))
  rw [Nat.one_mul, Nat.one_mul, Nat.zero_add]

end Block

end Cert.Kernel3Ideal.Attention

end
-- ==== Proof.AttnValue.lean ====
/-
  What the attention leaves in its result array, over the extended reals: every query's values, weighted.
-/
module

public import proofs.«01_k».proof.Proof.AttnQuery
public import proofs.«01_k».proof.Proof.AttnRun
public import Idealize.ShloMosaic.Lib.StableHlo.Run

@[expose] public section

set_option maxRecDepth 16384

noncomputable section

namespace Cert.Kernel3Ideal.Attention

open Cert.Kernel3Ideal Cert.Kernel3Ideal.Gen
open Idealize.ShloMosaic Idealize.ShloMosaic.TcCoe Idealize.ShloMosaic.ValueIdx
open Idealize.ShloMosaic.Pipeline (Dat Window)
open Idealize.SL.Sem
open scoped BigOperators

/-- The result: batch, position, column. -/
def attention (X : S32768x1536.Idx → EReal) : S4x8192x512.Idx → EReal := fun y => attend X (y 0).val (y 1).val (y 2).val

variable (m : (ℓ : Loc nD τ sig) → Buf (Elt Ideal) ℓ)

/-- The argument, as an array of extended reals. -/
abbrev argX (c : Dev nD) : S32768x1536.Idx → EReal := m ((c : Thread nD τ).loc main_arg0)

/-- The queries, keys and values as the call finds them: the argument by batches. -/
theorem V_rows (c : Dev nD) : V m c main_v0 = shapeCast S4x8192x1536 (m ((c : Thread nD τ).loc main_arg0)) shapeCasts_S32768x1536_S4x8192x1536 := by
  show StableHlo.after hostOps0 _ (Proc.devRef .tc main_v0) = _
  after_results
  rfl

/-- The earlier keys against later, as the call finds them. -/
theorem V_triangle (c : Dev nD) : V m c main_v5
    = (truncf .bf16 (uitofp .f32 (cmpi .sgt (iotaInDim S256x256 32 0) (iotaInDim S256x256 32 1)) : FVec Ideal S256x256 .f32) bitsLt_bf16_f32 : FVec Ideal S256x256 .bf16) := by
  show StableHlo.after hostOps0 _ (Proc.devRef .tc main_v5) = _
  after_results

theorem triangle_apply (a c : Fin 256) :
    (truncf .bf16 (uitofp .f32 (cmpi .sgt (iotaInDim S256x256 32 0) (iotaInDim S256x256 32 1)) : FVec Ideal S256x256 .f32) bitsLt_bf16_f32 : FVec Ideal S256x256 .bf16) (ix2 a c)
      = ((if c.val < a.val then 1 else 0 : ℝ) : EReal) := by
  show ((((IntOp.cmpi .sgt (BitVec.ofNat 32 a.val) (BitVec.ofNat 32 c.val) : BitVec 1).toNat : ℕ) : ℝ) : EReal) = _
  have e (n : ℕ) (h : n < 256) : (BitVec.ofNat 32 n).toInt = (n : ℤ) := by
    rw [BitVec.toInt_ofNat', Int.bmod_eq_of_le] <;> omega
  have h : (IntOp.cmpi .sgt (BitVec.ofNat 32 a.val) (BitVec.ofNat 32 c.val) : BitVec 1) = if c.val < a.val then 1#1 else 0#1 := by
    show BitVec.ofBool (decide ((BitVec.ofNat 32 c.val).toInt < (BitVec.ofNat 32 a.val).toInt)) = _
    rw [e _ a.isLt, e _ c.isLt]
    by_cases h : c.val < a.val
    · rw [if_pos h, decide_eq_true (by omega)]; rfl
    · rw [if_neg h, decide_eq_false (by omega)]; rfl
  rw [h]
  by_cases h : c.val < a.val
  · rw [if_pos h, if_pos h]; norm_num
  · rw [if_neg h, if_neg h]; norm_num

/-- A point's coordinates: batch, pair of heads, block of queries. -/
theorem crd0 (t : Fin (cfg0 (F := Ideal)).N) : ((grid0.coords t) 0).val = t.val / 16 := by
  have h : ((grid0.coords t) 0).val = t.val / 16 % 4 := Pipeline.Grid.coords_val (G := grid0) t 0 rfl rfl
  have ht : t.val < 64 := t.isLt
  omega
theorem crd1 (t : Fin (cfg0 (F := Ideal)).N) : ((grid0.coords t) 1).val = t.val / 4 % 4 :=
  Pipeline.Grid.coords_val (G := grid0) t 1 rfl rfl
theorem crd2 (t : Fin (cfg0 (F := Ideal)).N) : ((grid0.coords t) 2).val = t.val % 4 := by
  have h : ((grid0.coords t) 2).val = t.val / 1 % 4 := Pipeline.Grid.coords_val (G := grid0) t 2 rfl rfl
  omega

theorem word (n : ℕ) (h : n < 4) : (BitVec.ofNat 32 n).toNat = n := by
  rw [BitVec.toNat_ofNat]; omega

/-- An entry of the argument by batches. -/
theorem rows_apply (c : Dev nD) (b : Fin 4) (i : Fin 8192) (d : Fin 1536) :
    (V m c main_v0 : S4x8192x1536.Idx → EReal) (ix3 b i d) = entry (argX m c) b.val i.val d.val := by
  rw [V_rows]
  have hb := b.isLt; have hi := i.isLt; have hd := d.isLt
  refine shapeCast_apply (s := S32768x1536) (t := S4x8192x1536) _ _ _ _ ?_
  rw [Shape.rowMajor_val_two, Shape.rowMajor_val_three]
  show (8192 * b.val + i.val) % 32768 * 1536 + d.val % 1536 = (b.val * 8192 + i.val) * 1536 + d.val
  omega

variable (c : Dev nD) (t : Fin (cfg0 (F := Ideal)).N)

/-- The queries' block at a point. -/
theorem iblk0_apply (y : Fin 2048) (d : Fin 128) : (iblk m c 0 t : S1x2048x128.Idx → EReal) (ix3 0 y d)
    = entry (argX m c) (t.val / 16) (2048 * (t.val % 4) + y.val) (128 * (t.val / 4 % 4) + d.val) := by
  have ht : t.val < 64 := t.isLt
  have hy := y.isLt; have hd := d.isLt
  unfold iblk
  rw [View.read_apply]
  refine Eq.trans ?_ (rows_apply m c ⟨t.val / 16, by omega⟩ ⟨2048 * (t.val % 4) + y.val, by omega⟩ ⟨128 * (t.val / 4 % 4) + d.val, by omega⟩)
  show (V m c main_v0 : S4x8192x1536.Idx → EReal) _ = _
  congr 1
  funext a
  apply Fin.ext
  match a with
  | ⟨0, _⟩ => show (BitVec.ofNat 32 ((grid0.coords t) 0).val).toNat * 1 + 1 * 0 = t.val / 16; rw [crd0, word _ (by omega)]; omega
  | ⟨1, _⟩ => show (BitVec.ofNat 32 ((grid0.coords t) 2).val).toNat * 2048 + 1 * y.val = 2048 * (t.val % 4) + y.val; rw [crd2, word _ (by omega)]; omega
  | ⟨2, _⟩ => show (BitVec.ofNat 32 ((grid0.coords t) 1).val).toNat * 128 + 1 * d.val = 128 * (t.val / 4 % 4) + d.val; rw [crd1, word _ (by omega)]; omega

theorem word_add (k n : ℕ) (hk : k < 16) (h : n < 4) : (Scalar.addi (BitVec.ofNat 32 k) (BitVec.ofNat 32 n) : BitVec 32).toNat = k + n := by
  show (BitVec.ofNat 32 k + BitVec.ofNat 32 n).toNat = _
  rw [BitVec.toNat_add, BitVec.toNat_ofNat, BitVec.toNat_ofNat]; omega

/-- The keys' block at a point. -/
theorem iblk1_apply (y : Fin 8192) (d : Fin 128) : (iblk m c 1 t : S1x8192x128.Idx → EReal) (ix3 0 y d)
    = entry (argX m c) (t.val / 16) y.val (512 + (128 * (t.val / 4 % 4) + d.val)) := by
  have ht : t.val < 64 := t.isLt
  have hy := y.isLt; have hd := d.isLt
  unfold iblk
  rw [View.read_apply]
  refine Eq.trans ?_ (rows_apply m c ⟨t.val / 16, by omega⟩ y ⟨512 + (128 * (t.val / 4 % 4) + d.val), by omega⟩)
  show (V m c main_v0 : S4x8192x1536.Idx → EReal) _ = _
  congr 1
  funext a
  apply Fin.ext
  match a with
  | ⟨0, _⟩ => show (BitVec.ofNat 32 ((grid0.coords t) 0).val).toNat * 1 + 1 * 0 = t.val / 16; rw [crd0, word _ (by omega)]; omega
  | ⟨1, _⟩ => show 0 * 8192 + 1 * y.val = y.val; omega
  | ⟨2, _⟩ => show (Scalar.addi (BitVec.ofNat 32 4) (BitVec.ofNat 32 ((grid0.coords t) 1).val) : BitVec 32).toNat * 128 + 1 * d.val = 512 + (128 * (t.val / 4 % 4) + d.val); rw [crd1, word_add _ _ (by omega) (by omega)]; omega

/-- The values' block at a point. -/
theorem iblk2_apply (y : Fin 8192) (d : Fin 128) : (iblk m c 2 t : S1x8192x128.Idx → EReal) (ix3 0 y d)
    = entry (argX m c) (t.val / 16) y.val (1024 + (128 * (t.val / 4 % 4) + d.val)) := by
  have ht : t.val < 64 := t.isLt
  have hy := y.isLt; have hd := d.isLt
  unfold iblk
  rw [View.read_apply]
  refine Eq.trans ?_ (rows_apply m c ⟨t.val / 16, by omega⟩ y ⟨1024 + (128 * (t.val / 4 % 4) + d.val), by omega⟩)
  show (V m c main_v0 : S4x8192x1536.Idx → EReal) _ = _
  congr 1
  funext a
  apply Fin.ext
  match a with
  | ⟨0, _⟩ => show (BitVec.ofNat 32 ((grid0.coords t) 0).val).toNat * 1 + 1 * 0 = t.val / 16; rw [crd0, word _ (by omega)]; omega
  | ⟨1, _⟩ => show 0 * 8192 + 1 * y.val = y.val; omega
  | ⟨2, _⟩ => show (Scalar.addi (BitVec.ofNat 32 8) (BitVec.ofNat 32 ((grid0.coords t) 1).val) : BitVec 32).toNat * 128 + 1 * d.val = 1024 + (128 * (t.val / 4 % 4) + d.val); rw [crd1, word_add _ _ (by omega) (by omega)]; omega

/-- The triangle at a point. -/
theorem iblk3_apply (a e : Fin 256) : (iblk m c 3 t : S256x256.Idx → EReal) (ix2 a e) = ((if e.val < a.val then 1 else 0 : ℝ) : EReal) := by
  unfold iblk
  rw [View.read_apply]
  refine Eq.trans ?_ ((congrFun (V_triangle m c) (ix2 a e)).trans (triangle_apply a e))
  show (V m c main_v5 : S256x256.Idx → EReal) _ = _
  congr 1
  funext b
  apply Fin.ext
  match b with
  | ⟨0, _⟩ => show 0 * 256 + 1 * a.val = a.val; omega
  | ⟨1, _⟩ => show 0 * 256 + 1 * e.val = e.val; omega

/-- The entry of the result that an entry of a point's block is. -/
theorem emb4 (y : Fin 2048) (d : Fin 128) (b : Fin 4) (i : Fin 8192) (e : Fin 512) (hb : b.val = t.val / 16)
    (hi : i.val = 2048 * (t.val % 4) + y.val) (he : e.val = 128 * (t.val / 4 % 4) + d.val) :
    (((cfg0 (F := Ideal)).win 4).blk t).view.emb (ix3 0 y d : S1x2048x128.Idx) = (ix3 b i e : S4x8192x512.Idx) := by
  have ht : t.val < 64 := t.isLt
  funext a
  apply Fin.ext
  match a with
  | ⟨0, _⟩ => show (BitVec.ofNat 32 ((grid0.coords t) 0).val).toNat * 1 + 1 * 0 = b.val; rw [crd0, word _ (by omega)]; omega
  | ⟨1, _⟩ => show (BitVec.ofNat 32 ((grid0.coords t) 2).val).toNat * 2048 + 1 * y.val = i.val; rw [crd2, word _ (by omega)]; omega
  | ⟨2, _⟩ => show (BitVec.ofNat 32 ((grid0.coords t) 1).val).toNat * 128 + 1 * d.val = e.val; rw [crd1, word _ (by omega)]; omega

/-- What a point writes back. -/
theorem flushed4 : (dats m 0 c).flushed 4 t = ((cfg0 (F := Ideal)).win 4).cut (grid0.coords t) (leftAt m c t) := by
  show ((cfg0 (F := Ideal)).win 4).cut (grid0.coords t) ((dats m 0 c).after (4 : Fin 5) t) = _
  rw [after4]

omit t in
/-- The result after the run. -/
theorem array4_eq (hX : Fin2 (argX m c)) : (dats m 0 c).arrAt 4 (cfg0 (F := Ideal)).N = attention (argX m c) := by
  refine funext fun i => (dats m 0 c).arrAt_forall_of_cover 4 (fun i v => v = attention (argX m c) i) ?_ ?_ i
  · intro t _ y
    have ht : t.val < 64 := t.isLt
    obtain ⟨y0, y1, y2, rfl⟩ : ∃ (y0 : Fin 1) (y1 : Fin 2048) (y2 : Fin 128), (y : S1x2048x128.Idx) = ix3 y0 y1 y2 := ⟨y 0, y 1, y 2, eq_ix3 _⟩
    obtain rfl : y0 = 0 := Subsingleton.elim _ _
    have h1 := y1.isLt; have h2 := y2.isLt
    refine Eq.trans ?_ (congrArg (attention (argX m c)) (emb4 t y1 y2 ⟨t.val / 16, by omega⟩ ⟨2048 * (t.val % 4) + y1.val, by omega⟩
      ⟨128 * (t.val / 4 % 4) + y2.val, by omega⟩ rfl rfl rfl)).symm
    refine (congrFun (flushed4 m c t) _).trans ?_
    show (leftBlock (grid0.coords t 2).val (iblk m c 0 t) (iblk m c 1 t) (iblk m c 2 t) (iblk m c 3 t) : Vec Ideal S1x2048x128 .bf16) (ix3 0 y1 y2) = _
    rw [crd2]
    exact leftBlock_apply (argX m c) hX (t.val / 16) (t.val / 4 % 4) (t.val % 4) (by omega) (by omega) _ _ _ _
      (iblk0_apply m c t) (iblk1_apply m c t) (iblk2_apply m c t) (iblk3_apply m c t) y1 y2
  · intro i
    obtain ⟨b, r, e, rfl⟩ : ∃ (b : Fin 4) (r : Fin 8192) (e : Fin 512), (i : S4x8192x512.Idx) = ix3 b r e := ⟨i 0, i 1, i 2, eq_ix3 _⟩
    have hb := b.isLt; have hr := r.isLt; have he := e.isLt
    obtain ⟨t, ht⟩ : ∃ t : Fin (cfg0 (F := Ideal)).N, t.val = 16 * b.val + 4 * (e.val / 128) + r.val / 2048 :=
      ⟨(⟨16 * b.val + 4 * (e.val / 128) + r.val / 2048, by show _ < 64; omega⟩ : Fin 64), rfl⟩
    have ee := emb4 t ⟨r.val % 2048, Nat.mod_lt _ (by decide)⟩ ⟨e.val % 128, Nat.mod_lt _ (by decide)⟩ b r e (by omega)
      (by show r.val = 2048 * (t.val % 4) + r.val % 2048; omega) (by show e.val = 128 * (t.val / 4 % 4) + e.val % 128; omega)
    exact ⟨t, flush0_4 t, ee ▸ View.emb_mem_set _ _⟩

end Cert.Kernel3Ideal.Attention

end
-- ==== Proof.AttnReference.lean ====
/-
  What the attention's reference computes, over the extended reals, of finite queries and keys: the same weighted values.
-/
module

public import proofs.«01_k».proof.Proof.AttnValue
public import proofs.«01_k».proof.Proof.Gen.Reference3Ideal.Read

@[expose] public section

set_option maxRecDepth 16384

noncomputable section

namespace Cert.Reference3Ideal.Attention

open Cert.Reference3Ideal Cert.Reference3Ideal.Read
open Cert.Kernel3Ideal.Attention (ls wt mix coe_sum ls_nat entry score attend Fin2 attention zero_f32)
open Idealize.ShloMosaic Idealize.ShloMosaic.TcCoe Idealize.ShloMosaic.ValueIdx
open scoped BigOperators

/-! ## A sum over a window -/

theorem fold_add {ι : Type} (g : ι → EReal) : ∀ (l : List ι) (r : EReal), l.foldl (fun r n => r + g n) r = r + (l.map g).sum
  | [], r => (add_zero r).symm
  | n :: l, r => by
    rw [List.foldl_cons, fold_add g l, List.map_cons, List.sum_cons, add_assoc]

/-- The positions of a window along the last axis. -/
def positions : Fin 8192 ≃ (⟨4, ![1, 1, 1, 8192]⟩ : Shape).Idx where
  toFun k := ix4 0 0 0 k
  invFun w := w 3
  left_inv _ := rfl
  right_inv w := by
    refine Eq.trans ?_ (eq_ix4 w).symm
    have h0 : w 0 = (0 : Fin 1) := Subsingleton.elim (α := Fin 1) _ _
    have h1 : w 1 = (0 : Fin 1) := Subsingleton.elim (α := Fin 1) _ _
    have h2 : w 2 = (0 : Fin 1) := Subsingleton.elim (α := Fin 1) _ _
    rw [h0, h1, h2]
    rfl

/-- A tail of the sequence, position by position. -/
theorem tail_sum (f : ℕ → ℝ) (j : ℕ) (hj : j < 8192) :
    (∑ k : Fin 8192, if j + k.val < 8192 then ((f (j + k.val) : ℝ) : EReal) else 0) = ((∑ a ∈ Finset.Ico j 8192, f a : ℝ) : EReal) := by
  rw [coe_sum, Fin.sum_univ_eq_sum_range (fun k => if j + k < 8192 then ((f (j + k) : ℝ) : EReal) else 0) 8192, Finset.sum_Ico_eq_sum_range,
    Finset.range_eq_Ico, ← Finset.sum_Ico_consecutive _ (Nat.zero_le (8192 - j)) (Nat.sub_le 8192 j), ← Finset.range_eq_Ico,
    Finset.sum_congr rfl fun k hk => if_pos (by have := Finset.mem_range.1 hk; omega),
    Finset.sum_eq_zero (s := Finset.Ico (8192 - j) 8192) fun k hk => if_neg (by have := (Finset.mem_Ico.1 hk).1; omega), add_zero]

/-- The sum from a position to the end. -/
theorem window_apply (x : S4x8x8192x8192.Idx → EReal) (z : S_.Idx → EReal) (hz : ∀ i, z i = 0)
    (hw : S4x8x8192x8192.ReduceWindows ![1, 1, 1, 8192] ![1, 1, 1, 1] ![0, 0, 0, 0] ![0, 0, 0, 8191] S4x8x8192x8192) (hu : 0 < S_.numel)
    (b : Fin 4) (h : Fin 8) (i j : Fin 8192) (f : ℕ → ℝ) (hf : ∀ a : Fin 8192, x (ix4 b h i a) = ((f a.val : ℝ) : EReal)) :
    (Host.reduceWindowAdd (F := Ideal) (φ := .f32) ![1, 1, 1, 8192] ![1, 1, 1, 1] ![0, 0, 0, 0] ![0, 0, 0, 8191] x z hw hu : S4x8x8192x8192.Idx → EReal) (ix4 b h i j)
      = ((∑ a ∈ Finset.Ico j.val 8192, f a : ℝ) : EReal) := by
  unfold Host.reduceWindowAdd
  rw [Ideal.hostReduceWindowAdd_def]
  unfold Ideal.hostReduceWindowAdd Host.reduceWindow
  dsimp only
  rw [fold_add, hz, zero_add, ← Fin.sum_univ_def]
  rw [← tail_sum f j.val j.isLt]
  rw [← Equiv.sum_comp ((positions).trans (⟨4, ![1, 1, 1, 8192]⟩ : Shape).rowMajor)]
  refine Finset.sum_congr rfl fun k _ => ?_
  have hk := k.isLt
  rw [Equiv.trans_apply]
  simp only [Equiv.symm_apply_apply]
  by_cases hjk : j.val + k.val < 8192
  · rw [if_pos hjk, dif_pos]
    · refine Eq.trans (congrArg x ?_) (hf ⟨j.val + k.val, hjk⟩)
      funext a
      apply Fin.ext
      match a with
      | ⟨0, _⟩ => show b.val * 1 + 0 - 0 = b.val; omega
      | ⟨1, _⟩ => show h.val * 1 + 0 - 0 = h.val; omega
      | ⟨2, _⟩ => show i.val * 1 + 0 - 0 = i.val; omega
      | ⟨3, _⟩ => show j.val * 1 + k.val - 0 = j.val + k.val; omega
    · intro a
      match a with
      | ⟨0, _⟩ => show 0 ≤ b.val * 1 + 0 ∧ b.val * 1 + 0 - 0 < 4; have := b.isLt; omega
      | ⟨1, _⟩ => show 0 ≤ h.val * 1 + 0 ∧ h.val * 1 + 0 - 0 < 8; have := h.isLt; omega
      | ⟨2, _⟩ => show 0 ≤ i.val * 1 + 0 ∧ i.val * 1 + 0 - 0 < 8192; have := i.isLt; omega
      | ⟨3, _⟩ => show 0 ≤ j.val * 1 + k.val ∧ j.val * 1 + k.val - 0 < 8192; omega
  · rw [if_neg hjk, dif_neg]
    intro hin
    have h3 : j.val * 1 + k.val - 0 < 8192 := (hin (3 : Fin 4)).2
    omega

/-! ## The scores -/

theorem eighth : (FloatOps.ofBits .f32 0x3E000000#32 : Ideal .f32) = ((1 / 8 : ℝ) : EReal) := by
  show Ideal.ofBits .f32 0x3E000000#32 = _
  simp [Ideal.ofBits, Ideal.ieee, -EReal.coe_mul]; norm_num

variable (X : S32768x1536.Idx → EReal)

theorem entry_eq (b : Fin 4) (i : Fin 8192) (c : ℕ) (C : Fin 1536) (R : Fin 32768) (hR : R.val = 8192 * b.val + i.val) (hC : C.val = c) :
    X (ix2 R C) = entry X b.val i.val c := by
  unfold entry
  have := b.isLt; have := i.isLt; have := C.isLt
  congr 1
  refine congrArg₂ ix2 (Fin.ext ?_) (Fin.ext ?_)
  · show R.val = (8192 * b.val + i.val) % 32768; omega
  · show C.val = c % 1536; omega

/-- The queries, keys and values by batch and head. -/
theorem query_apply (b : Fin 4) (h : Fin 8) (i : Fin 8192) (d : Fin 64) :
    val_main_v5 (F := Ideal) X (ix4 b h i d) = entry X b.val i.val (64 * h.val + d.val) := by
  have hb := b.isLt; have hh := h.isLt; have hi := i.isLt; have hd := d.isLt
  rw [val_main_v5_apply, val_main_v4_apply, val_main_v1_apply, val_main_v0_apply]
  refine Eq.trans (congrArg X (eq_ix2 (n0 := 32768) (n1 := 1536) _)) (entry_eq X b i _ _ _ ?_ ?_)
  · show (((b.val * 8192 + i.val) * 8 + h.val) * 64 + d.val) / 512 = 8192 * b.val + i.val; omega
  · show (((b.val * 8192 + i.val) * 8 + h.val) * 64 + d.val) % 512 = 64 * h.val + d.val; omega
theorem key_apply (b : Fin 4) (h : Fin 8) (i : Fin 8192) (d : Fin 64) :
    val_main_v7 (F := Ideal) X (ix4 b h i d) = entry X b.val i.val (512 + (64 * h.val + d.val)) := by
  have hb := b.isLt; have hh := h.isLt; have hi := i.isLt; have hd := d.isLt
  rw [val_main_v7_apply, val_main_v6_apply, val_main_v2_apply, val_main_v0_apply]
  refine Eq.trans (congrArg X (eq_ix2 (n0 := 32768) (n1 := 1536) _)) (entry_eq X b i _ _ _ ?_ ?_)
  · show (((b.val * 8192 + i.val) * 8 + h.val) * 64 + d.val) / 512 = 8192 * b.val + i.val; omega
  · show 512 + (((b.val * 8192 + i.val) * 8 + h.val) * 64 + d.val) % 512 = 512 + (64 * h.val + d.val); omega
theorem value_apply (b : Fin 4) (h : Fin 8) (i : Fin 8192) (d : Fin 64) :
    val_main_v9 (F := Ideal) X (ix4 b h i d) = entry X b.val i.val (1024 + (64 * h.val + d.val)) := by
  have hb := b.isLt; have hh := h.isLt; have hi := i.isLt; have hd := d.isLt
  rw [val_main_v9_apply, val_main_v8_apply, val_main_v3_apply, val_main_v0_apply]
  refine Eq.trans (congrArg X (eq_ix2 (n0 := 32768) (n1 := 1536) _)) (entry_eq X b i _ _ _ ?_ ?_)
  · show (((b.val * 8192 + i.val) * 8 + h.val) * 64 + d.val) / 512 = 8192 * b.val + i.val; omega
  · show 1024 + (((b.val * 8192 + i.val) * 8 + h.val) * 64 + d.val) % 512 = 1024 + (64 * h.val + d.val); omega

section Finite

variable (hX : Fin2 X) (b : Fin 4) (h : Fin 8) (i j : Fin 8192)
include hX

/-- A scaled product. -/
theorem score_apply : val_main_v12 (F := Ideal) X (ix4 b h i j) = ((score X b.val h.val i.val j.val : ℝ) : EReal) := by
  have hh := h.isLt
  rw [val_main_v12_apply]
  have e : ∀ d : Fin 64, val_main_v11 (F := Ideal) X (lidx_main_v12 (ix4 b h i j) d) * val_main_v7 (F := Ideal) X (ridx_main_v12 (ix4 b h i j) d)
      = (((fun n => (entry X b.val i.val (64 * h.val + n)).toReal * (entry X b.val j.val (512 + (64 * h.val + n))).toReal / 8) d.val : ℝ) : EReal) := by
    intro d
    have hd := d.isLt
    have el : lidx_main_v12 (ix4 b h i j) d = ix4 b h i d := by
      funext a; match a with | ⟨0, _⟩ => rfl | ⟨1, _⟩ => rfl | ⟨2, _⟩ => rfl | ⟨3, _⟩ => rfl
    have er : ridx_main_v12 (ix4 b h i j) d = ix4 b h j d := by
      funext a; match a with | ⟨0, _⟩ => rfl | ⟨1, _⟩ => rfl | ⟨2, _⟩ => rfl | ⟨3, _⟩ => rfl
    rw [el, er, val_main_v11_apply, val_main_v10_apply, val_main_cst_apply, eighth, query_apply, key_apply,
      hX b.val i.val (64 * h.val + d.val) (by omega), hX b.val j.val (512 + (64 * h.val + d.val)) (by omega)]
    show (_ : EReal) * _ * _ = _
    rw [← EReal.coe_mul, ← EReal.coe_mul]
    congr 1
    show _ = (entry X b.val i.val (64 * h.val + d.val)).toReal * (entry X b.val j.val (512 + (64 * h.val + d.val))).toReal / 8
    ring
  rw [Finset.sum_congr rfl fun d _ => e d, ← coe_sum,
    Fin.sum_univ_eq_sum_range (fun n => (entry X b.val i.val (64 * h.val + n)).toReal * (entry X b.val j.val (512 + (64 * h.val + n))).toReal / 8) 64,
    ← Finset.sum_div]
  rfl

omit hX in
/-- The library's logarithm of the logistic function. -/
theorem ls_apply (x : ℝ) : -(Scalar.select (Ideal.cmp .une (-(x : EReal) - 0) (-(x : EReal) - 0)) (-(x : EReal) + 0)
    (max (-(x : EReal)) 0 + Ideal.log1p (Ideal.exp (-(max (-(x : EReal) - 0) (-(-(x : EReal) - 0))))))) = ((ls x : ℝ) : EReal) := by
  have e : (Ideal.cmp .une (-(x : EReal) - 0) (-(x : EReal) - 0) : BitVec 1) = 0#1 := by
    show BitVec.ofBool (decide _) = _
    rw [decide_eq_false (fun h => h rfl)]; rfl
  rw [e]
  exact ls_nat x

theorem log_beta : val_main_v19 (F := Ideal) X (ix4 b h i j) = ((ls (score X b.val h.val i.val j.val) : ℝ) : EReal) := by
  refine Eq.trans ?_ (ls_apply (score X b.val h.val i.val j.val))
  rw [val_main_v19_apply, val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_v5_apply, val_main_call0_call0_cst_apply,
    val_main_call0_v0_apply, score_apply X hX, show (FloatOps.ofBits .f32 0x00000000#32 : Ideal .f32) = (0 : EReal) from zero_f32]
  rfl

theorem log_rest : val_main_v21 (F := Ideal) X (ix4 b h i j) = ((ls (-score X b.val h.val i.val j.val) : ℝ) : EReal) := by
  refine Eq.trans ?_ (ls_apply (-score X b.val h.val i.val j.val))
  rw [val_main_v21_apply, val_main_call1_v1_apply, val_main_call1_call0_v4_apply, val_main_call1_call0_v6_apply, val_main_call1_call0_v11_apply,
    val_main_call1_call0_v1_apply, val_main_call1_call0_v10_apply, val_main_call1_call0_v9_apply, val_main_call1_call0_v8_apply,
    val_main_call1_call0_v7_apply, val_main_call1_call0_v3_apply, val_main_call1_call0_v0_apply, val_main_call1_call0_v2_apply,
    val_main_call1_call0_v5_apply, val_main_call1_call0_cst_apply,
    val_main_call1_v0_apply, val_main_v20_apply, score_apply X hX, show (FloatOps.ofBits .f32 0x00000000#32 : Ideal .f32) = (0 : EReal) from zero_f32,
    EReal.coe_neg]
  rfl

omit hX in
/-- Which keys lie before the query. -/
theorem before_apply : (val_main_v18 (F := Ideal) (ix2 i j) : BitVec 1) = if j.val < i.val then 1#1 else 0#1 := by
  have hi := i.isLt; have hj := j.isLt
  have e (n : ℕ) (h : n < 8192) : (BitVec.ofNat 32 n).toInt = (n : ℤ) := by
    rw [BitVec.toInt_ofNat', Int.bmod_eq_of_le] <;> omega
  rw [val_main_v18_apply, val_main_v16_apply, val_main_v14_apply, val_main_v17_apply, val_main_v15_apply, val_main_v13_apply, val_main_v13_apply]
  show BitVec.ofBool (decide ((BitVec.ofNat 32 j.val).toInt < (BitVec.ofNat 32 i.val).toInt)) = _
  rw [e _ hj, e _ hi]
  by_cases h : j.val < i.val
  · rw [if_pos h, decide_eq_true (by omega)]; rfl
  · rw [if_neg h, decide_eq_false (by omega)]; rfl

/-- What a key leaves of the stick, the keys at or after the query leaving it whole. -/
def rest (X : S32768x1536.Idx → EReal) (b h i a : ℕ) : ℝ := if a < i then ls (-score X b h i a) else 0

theorem rest_apply : val_main_v22 (F := Ideal) X (ix4 b h i j) = ((rest X b.val h.val i.val j.val : ℝ) : EReal) := by
  have ei : idx_main_call2_v1 (ix4 b h i j) = ix2 i j := by
    funext a; match a with | ⟨0, _⟩ => rfl | ⟨1, _⟩ => rfl
  rw [val_main_v22_apply, val_main_call2_v1_apply, val_main_call2_v2_apply, val_main_call2_v0_apply, val_main_cst_0_apply, log_rest X hX, ei, before_apply]
  unfold rest
  by_cases h : j.val < i.val
  · rw [if_pos h, if_pos h]; rfl
  · rw [if_neg h, if_neg h]; exact zero_f32

theorem tail_apply : val_main_v23 (F := Ideal) X (ix4 b h i j) = ((∑ a ∈ Finset.Ico j.val 8192, rest X b.val h.val i.val a : ℝ) : EReal) := by
  unfold val_main_v23
  refine window_apply _ _ (fun n => ?_) _ _ b h i j _ fun a => rest_apply X hX b h i a
  rw [val_main_call3_v0_apply, val_main_call3_cst_apply]
  exact zero_f32

omit hX in
/-- What the keys between a key and the query leave. -/
theorem rest_sum (b h i j : ℕ) (hj : j < i) (hi : i ≤ 8192) :
    ∑ a ∈ Finset.Ico j 8192, rest X b h i a - rest X b h i j = ∑ a ∈ Finset.Ico (j + 1) i, ls (-score X b h i a) := by
  rw [Finset.sum_eq_sum_Ico_succ_bot (by omega), add_sub_cancel_left,
    ← Finset.sum_Ico_consecutive _ (by omega : j + 1 ≤ i) hi, Finset.sum_eq_zero (f := rest X b h i) (s := Finset.Ico i 8192) fun a ha => if_neg (Nat.not_lt.2 (Finset.mem_Ico.1 ha).1),
    add_zero]
  exact Finset.sum_congr rfl fun a ha => if_pos (Finset.mem_Ico.1 ha).2

/-- The weight of a key. -/
theorem weight_apply : val_main_v27 (F := Ideal) X (ix4 b h i j) = ((wt i.val (score X b.val h.val i.val) j.val : ℝ) : EReal) := by
  have hi := i.isLt
  have ei : idx_main_call4_v1 (ix4 b h i j) = ix2 i j := by
    funext a; match a with | ⟨0, _⟩ => rfl | ⟨1, _⟩ => rfl
  rw [val_main_v27_apply, val_main_call4_v1_apply, val_main_call4_v2_apply, val_main_call4_v0_apply, val_main_cst_1_apply, ei, before_apply]
  unfold wt
  by_cases hj : j.val < i.val
  · rw [if_pos hj, if_pos hj, val_main_v26_apply, val_main_v25_apply, val_main_v24_apply, log_beta X hX, tail_apply X hX, rest_apply X hX]
    show Ideal.exp (((ls (score X b.val h.val i.val j.val) : ℝ) : EReal)
      + (((∑ a ∈ Finset.Ico j.val 8192, rest X b.val h.val i.val a : ℝ) : EReal) - ((rest X b.val h.val i.val j.val : ℝ) : EReal))) = _
    rw [← EReal.coe_sub, ← EReal.coe_add, Ideal.exp_coe, rest_sum X b.val h.val i.val j.val hj hi.le]
  · rw [if_neg hj, if_neg hj]; exact zero_f32

omit j in
/-- A query's weighted values. -/
theorem out_apply (d : Fin 64) : val_main_v28 (F := Ideal) X (ix4 b h i d) = attend X b.val i.val (64 * h.val + d.val) := by
  have hd := d.isLt
  rw [val_main_v28_apply]
  unfold attend mix
  rw [show (64 * h.val + d.val) / 64 = h.val by omega, ← Finset.range_eq_Ico, ← Fin.sum_univ_eq_sum_range
    (fun j => ((wt i.val (score X b.val h.val i.val) j : ℝ) : EReal) * entry X b.val j (1024 + (64 * h.val + d.val))) 8192]
  refine Finset.sum_congr rfl fun j _ => ?_
  have el : lidx_main_v28 (ix4 b h i d) j = ix4 b h i j := by
    funext a; match a with | ⟨0, _⟩ => rfl | ⟨1, _⟩ => rfl | ⟨2, _⟩ => rfl | ⟨3, _⟩ => rfl
  have er : ridx_main_v28 (ix4 b h i d) j = ix4 b h j d := by
    funext a; match a with | ⟨0, _⟩ => rfl | ⟨1, _⟩ => rfl | ⟨2, _⟩ => rfl | ⟨3, _⟩ => rfl
  rw [el, er, weight_apply X hX, value_apply]

omit b h i j in
/-- The reference's result. -/
theorem attention_eq : val_main_v31 (F := Ideal) X = attention X := by
  funext y
  have h0 : (y 0).val < 4 := (y 0).isLt
  have h1 : (y 1).val < 8192 := (y 1).isLt
  have h2 : (y 2).val < 512 := (y 2).isLt
  rw [val_main_v31_apply, val_main_v30_apply, val_main_v29_apply]
  show val_main_v28 (F := Ideal) X _ = attend X (y 0).val (y 1).val (y 2).val
  have e : idx_main_v29 (idx_main_v30 y) = ix4 (⟨(y 0).val, h0⟩ : Fin 4) (⟨(y 2).val / 64, by omega⟩ : Fin 8) (⟨(y 1).val, h1⟩ : Fin 8192)
      (⟨(y 2).val % 64, by omega⟩ : Fin 64) := by
    funext a
    apply Fin.ext
    match a with
    | ⟨0, _⟩ => show (((y 0).val * 8192 + (y 1).val) * 512 + (y 2).val) / 4194304 = (y 0).val; omega
    | ⟨1, _⟩ => show (((y 0).val * 8192 + (y 1).val) * 512 + (y 2).val) / 64 % 8 = (y 2).val / 64; omega
    | ⟨2, _⟩ => show (((y 0).val * 8192 + (y 1).val) * 512 + (y 2).val) / 512 % 8192 = (y 1).val; omega
    | ⟨3, _⟩ => show (((y 0).val * 8192 + (y 1).val) * 512 + (y 2).val) % 64 = (y 2).val % 64; omega
  rw [e, out_apply X hX]
  exact congrArg (attend X (y 0).val (y 1).val) (Nat.div_add_mod (y 2).val 64)

end Finite

end Cert.Reference3Ideal.Attention

end
-- ==== Proof.AttnClaim.lean ====
/-
  The attention's equation: from memories that agree on the argument, whose queries and keys are finite, the kernel's
  result array and the reference's end equal.
-/
module

public import proofs.«01_k».proof.Proof.AttnReference
public import proofs.«01_k».proof.Proof.AttnFrame

@[expose] public section

set_option maxRecDepth 65536

noncomputable section

namespace Cert.Kernel3Ideal.Attention

open Idealize.ShloMosaic Idealize.ShloMosaic.TcCoe Idealize.ShloMosaic.ValueIdx
open Idealize.SL.Sem

theorem inf_f32 : (FloatOps.ofBits .f32 0x7F800000#32 : Ideal .f32) = (⊤ : EReal) := by
  show Ideal.ofBits .f32 0x7F800000#32 = _
  simp [Ideal.ofBits, Ideal.ieee]

/-- The precondition's test of one entry. -/
theorem finite_entry (x : EReal) (h : BitVec.ofBool (decide (max x (-x) < ⊤)) = 1#1) : x = (x.toReal : EReal) := by
  have hlt : max x (-x) < ⊤ := by
    by_contra hn
    rw [decide_eq_false hn] at h
    exact absurd h (by decide)
  refine (EReal.coe_toReal ?_ ?_).symm
  · rintro rfl
    exact absurd (lt_of_le_of_lt (le_max_left _ _) hlt) (lt_irrefl _)
  · rintro rfl
    exact absurd (lt_of_le_of_lt (le_max_right _ _) hlt) (by rw [EReal.neg_bot]; exact lt_irrefl _)

/-- What the precondition says of the argument. -/
theorem finite_of_fn (X : S32768x1536.Idx → EReal) (h : Cert.Pre_finite.fn (F := Ideal) X = fun _ => 1#1) : Fin2 X := by
  intro b i c hc
  have e := congrFun h (ix2 ⟨(8192 * b + i) % 32768, Nat.mod_lt _ (by decide)⟩ ⟨c, hc⟩ : Cert.Pre_finite.S32768x1024.Idx)
  have e2 : BitVec.ofBool (decide (max (entry X b i c) (-(entry X b i c)) < (FloatOps.ofBits .f32 0x7F800000#32 : Ideal .f32))) = 1#1 := by
    refine Eq.trans ?_ e
    have hx : entry X b i c = X (fun a => ⟨(![0, 0] : Fin 2 → ℕ) a
        + ((ix2 ⟨(8192 * b + i) % 32768, Nat.mod_lt _ (by decide)⟩ ⟨c, hc⟩ : Cert.Pre_finite.S32768x1024.Idx) a).val,
        by match a with
          | ⟨0, _⟩ => show 0 + (8192 * b + i) % 32768 < 32768; omega
          | ⟨1, _⟩ => show 0 + c < 1536; omega⟩) := by
      unfold entry
      refine congrArg X (funext fun a => Fin.ext ?_)
      match a with
      | ⟨0, _⟩ => show (8192 * b + i) % 32768 = 0 + (8192 * b + i) % 32768; omega
      | ⟨1, _⟩ => show c % 1536 = 0 + c; omega
    rw [hx]
    rfl
  rw [inf_f32] at e2
  exact finite_entry _ e2

/-- The attention and its reference end at the same array. -/
theorem algebraic : Cert.algebraic_Kernel3Ideal_Reference3Ideal_pre_finite := by
  intro m ρ m' ρ' hpre hagree
  refine ⟨fun c => attention (argX m c), ?_, ?_⟩
  · exact (θ_run Cert.Kernel3Ideal.defs _ _).mono
      (fun r h c => ⟨(h.1 c).1.trans (array4_eq m c (finite_of_fn _ (hpre c))), (h.1 c).2⟩) (run (F := Ideal) m ρ)
  · refine (θ_run Cert.Reference3Ideal.defs _ _).mono (fun r h c => ⟨(h c).1.trans ?_, (h c).2⟩)
      (Cert.Reference3Ideal.Value.run (F := Ideal) m' ρ')
    refine (Cert.Reference3Ideal.Read.val_main_v31_eq (F := Ideal) m' c).trans ?_
    rw [hagree c]
    exact Cert.Reference3Ideal.Attention.attention_eq _ (finite_of_fn _ (hpre c))

end Cert.Kernel3Ideal.Attention
-- ==== Proof.MergeBlock.lean ====
/-
  What one grid point of the merge computes, over the extended reals: for each of 512 rows the three branches' outputs
  are weighted by their gates and summed, projected, added to the residual; and the sum is normalised by its root mean
  square and scaled.
-/
module

public import proofs.«01_k».proof.Proof.Gen.Kernel4Ideal.Value
public import Idealize.ShloMosaic.Lib.Pipeline.Value
public import Idealize.ShloMosaic.Lib.MatmulPlain
public import Idealize.ShloMosaic.Lib.ValueIdx
public import Idealize.ShloMosaic.PureOps.Ideal.Laws

@[expose] public section

set_option maxRecDepth 16384

noncomputable section

namespace Cert.Kernel4Ideal.Merge

open Cert.Kernel4Ideal Cert.Kernel4Ideal.Gen
open Idealize.ShloMosaic Idealize.ShloMosaic.ValueIdx
open scoped BigOperators

/-! ## The mathematics of a row -/

/-- The word of zero is the number zero. -/
theorem zero_f32 : Ideal.ofBits .f32 (0x00000000#32) = (0 : EReal) := by
  simp [Ideal.ofBits, Ideal.ieee]

/-- A row times one column of a matrix. -/
def dotRow {K : Nat} (row col : Fin K → EReal) : EReal := ∑ k : Fin K, row k * col k

/-- The state-space branch's unit: the first half of the gated projection times the logistic of the second half. -/
def gluOf (s : Fin 512 → EReal) (w : Fin 512 → Fin 1024 → EReal) (f : Fin 512) : EReal :=
  dotRow s (fun k => w k ⟨f.val, by have h := f.isLt; omega⟩)
    * Ideal.logistic (dotRow s (fun k => w k ⟨512 + f.val, by have h := f.isLt; omega⟩))

/-- The three branches' products, each times the logistic of its gate, summed. -/
def mixOf (a0 a1 a2 : Fin 512 → EReal) (g : Fin 3072 → EReal) (w : Fin 3 → Fin 512 → Fin 1024 → EReal) (d : Fin 1024) : EReal :=
  Ideal.logistic (g ⟨d.val, by have h := d.isLt; omega⟩) * dotRow a0 (fun f => w 0 f d)
    + Ideal.logistic (g ⟨1024 + d.val, by have h := d.isLt; omega⟩) * dotRow a1 (fun f => w 1 f d)
    + Ideal.logistic (g ⟨2048 + d.val, by have h := d.isLt; omega⟩) * dotRow a2 (fun f => w 2 f d)

/-- The residual plus the projection of the branches' sum. -/
def mergeRow (a0 s a2 : Fin 512 → EReal) (g : Fin 3072 → EReal) (h : Fin 1024 → EReal) (wg : Fin 512 → Fin 1024 → EReal)
    (wb : Fin 3 → Fin 512 → Fin 1024 → EReal) (wo : Fin 1024 → Fin 1024 → EReal) (d : Fin 1024) : EReal :=
  h d + dotRow (mixOf a0 (gluOf s wg) a2 g wb) (fun k => wo k d)

/-- The reciprocal root mean square of a row's 1024 entries, a small constant added under the root. -/
def scaleOf (row : Fin 1024 → EReal) : EReal :=
  Ideal.rsqrt (Ideal.div (∑ k : Fin 1024, row k * row k) (Ideal.ofBits .f32 0x44800000#32) + Ideal.ofBits .f32 0x358637BD#32)

/-- A row normalised and weighted. -/
def normRow (row weight : Fin 1024 → EReal) (d : Fin 1024) : EReal := row d * scaleOf row * weight d

/-! ## The values of a block -/

/-- The sum over a block's row, as the kernel takes it, is the sum over the row. -/
theorem rowSum (v : FVec Ideal S512x1024 .f32) (r : Fin 512) :
    multiReduction .add [1] S512 v 0x00000000#32 reduces_S512x1024_S512 (.inl rfl) rfl (ix1 r) = ∑ k : Fin 1024, v (ix2 r k) := by
  refine (Ideal.multiReduction_add_single v 0x00000000#32 reduces_S512x1024_S512 (.inl rfl) rfl (ix1 r)).trans ?_
  refine Finset.sum_congr rfl fun k _ => congrArg v ?_
  funext a
  match a with
  | ⟨0, _⟩ => rfl
  | ⟨1, _⟩ => rfl

/-- A product of 512 rows with a matrix of 512 by 1024, from zero. -/
theorem dot_apply (x : FVec Ideal S512x512 .bf16) (w : FVec Ideal S512x1024 .bf16) (r : Fin 512) (d : Fin 1024) :
    (matmul dot_S512x512_S512x1024_S512x1024_1_0_0_1_n_n none x w (constant S512x1024 .f32 0x00000000#32) : FVec Ideal S512x1024 .f32) (ix2 r d)
      = dotRow (fun k => (x (ix2 r k) : EReal)) (fun k => (w (ix2 k d) : EReal)) := by
  refine (Ideal.matmul_plain_apply (M := 512) (K := 512) (N := 1024) none _ _ _ r d).trans ?_
  rw [show (constant S512x1024 .f32 0x00000000#32 : FVec Ideal S512x1024 .f32) (ix2 r d) = (0 : EReal) from zero_f32]
  exact zero_add _

/-- A branch's matrix with its unit axes taken off. -/
theorem branchCast_apply (x : Vec Ideal S1x1x512x1024 .bf16) (f : Fin 512) (d : Fin 1024) :
    (shapeCast S512x1024 x shapeCasts_S1x1x512x1024_S512x1024 : FVec Ideal S512x1024 .bf16) (ix2 f d) = x (ix4 0 0 f d) := by
  refine shapeCast_apply _ _ _ _ ?_
  rw [Shape.rowMajor_val_two, Shape.rowMajor_val_four]
  show ((0 * 1 + 0) * 512 + f.val) * 1024 + d.val = f.val * 1024 + d.val
  omega

/-- The state-space unit of a block. -/
theorem glu_apply (p : Fin 4 → Vec Ideal S1x512x128 .f32) (w : Vec Ideal S1x512x1024 .bf16) (r f : Fin 512) :
    (k0_pay3 (p 0) (p 1) (p 2) (p 3) w : FVec Ideal S512x512 .bf16) (ix2 r f)
      = gluOf (fun k => p ⟨k.val / 128, by have h := k.isLt; omega⟩ (ix3 0 r ⟨k.val % 128, by omega⟩)) (fun k d => w (ix3 0 k d)) f := by
  have hf := f.isLt
  have hdot (d : Fin 1024) : (matmul dot_S512x512_S512x1024_S512x1024_1_0_0_1_n_n none
      (truncf .bf16 (concatenate S512x512 1 [⟨S512x128, (shapeCast S512x128 (p 0) shapeCasts_S1x512x128_S512x128 : FVec Ideal S512x128 .f32)⟩,
        ⟨S512x128, (shapeCast S512x128 (p 1) shapeCasts_S1x512x128_S512x128 : FVec Ideal S512x128 .f32)⟩, ⟨S512x128, (shapeCast S512x128 (p 2) shapeCasts_S1x512x128_S512x128 : FVec Ideal S512x128 .f32)⟩,
        ⟨S512x128, (shapeCast S512x128 (p 3) shapeCasts_S1x512x128_S512x128 : FVec Ideal S512x128 .f32)⟩] concatenates_S512x128_S512x128_S512x128_S512x128_S512x512_d1 : FVec Ideal S512x512 .f32) bitsLt_bf16_f32)
      (shapeCast S512x1024 w shapeCasts_S1x512x1024_S512x1024 : FVec Ideal S512x1024 .bf16) (constant S512x1024 .f32 0x00000000#32) : FVec Ideal S512x1024 .f32) (ix2 r d)
      = dotRow (fun k => (p ⟨k.val / 128, by have h := k.isLt; omega⟩ (ix3 0 r ⟨k.val % 128, by omega⟩) : EReal)) (fun k => (w (ix3 0 k d) : EReal)) := by
    refine (dot_apply _ _ r d).trans ?_
    unfold dotRow
    refine Finset.sum_congr rfl fun k _ => congrArg₂ (· * ·) ?_ ?_
    · have hk := k.isLt
      refine (concatenate_ofFn_apply (t := S512x512) (s₁ := S512x128) 1
        (fun n : Fin 4 => (shapeCast S512x128 (p n) shapeCasts_S1x512x128_S512x128 : FVec Ideal S512x128 .f32))
        concatenates_S512x128_S512x128_S512x128_S512x128_S512x512_d1 rfl 128 rfl (ix2 r k) ⟨k.val / 128, by omega⟩ rfl
        (ix2 r ⟨k.val % 128, by omega⟩) rfl ?_).trans ?_
      · intro b hb
        match b with
        | ⟨0, _⟩ => rfl
        | ⟨1, _⟩ => exact absurd rfl hb
      · refine shapeCast_apply _ _ _ _ ?_
        rw [Shape.rowMajor_val_two, Shape.rowMajor_val_three]
        show (0 * 512 + r.val) * 128 + k.val % 128 = r.val * 128 + k.val % 128
        omega
    · refine shapeCast_apply _ _ _ _ ?_
      rw [Shape.rowMajor_val_two, Shape.rowMajor_val_three]
      show (0 * 512 + k.val) * 1024 + d.val = k.val * 1024 + d.val
      omega
  unfold gluOf
  rw [← hdot, ← hdot]
  refine congrArg₂ (· * ·) ?_ (congrArg Ideal.logistic ?_)
  · refine extractStridedSlice_apply _ _ _ _ _ ?_
    intro a
    match a with
    | ⟨0, _⟩ => show r.val = 0 + r.val; omega
    | ⟨1, _⟩ => show f.val = 0 + f.val; omega
  · refine extractStridedSlice_apply _ _ _ _ _ ?_
    intro a
    match a with
    | ⟨0, _⟩ => show r.val = 0 + r.val; omega
    | ⟨1, _⟩ => rfl

/-- The gated first branch of a block. -/
theorem first_apply (x : Vec Ideal S512x512 .bf16) (g : Vec Ideal S512x1024 .bf16) (w : Vec Ideal S1x1x512x1024 .bf16) (r : Fin 512) (d : Fin 1024) :
    (k0_pay4 x g w : FVec Ideal S512x1024 .f32) (ix2 r d)
      = Ideal.logistic (g (ix2 r d)) * dotRow (fun f => (x (ix2 r f) : EReal)) (fun f => (w (ix4 0 0 f d) : EReal)) := by
  refine congrArg (Ideal.logistic (g (ix2 r d)) * ·) ((dot_apply _ _ r d).trans ?_)
  exact congrArg (dotRow _) (funext fun f => branchCast_apply w f d)

/-- The merged rows of a block, from its gated branches. -/
theorem merged_apply (v17 : FVec Ideal S512x512 .bf16) (v19 : Vec Ideal S512x512 .bf16) (v26 : FVec Ideal S512x1024 .f32) (g1 : Vec Ideal S512x1024 .bf16)
    (w1 : Vec Ideal S1x1x512x1024 .bf16) (g2 : Vec Ideal S512x1024 .bf16) (w2 : Vec Ideal S1x1x512x1024 .bf16) (h : Vec Ideal S512x1024 .f32)
    (wo : Vec Ideal S1x1024x1024 .bf16) (r : Fin 512) (d : Fin 1024) :
    (k0_pay6 v17 v19 v26 (k0_pay5 g1) w1 g2 w2 h wo : FVec Ideal S512x1024 .f32) (ix2 r d)
      = (h (ix2 r d) : EReal) + dotRow (fun k => (v26 (ix2 r k) : EReal)
          + Ideal.logistic (g1 (ix2 r k)) * dotRow (fun f => (v17 (ix2 r f) : EReal)) (fun f => (w1 (ix4 0 0 f k) : EReal))
          + Ideal.logistic (g2 (ix2 r k)) * dotRow (fun f => (v19 (ix2 r f) : EReal)) (fun f => (w2 (ix4 0 0 f k) : EReal)))
        (fun k => (wo (ix3 0 k d) : EReal)) := by
  refine congrArg ((h (ix2 r d) : EReal) + ·) ((Ideal.matmul_plain_apply (M := 512) (K := 1024) (N := 1024) none _ _ _ r d).trans ?_)
  rw [show (constant S512x1024 .f32 0x00000000#32 : FVec Ideal S512x1024 .f32) (ix2 r d) = (0 : EReal) from zero_f32]
  refine (zero_add _).trans (Finset.sum_congr rfl fun k _ => congrArg₂ (· * ·) ?_ ?_)
  · refine congrArg₂ (· + ·) (congrArg ((v26 (ix2 r k) : EReal) + ·) (congrArg (Ideal.logistic (g1 (ix2 r k)) * ·) ?_))
      (congrArg (Ideal.logistic (g2 (ix2 r k)) * ·) ?_)
    · exact (dot_apply _ _ r k).trans (congrArg (dotRow _) (funext fun f => branchCast_apply w1 f k))
    · exact (dot_apply _ _ r k).trans (congrArg (dotRow _) (funext fun f => branchCast_apply w2 f k))
  · refine shapeCast_apply _ _ _ _ ?_
    rw [Shape.rowMajor_val_two, Shape.rowMajor_val_three]
    show (0 * 1024 + k.val) * 1024 + d.val = k.val * 1024 + d.val
    omega

/-! ## The results of a point -/

/-- A row of a point's merged block. -/
def blockMerge (x0 : Vec Ideal S512x512 .bf16) (x1 : Vec Ideal S4x512x128 .f32) (x2 : Vec Ideal S512x512 .bf16) (x3 : Vec Ideal S512x3072 .bf16)
    (x4 : Vec Ideal S512x1024 .f32) (x5 : Vec Ideal S1x512x1024 .bf16) (x6 : Vec Ideal S1x3x512x1024 .bf16) (x7 : Vec Ideal S1x1024x1024 .bf16)
    (r : Fin 512) : Fin 1024 → EReal :=
  mergeRow (fun f => x0 (ix2 r f)) (fun k => x1 (ix3 ⟨k.val / 128, by have h := k.isLt; omega⟩ r ⟨k.val % 128, by omega⟩))
    (fun f => x2 (ix2 r f)) (fun c => x3 (ix2 r c)) (fun k => x4 (ix2 r k)) (fun k d => x5 (ix3 0 k d)) (fun b f d => x6 (ix4 0 b f d))
    (fun k d => x7 (ix3 0 k d))

section
variable (x0 : Vec Ideal S512x512 .bf16) (x1 : Vec Ideal S4x512x128 .f32) (x2 : Vec Ideal S512x512 .bf16) (x3 : Vec Ideal S512x3072 .bf16)
  (x4 : Vec Ideal S512x1024 .f32) (x5 : Vec Ideal S1x512x1024 .bf16) (x6 : Vec Ideal S1x3x512x1024 .bf16) (x7 : Vec Ideal S1x1024x1024 .bf16)

/-- The merged value as the body spells it over its loads. -/
def loadedMerge : FVec Ideal S512x1024 .f32 :=
  k0_pay6 (k0_pay3 (View.ld x1 r0_0) (View.ld x1 r0_1) (View.ld x1 r0_2) (View.ld x1 r0_3) (View.ld x5 r0_4)) (View.ld x2 r0_5)
    (k0_pay4 (View.ld x0 r0_5) (View.ld x3 r0_6) (View.ld x6 r0_7)) (k0_pay5 (View.ld x3 r0_8)) (View.ld x6 r0_9) (View.ld x3 r0_10)
    (View.ld x6 r0_11) (View.ld x4 r0_12) (View.ld x7 r0_13)

/-- It is the merged row. -/
theorem loadedMerge_apply (r : Fin 512) (d : Fin 1024) :
    loadedMerge x0 x1 x2 x3 x4 x5 x6 x7 (ix2 r d) = blockMerge x0 x1 x2 x3 x4 x5 x6 x7 r d := by
  have h2 : (![0, 0] : Fin 2 → Nat) = fun _ => 0 := by funext a; match a with | ⟨0, _⟩ => rfl | ⟨1, _⟩ => rfl
  have h3 : (![0, 0, 0] : Fin 3 → Nat) = fun _ => 0 := by funext a; match a with | ⟨0, _⟩ => rfl | ⟨1, _⟩ => rfl | ⟨2, _⟩ => rfl
  have hg (off : Nat) (inb : ∀ a, (![0, off] : Fin 2 → Nat) a + S512x1024.size a ≤ S512x3072.size a) (k : Fin 1024) (C : Fin 3072) (hC : C.val = off + k.val) :
      (View.ld x3 (Rect.unit (s := S512x3072) ![0, off] S512x1024.size inb) : Vec Ideal S512x1024 .bf16) (ix2 r k) = x3 (ix2 r C) := by
    refine congrArg x3 ?_
    funext a; apply Fin.ext
    match a with
    | ⟨0, _⟩ => show 0 + 1 * r.val = r.val; omega
    | ⟨1, _⟩ => show off + 1 * k.val = C.val; omega
  have hb (b : Fin 3) (inb : ∀ a, (![0, b.val, 0, 0] : Fin 4 → Nat) a + S1x1x512x1024.size a ≤ S1x3x512x1024.size a) (f : Fin 512) (k : Fin 1024) :
      (View.ld x6 (Rect.unit (s := S1x3x512x1024) ![0, b.val, 0, 0] S1x1x512x1024.size inb) : Vec Ideal S1x1x512x1024 .bf16) (ix4 0 0 f k) = x6 (ix4 0 b f k) := by
    refine congrArg x6 ?_
    funext a; apply Fin.ext
    match a with
    | ⟨0, _⟩ => rfl
    | ⟨1, _⟩ => show b.val + 1 * 0 = b.val; omega
    | ⟨2, _⟩ => show 0 + 1 * f.val = f.val; omega
    | ⟨3, _⟩ => show 0 + 1 * k.val = k.val; omega
  have hs (n : Fin 4) (inb : ∀ a, (![n.val, 0, 0] : Fin 3 → Nat) a + S1x512x128.size a ≤ S4x512x128.size a) (k : Fin 128) :
      (View.ld x1 (Rect.unit (s := S4x512x128) ![n.val, 0, 0] S1x512x128.size inb) : Vec Ideal S1x512x128 .f32) (ix3 0 r k) = x1 (ix3 n r k) := by
    refine congrArg x1 ?_
    funext a; apply Fin.ext
    match a with
    | ⟨0, _⟩ => show n.val + 1 * 0 = n.val; omega
    | ⟨1, _⟩ => show 0 + 1 * r.val = r.val; omega
    | ⟨2, _⟩ => show 0 + 1 * k.val = k.val; omega
  have hglu (f : Fin 512) := glu_apply ![View.ld x1 r0_0, View.ld x1 r0_1, View.ld x1 r0_2, View.ld x1 r0_3] (View.ld x5 r0_4) r f
  have hslab (n : Fin 4) (k : Fin 128) : ((![View.ld x1 r0_0, View.ld x1 r0_1, View.ld x1 r0_2, View.ld x1 r0_3] : Fin 4 → Vec Ideal S1x512x128 .f32) n) (ix3 0 r k) = x1 (ix3 n r k) := by
    match n with
    | ⟨0, _⟩ => exact hs 0 _ k
    | ⟨1, _⟩ => exact hs 1 _ k
    | ⟨2, _⟩ => exact hs 2 _ k
    | ⟨3, _⟩ => exact hs 3 _ k
  unfold loadedMerge
  refine (merged_apply _ _ _ _ _ _ _ _ _ r d).trans ?_
  unfold blockMerge mergeRow
  refine congrArg₂ (· + ·) ?_ (congrArg₂ dotRow (funext fun k => ?_) (funext fun k => ?_))
  · rw [View.ld_unit_zero h2]
  · unfold mixOf
    refine congrArg₂ (· + ·) (congrArg₂ (· + ·) ?_ ?_) ?_
    · rw [first_apply]
      refine congrArg₂ (· * ·) (congrArg Ideal.logistic (hg 0 _ k _ (by show k.val = 0 + k.val; omega))) (congrArg₂ dotRow (funext fun f => ?_) (funext fun f => hb 0 _ f k))
      rw [View.ld_unit_zero h2]
    · refine congrArg₂ (· * ·) (congrArg Ideal.logistic (hg 1024 _ k _ rfl)) (congrArg₂ dotRow (funext fun f => ?_) (funext fun f => hb 1 _ f k))
      refine (hglu f).trans ?_
      refine congrArg₂ (fun a b => gluOf a b f) (funext fun j => hslab _ _) ?_
      rw [View.ld_unit_zero h3]
    · refine congrArg₂ (· * ·) (congrArg Ideal.logistic (hg 2048 _ k _ rfl)) (congrArg₂ dotRow (funext fun f => ?_) (funext fun f => hb 2 _ f k))
      rw [View.ld_unit_zero h2]
  · rw [View.ld_unit_zero h3]

variable (x8 : Vec Ideal S1x1x1024 .f32) (x9 : Vec Ideal S1x1024x128 .bf16) (x10 : Vec Ideal S1x1024x128 .bf16)
  (x11 : Vec Ideal S1x1x128 .f32) (x12 : Vec Ideal S512x512 .bf16) (x13 : Vec Ideal S128x128 .bf16)

/-- Result 1 of a point: the merged rows. -/
theorem out14_apply (y : S512x1024.Idx) : (out0_14 x0 x1 x2 x3 x4 x5 x6 x7 x8 x9 x10 x11 x12 x13 : S512x1024.Idx → EReal) y
    = blockMerge x0 x1 x2 x3 x4 x5 x6 x7 (y 0) (y 1) := by
  refine View.canon_apply_of_pieces (Val := Elt Ideal)
    ((fun y => blockMerge x0 x1 x2 x3 x4 x5 x6 x7 (y 0) (y 1)) : Vec Ideal S512x1024 .f32) _ ?_ y (cover0_14 _ y)
  intro p hp
  simp only [List.mem_cons, List.not_mem_nil, or_false] at hp
  subst hp
  intro z
  rw [eq_ix2 (z : S512x1024.Idx)]
  refine (loadedMerge_apply x0 x1 x2 x3 x4 x5 x6 x7 ((z : S512x1024.Idx) 0) ((z : S512x1024.Idx) 1)).trans ?_
  refine congrArg₂ (fun r d => blockMerge x0 x1 x2 x3 x4 x5 x6 x7 r d) (Fin.ext ?_) (Fin.ext ?_)
  · show ((z : S512x1024.Idx) 0).val = 0 + 1 * ((z : S512x1024.Idx) 0).val; omega
  · show ((z : S512x1024.Idx) 1).val = 0 + 1 * ((z : S512x1024.Idx) 1).val; omega

/-- Result 2 of a point: the merged rows, normalised and weighted. -/
theorem out15_apply (y : S512x1024.Idx) : (out0_15 x0 x1 x2 x3 x4 x5 x6 x7 x8 x9 x10 x11 x12 x13 : S512x1024.Idx → EReal) y
    = normRow (blockMerge x0 x1 x2 x3 x4 x5 x6 x7 (y 0)) (fun d => x8 (ix3 0 0 d)) (y 1) := by
  have h3 : (![0, 0, 0] : Fin 3 → Nat) = fun _ => 0 := by funext a; match a with | ⟨0, _⟩ => rfl | ⟨1, _⟩ => rfl | ⟨2, _⟩ => rfl
  refine (Cert.Kernel4Ideal.Value.canon15_eq (F := Ideal) (View.ld x1 r0_0) (View.ld x1 r0_1) (View.ld x1 r0_2) (View.ld x1 r0_3) (View.ld x5 r0_4)
    (View.ld x2 r0_5) (View.ld x0 r0_5) (View.ld x3 r0_6) (View.ld x6 r0_7) (View.ld x3 r0_8) (View.ld x6 r0_9) (View.ld x3 r0_10) (View.ld x6 r0_11)
    (View.ld x4 r0_12) (View.ld x7 r0_13) (View.ld x8 r0_14) y).trans ?_
  have e0 : Cert.Kernel4Ideal.Value.ix15_0 y = ix2 (y 0 : Fin 512) (y 1 : Fin 1024) := by
    funext a; match a with | ⟨0, _⟩ => rfl | ⟨1, _⟩ => rfl
  have e1 : Cert.Kernel4Ideal.Value.ix15_1 y = ix1 (y 0 : Fin 512) := by
    funext a; match a with | ⟨0, _⟩ => rfl
  have e2 : Cert.Kernel4Ideal.Value.ix15_2 y = ix3 0 0 (y 1 : Fin 1024) := by
    funext a; match a with | ⟨0, _⟩ => rfl | ⟨1, _⟩ => rfl | ⟨2, _⟩ => rfl
  have hrow (d : Fin 1024) := loadedMerge_apply x0 x1 x2 x3 x4 x5 x6 x7 (y 0) d
  have hsum : multiReduction .add [1] S512 (mulf (loadedMerge x0 x1 x2 x3 x4 x5 x6 x7) (loadedMerge x0 x1 x2 x3 x4 x5 x6 x7)) 0x00000000#32
      reduces_S512x1024_S512 (.inl rfl) rfl (ix1 (y 0 : Fin 512))
      = ∑ d : Fin 1024, blockMerge x0 x1 x2 x3 x4 x5 x6 x7 (y 0) d * blockMerge x0 x1 x2 x3 x4 x5 x6 x7 (y 0) d := by
    refine (rowSum _ (y 0)).trans (Finset.sum_congr rfl fun d _ => congrArg₂ (· * ·) (hrow d) (hrow d))
  have hw : (View.ld x8 r0_14 : Vec Ideal S1x1x1024 .f32) (Cert.Kernel4Ideal.Value.ix15_2 y) = x8 (ix3 0 0 (y 1 : Fin 1024)) := by
    rw [View.ld_unit_zero h3, e2]
    rfl
  show loadedMerge x0 x1 x2 x3 x4 x5 x6 x7 (Cert.Kernel4Ideal.Value.ix15_0 y)
      * Ideal.rsqrt (Ideal.div (multiReduction .add [1] S512 (mulf (loadedMerge x0 x1 x2 x3 x4 x5 x6 x7) (loadedMerge x0 x1 x2 x3 x4 x5 x6 x7)) 0x00000000#32
          reduces_S512x1024_S512 (.inl rfl) rfl (Cert.Kernel4Ideal.Value.ix15_1 y)) (Ideal.ofBits .f32 0x44800000#32) + Ideal.ofBits .f32 0x358637BD#32)
      * (View.ld x8 r0_14 : Vec Ideal S1x1x1024 .f32) (Cert.Kernel4Ideal.Value.ix15_2 y) = _
  rw [e0, e1]
  exact congrArg₂ (· * ·) (congrArg₂ (· * ·) (hrow (y 1))
    (congrArg (fun z : EReal => Ideal.rsqrt (Ideal.div z (Ideal.ofBits .f32 0x44800000#32) + Ideal.ofBits .f32 0x358637BD#32)) hsum)) hw

end

end Cert.Kernel4Ideal.Merge
-- ==== Proof.MergeValue.lean ====
/-
  What the merge leaves in its first two result arrays, over the extended reals: the residual plus the projected sum of
  the gated branches, and that sum normalised and weighted.
-/
module

public import proofs.«01_k».proof.Proof.MergeBlock
public import Idealize.ShloMosaic.Lib.StableHlo.Run

@[expose] public section

set_option maxRecDepth 16384

noncomputable section

namespace Cert.Kernel4Ideal.Merge

open Cert.Kernel4Ideal Cert.Kernel4Ideal.Gen
open Idealize.ShloMosaic Idealize.ShloMosaic.TcCoe Idealize.ShloMosaic.ValueIdx
open Idealize.ShloMosaic.Pipeline (Dat Window)
open Idealize.SL.Sem
open scoped BigOperators

/-! ## The mathematics -/

/-- Row `r` merged: the first layer's weights, over the branches' rows, the gates' logits and the residual. -/
def mergedRow (a0 : S32768x512.Idx → EReal) (s : S4x32768x128.Idx → EReal) (a2 : S32768x512.Idx → EReal) (g : S32768x3072.Idx → EReal)
    (h : S32768x1024.Idx → EReal) (wg : S2x512x1024.Idx → EReal) (wb : S2x3x512x1024.Idx → EReal) (wo : S2x1024x1024.Idx → EReal)
    (r : Fin 32768) : Fin 1024 → EReal :=
  mergeRow (fun f => a0 (ix2 r f)) (fun k => s (ix3 ⟨k.val / 128, by have h := k.isLt; omega⟩ r ⟨k.val % 128, by omega⟩))
    (fun f => a2 (ix2 r f)) (fun c => g (ix2 r c)) (fun k => h (ix2 r k)) (fun k d => wg (ix3 0 k d)) (fun b f d => wb (ix4 0 b f d))
    (fun k d => wo (ix3 0 k d))

/-- The merged rows. -/
def merged (a0 : S32768x512.Idx → EReal) (s : S4x32768x128.Idx → EReal) (a2 : S32768x512.Idx → EReal) (g : S32768x3072.Idx → EReal)
    (h : S32768x1024.Idx → EReal) (wg : S2x512x1024.Idx → EReal) (wb : S2x3x512x1024.Idx → EReal) (wo : S2x1024x1024.Idx → EReal) :
    S32768x1024.Idx → EReal :=
  fun y => mergedRow a0 s a2 g h wg wb wo (y 0) (y 1)

/-- The merged rows, normalised and scaled by the first layer's weights. -/
def normed (a0 : S32768x512.Idx → EReal) (s : S4x32768x128.Idx → EReal) (a2 : S32768x512.Idx → EReal) (g : S32768x3072.Idx → EReal)
    (h : S32768x1024.Idx → EReal) (wg : S2x512x1024.Idx → EReal) (wb : S2x3x512x1024.Idx → EReal) (wo : S2x1024x1024.Idx → EReal)
    (n : S2x1024.Idx → EReal) : S32768x1024.Idx → EReal :=
  fun y => normRow (mergedRow a0 s a2 g h wg wb wo (y 0)) (fun d => n (ix2 0 d)) (y 1)

/-! ## The kernel -/

variable (m : (ℓ : Loc nD τ sig) → Buf (Elt Ideal) ℓ) (ρ : Dev nD → PrngReg)

/-- The gated unit's matrix as the region finds it: the argument, narrowed. -/
theorem V_glu (c : Dev nD) : (V m c main_v0 : S2x512x1024.Idx → EReal) = (m ((c : Thread nD τ).loc main_arg5) : S2x512x1024.Idx → EReal) := by
  show StableHlo.after (List.flatten [hostOps0 (F := Ideal), hostOps0_1, hostOps0_2, hostOps0_3, hostOps0_4]) _ (Proc.devRef .tc main_v0) = _
  simp only [hostOps0, hostOps0_1, hostOps0_2, hostOps0_3, hostOps0_4, List.flatten_cons, List.flatten_nil, List.append_nil,
    List.cons_append, List.nil_append]
  after_results
  rfl

/-- The branches' matrices as the region finds them: the argument, narrowed. -/
theorem V_branch (c : Dev nD) : (V m c main_v1 : S2x3x512x1024.Idx → EReal) = (m ((c : Thread nD τ).loc main_arg6) : S2x3x512x1024.Idx → EReal) := by
  show StableHlo.after (List.flatten [hostOps0 (F := Ideal), hostOps0_1, hostOps0_2, hostOps0_3, hostOps0_4]) _ (Proc.devRef .tc main_v1) = _
  simp only [hostOps0, hostOps0_1, hostOps0_2, hostOps0_3, hostOps0_4, List.flatten_cons, List.flatten_nil, List.append_nil,
    List.cons_append, List.nil_append]
  after_results
  rfl

/-- The output matrix as the region finds it: the argument, narrowed. -/
theorem V_out (c : Dev nD) : (V m c main_v2 : S2x1024x1024.Idx → EReal) = (m ((c : Thread nD τ).loc main_arg7) : S2x1024x1024.Idx → EReal) := by
  show StableHlo.after (List.flatten [hostOps0 (F := Ideal), hostOps0_1, hostOps0_2, hostOps0_3, hostOps0_4]) _ (Proc.devRef .tc main_v2) = _
  simp only [hostOps0, hostOps0_1, hostOps0_2, hostOps0_3, hostOps0_4, List.flatten_cons, List.flatten_nil, List.append_nil,
    List.cons_append, List.nil_append]
  after_results
  rfl

/-- The norm's weights as the region finds them: the argument with a unit axis put in. -/
theorem V_weights (c : Dev nD) : V m c main_v3 = shapeCast S2x1x1024 (m ((c : Thread nD τ).loc main_arg8)) shapeCasts_S2x1024_S2x1x1024 := by
  show StableHlo.after (List.flatten [hostOps0 (F := Ideal), hostOps0_1, hostOps0_2, hostOps0_3, hostOps0_4]) _ (Proc.devRef .tc main_v3) = _
  simp only [hostOps0, hostOps0_1, hostOps0_2, hostOps0_3, hostOps0_4, List.flatten_cons, List.flatten_nil, List.append_nil,
    List.cons_append, List.nil_append]
  after_results
  rfl

/-- A point's only coordinate is its number. -/
theorem crd_val (t : Fin cfg0.N) : ((grid0.coords t) 0).val = t.val := by
  have h : ((grid0.coords t) 0).val = t.val / 1 % 64 := Pipeline.Grid.coords_val (G := grid0) t 0 rfl rfl
  have ht : t.val < 64 := t.isLt
  omega

/-- As a word too. -/
theorem crd_word (t : Fin cfg0.N) : (BitVec.ofNat 32 ((grid0.coords t) 0).val).toNat = t.val := by
  have ht : t.val < 64 := t.isLt
  rw [crd_val, BitVec.toNat_ofNat]
  omega

/-- The arguments, as arrays of extended reals. -/
abbrev argA (c : Dev nD) : S32768x512.Idx → EReal := m ((c : Thread nD τ).loc main_arg0)
abbrev argS (c : Dev nD) : S4x32768x128.Idx → EReal := m ((c : Thread nD τ).loc main_arg1)
abbrev argR (c : Dev nD) : S32768x512.Idx → EReal := m ((c : Thread nD τ).loc main_arg2)
abbrev argG (c : Dev nD) : S32768x3072.Idx → EReal := m ((c : Thread nD τ).loc main_arg3)
abbrev argH (c : Dev nD) : S32768x1024.Idx → EReal := m ((c : Thread nD τ).loc main_arg4)
abbrev argU (c : Dev nD) : S2x512x1024.Idx → EReal := m ((c : Thread nD τ).loc main_arg5)
abbrev argB (c : Dev nD) : S2x3x512x1024.Idx → EReal := m ((c : Thread nD τ).loc main_arg6)
abbrev argO (c : Dev nD) : S2x1024x1024.Idx → EReal := m ((c : Thread nD τ).loc main_arg7)
abbrev argN (c : Dev nD) : S2x1024.Idx → EReal := m ((c : Thread nD τ).loc main_arg8)

section
variable (c : Dev nD) (t : Fin cfg0.N) (r : Fin 512) (R : Fin 32768) (hR : R.val = t.val * 512 + r.val)
include hR

/-- The attention rows' block at a point. -/
theorem iblk0_apply (k : Fin 512) : (iblk m c 0 t : S512x512.Idx → EReal) (ix2 r k) = argA m c (ix2 R k) := by
  unfold iblk
  rw [View.read_apply, show V m c (Pipeline.arrRef spec0 0) = m ((c : Thread nD τ).loc main_arg0) from V_main_arg0 m c]
  refine congrArg (argA m c) (funext fun b => Fin.ext ?_)
  match b with
  | ⟨0, _⟩ => show (BitVec.ofNat 32 ((grid0.coords t) 0).val).toNat * 512 + 1 * r.val = R.val; rw [crd_word]; omega
  | ⟨1, _⟩ => show 0 * 512 + 1 * k.val = k.val; omega

/-- The state-space rows' block at a point. -/
theorem iblk1_apply (s : Fin 4) (k : Fin 128) : (iblk m c 1 t : S4x512x128.Idx → EReal) (ix3 s r k) = argS m c (ix3 s R k) := by
  unfold iblk
  rw [View.read_apply, show V m c (Pipeline.arrRef spec0 1) = m ((c : Thread nD τ).loc main_arg1) from V_main_arg1 m c]
  refine congrArg (argS m c) (funext fun b => Fin.ext ?_)
  match b with
  | ⟨0, _⟩ => show 0 * 4 + 1 * s.val = s.val; omega
  | ⟨1, _⟩ => show (BitVec.ofNat 32 ((grid0.coords t) 0).val).toNat * 512 + 1 * r.val = R.val; rw [crd_word]; omega
  | ⟨2, _⟩ => show 0 * 128 + 1 * k.val = k.val; omega

/-- The retention rows' block at a point. -/
theorem iblk2_apply (k : Fin 512) : (iblk m c 2 t : S512x512.Idx → EReal) (ix2 r k) = argR m c (ix2 R k) := by
  unfold iblk
  rw [View.read_apply, show V m c (Pipeline.arrRef spec0 2) = m ((c : Thread nD τ).loc main_arg2) from V_main_arg2 m c]
  refine congrArg (argR m c) (funext fun b => Fin.ext ?_)
  match b with
  | ⟨0, _⟩ => show (BitVec.ofNat 32 ((grid0.coords t) 0).val).toNat * 512 + 1 * r.val = R.val; rw [crd_word]; omega
  | ⟨1, _⟩ => show 0 * 512 + 1 * k.val = k.val; omega

/-- The gates' block at a point. -/
theorem iblk3_apply (k : Fin 3072) : (iblk m c 3 t : S512x3072.Idx → EReal) (ix2 r k) = argG m c (ix2 R k) := by
  unfold iblk
  rw [View.read_apply, show V m c (Pipeline.arrRef spec0 3) = m ((c : Thread nD τ).loc main_arg3) from V_main_arg3 m c]
  refine congrArg (argG m c) (funext fun b => Fin.ext ?_)
  match b with
  | ⟨0, _⟩ => show (BitVec.ofNat 32 ((grid0.coords t) 0).val).toNat * 512 + 1 * r.val = R.val; rw [crd_word]; omega
  | ⟨1, _⟩ => show 0 * 3072 + 1 * k.val = k.val; omega

/-- The residual's block at a point. -/
theorem iblk4_apply (k : Fin 1024) : (iblk m c 4 t : S512x1024.Idx → EReal) (ix2 r k) = argH m c (ix2 R k) := by
  unfold iblk
  rw [View.read_apply, show V m c (Pipeline.arrRef spec0 4) = m ((c : Thread nD τ).loc main_arg4) from V_main_arg4 m c]
  refine congrArg (argH m c) (funext fun b => Fin.ext ?_)
  match b with
  | ⟨0, _⟩ => show (BitVec.ofNat 32 ((grid0.coords t) 0).val).toNat * 512 + 1 * r.val = R.val; rw [crd_word]; omega
  | ⟨1, _⟩ => show 0 * 1024 + 1 * k.val = k.val; omega

end

section
variable (c : Dev nD) (t : Fin cfg0.N)

/-- The gated unit's matrix at a point. -/
theorem iblk5_apply (k : Fin 512) (d : Fin 1024) : (iblk m c 5 t : S1x512x1024.Idx → EReal) (ix3 0 k d) = argU m c (ix3 0 k d) := by
  unfold iblk
  rw [View.read_apply]
  show (V m c main_v0 : S2x512x1024.Idx → EReal) _ = _
  rw [V_glu]
  refine congrArg (argU m c) (funext fun b => Fin.ext ?_)
  match b with
  | ⟨0, _⟩ => show 0 * 1 + 1 * 0 = 0; omega
  | ⟨1, _⟩ => show 0 * 512 + 1 * k.val = k.val; omega
  | ⟨2, _⟩ => show 0 * 1024 + 1 * d.val = d.val; omega

/-- The branches' matrices at a point. -/
theorem iblk6_apply (j : Fin 3) (k : Fin 512) (d : Fin 1024) :
    (iblk m c 6 t : S1x3x512x1024.Idx → EReal) (ix4 0 j k d) = argB m c (ix4 0 j k d) := by
  unfold iblk
  rw [View.read_apply]
  show (V m c main_v1 : S2x3x512x1024.Idx → EReal) _ = _
  rw [V_branch]
  refine congrArg (argB m c) (funext fun b => Fin.ext ?_)
  match b with
  | ⟨0, _⟩ => show 0 * 1 + 1 * 0 = 0; omega
  | ⟨1, _⟩ => show 0 * 3 + 1 * j.val = j.val; omega
  | ⟨2, _⟩ => show 0 * 512 + 1 * k.val = k.val; omega
  | ⟨3, _⟩ => show 0 * 1024 + 1 * d.val = d.val; omega

/-- The output matrix at a point. -/
theorem iblk7_apply (k d : Fin 1024) : (iblk m c 7 t : S1x1024x1024.Idx → EReal) (ix3 0 k d) = argO m c (ix3 0 k d) := by
  unfold iblk
  rw [View.read_apply]
  show (V m c main_v2 : S2x1024x1024.Idx → EReal) _ = _
  rw [V_out]
  refine congrArg (argO m c) (funext fun b => Fin.ext ?_)
  match b with
  | ⟨0, _⟩ => show 0 * 1 + 1 * 0 = 0; omega
  | ⟨1, _⟩ => show 0 * 1024 + 1 * k.val = k.val; omega
  | ⟨2, _⟩ => show 0 * 1024 + 1 * d.val = d.val; omega

/-- The norm's weights at a point. -/
theorem iblk8_apply (k : Fin 1024) : (iblk m c 8 t : S1x1x1024.Idx → EReal) (ix3 0 0 k) = argN m c (ix2 0 k) := by
  unfold iblk
  rw [View.read_apply, show V m c (Pipeline.arrRef spec0 8) = _ from V_weights m c]
  refine shapeCast_apply (s := S2x1024) (t := S2x1x1024) _ _ _ (ix2 0 k) ?_
  rw [Shape.rowMajor_val_two, Shape.rowMajor_val_three]
  show 0 * 1024 + k.val = ((0 * 1 + 1 * 0) * 1 + (0 * 1 + 1 * 0)) * 1024 + (0 * 1024 + 1 * k.val)
  omega

end

/-- The merged rows of the run. -/
abbrev runMerged (c : Dev nD) : S32768x1024.Idx → EReal :=
  merged (argA m c) (argS m c) (argR m c) (argG m c) (argH m c) (argU m c) (argB m c) (argO m c)

/-- The normalised rows of the run. -/
abbrev runNormed (c : Dev nD) : S32768x1024.Idx → EReal :=
  normed (argA m c) (argS m c) (argR m c) (argG m c) (argH m c) (argU m c) (argB m c) (argO m c) (argN m c)

/-- A point's row, merged, is the merged row. -/
theorem blockMerge_eq (c : Dev nD) (t : Fin cfg0.N) (r : Fin 512) (R : Fin 32768) (hR : R.val = t.val * 512 + r.val) :
    blockMerge (iblk m c 0 t) (iblk m c 1 t) (iblk m c 2 t) (iblk m c 3 t) (iblk m c 4 t) (iblk m c 5 t) (iblk m c 6 t) (iblk m c 7 t) r
      = mergedRow (argA m c) (argS m c) (argR m c) (argG m c) (argH m c) (argU m c) (argB m c) (argO m c) R := by
  unfold blockMerge mergedRow
  refine congr (congr (congr (congr (congr (congr (congrArg₂ mergeRow ?_ ?_) ?_) ?_) ?_) ?_) ?_) ?_
  · exact funext fun k => iblk0_apply m c t r R hR k
  · exact funext fun k => iblk1_apply m c t r R hR _ _
  · exact funext fun k => iblk2_apply m c t r R hR k
  · exact funext fun k => iblk3_apply m c t r R hR k
  · exact funext fun k => iblk4_apply m c t r R hR k
  · exact funext fun k => funext fun d => iblk5_apply m c t k d
  · exact funext fun j => funext fun k => funext fun d => iblk6_apply m c t j k d
  · exact funext fun k => funext fun d => iblk7_apply m c t k d

/-- The row of result 1 that a row of a point's block is. -/
theorem emb14 (t : Fin cfg0.N) (r : Fin 512) (d : Fin 1024) (R : Fin 32768) (hR : R.val = t.val * 512 + r.val) :
    ((cfg0.win 14).blk t).view.emb (ix2 r d : S512x1024.Idx) = (ix2 R d : S32768x1024.Idx) := by
  funext b
  apply Fin.ext
  match b with
  | ⟨0, _⟩ => show (BitVec.ofNat 32 ((grid0.coords t) 0).val).toNat * 512 + 1 * r.val = R.val; rw [crd_word]; omega
  | ⟨1, _⟩ => show 0 * 1024 + 1 * d.val = d.val; omega

/-- Result 1 after the run. -/
theorem array14_eq (c : Dev nD) : (dats m 0 c).arrAt 14 cfg0.N = runMerged m c := by
  refine funext fun i => (dats m 0 c).arrAt_forall_of_cover 14 (fun i v => v = runMerged m c i) ?_ ?_ i
  · intro t _ y
    have hlt : t.val < 64 := t.isLt
    have hr : ((y : S512x1024.Idx) 0).val < 512 := ((y : S512x1024.Idx) 0).isLt
    have e := (congrArg ((cfg0.win 14).blk t).view.emb (eq_ix2 (y : S512x1024.Idx))).trans
      (emb14 t ((y : S512x1024.Idx) 0) ((y : S512x1024.Idx) 1) ⟨t.val * 512 + ((y : S512x1024.Idx) 0).val, by omega⟩ rfl)
    refine Eq.trans ?_ (congrArg (runMerged m c) e).symm
    refine (congrFun (Cert.Kernel4Ideal.Value.flushed14 m c t) y).trans ?_
    refine (out14_apply (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (y : S512x1024.Idx)).trans ?_
    exact congrFun (blockMerge_eq m c t _ ⟨t.val * 512 + ((y : S512x1024.Idx) 0).val, by omega⟩ rfl) ((y : S512x1024.Idx) 1)
  · intro i
    have hi : ((i : S32768x1024.Idx) 0).val < 32768 := ((i : S32768x1024.Idx) 0).isLt
    obtain ⟨t, ht⟩ : ∃ t : Fin cfg0.N, t.val = ((i : S32768x1024.Idx) 0).val / 512 := ⟨(⟨_, by show _ < 64; omega⟩ : Fin 64), rfl⟩
    have e := emb14 t ⟨((i : S32768x1024.Idx) 0).val % 512, Nat.mod_lt _ (by decide)⟩ ((i : S32768x1024.Idx) 1) ((i : S32768x1024.Idx) 0)
      (by show ((i : S32768x1024.Idx) 0).val = t.val * 512 + ((i : S32768x1024.Idx) 0).val % 512; omega)
    exact ⟨t, flush0_14 t, (e.trans (eq_ix2 (i : S32768x1024.Idx)).symm) ▸ View.emb_mem_set _ _⟩

/-- The row of result 2 that a row of a point's block is. -/
theorem emb15 (t : Fin cfg0.N) (r : Fin 512) (d : Fin 1024) (R : Fin 32768) (hR : R.val = t.val * 512 + r.val) :
    ((cfg0.win 15).blk t).view.emb (ix2 r d : S512x1024.Idx) = (ix2 R d : S32768x1024.Idx) := by
  funext b
  apply Fin.ext
  match b with
  | ⟨0, _⟩ => show (BitVec.ofNat 32 ((grid0.coords t) 0).val).toNat * 512 + 1 * r.val = R.val; rw [crd_word]; omega
  | ⟨1, _⟩ => show 0 * 1024 + 1 * d.val = d.val; omega

/-- Result 2 after the run. -/
theorem array15_eq (c : Dev nD) : (dats m 0 c).arrAt 15 cfg0.N = runNormed m c := by
  refine funext fun i => (dats m 0 c).arrAt_forall_of_cover 15 (fun i v => v = runNormed m c i) ?_ ?_ i
  · intro t _ y
    have hlt : t.val < 64 := t.isLt
    have hr : ((y : S512x1024.Idx) 0).val < 512 := ((y : S512x1024.Idx) 0).isLt
    have e := (congrArg ((cfg0.win 15).blk t).view.emb (eq_ix2 (y : S512x1024.Idx))).trans
      (emb15 t ((y : S512x1024.Idx) 0) ((y : S512x1024.Idx) 1) ⟨t.val * 512 + ((y : S512x1024.Idx) 0).val, by omega⟩ rfl)
    refine Eq.trans ?_ (congrArg (runNormed m c) e).symm
    refine (congrFun (Cert.Kernel4Ideal.Value.flushed15 m c t) y).trans ?_
    refine (out15_apply (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (y : S512x1024.Idx)).trans ?_
    exact congrFun (congrArg₂ normRow (blockMerge_eq m c t _ ⟨t.val * 512 + ((y : S512x1024.Idx) 0).val, by omega⟩ rfl)
      (funext fun d => iblk8_apply m c t d)) ((y : S512x1024.Idx) 1)
  · intro i
    have hi : ((i : S32768x1024.Idx) 0).val < 32768 := ((i : S32768x1024.Idx) 0).isLt
    obtain ⟨t, ht⟩ : ∃ t : Fin cfg0.N, t.val = ((i : S32768x1024.Idx) 0).val / 512 := ⟨(⟨_, by show _ < 64; omega⟩ : Fin 64), rfl⟩
    have e := emb15 t ⟨((i : S32768x1024.Idx) 0).val % 512, Nat.mod_lt _ (by decide)⟩ ((i : S32768x1024.Idx) 1) ((i : S32768x1024.Idx) 0)
      (by show ((i : S32768x1024.Idx) 0).val = t.val * 512 + ((i : S32768x1024.Idx) 0).val % 512; omega)
    exact ⟨t, flush0_15 t, (e.trans (eq_ix2 (i : S32768x1024.Idx)).symm) ▸ View.emb_mem_set _ _⟩

end Cert.Kernel4Ideal.Merge
-- ==== Proof.MergeReference.lean ====
/-
  What the merge's reference computes, over the extended reals: the residual plus the projected sum of the gated branches,
  and that sum normalised and weighted.
-/
module

public import proofs.«01_k».proof.Proof.MergeValue
public import proofs.«01_k».proof.Proof.Gen.Reference4Ideal.Read
public import Idealize.ShloMosaic.Lib.IdealHost

@[expose] public section

set_option maxRecDepth 16384

noncomputable section

namespace Cert.Reference4Ideal.Merge

open Cert.Reference4Ideal Cert.Reference4Ideal.Read
open Cert.Kernel4Ideal.Merge (zero_f32 dotRow gluOf mixOf mergeRow scaleOf normRow mergedRow merged normed)
open Idealize.ShloMosaic Idealize.ShloMosaic.TcCoe Idealize.ShloMosaic.ValueIdx
open scoped BigOperators

variable (a0 : S32768x512.Idx → EReal) (s : S4x32768x128.Idx → EReal) (a2 : S32768x512.Idx → EReal) (g : S32768x3072.Idx → EReal)
  (h : S32768x1024.Idx → EReal) (wg : S2x512x1024.Idx → EReal) (wb : S2x3x512x1024.Idx → EReal) (wo : S2x1024x1024.Idx → EReal)
  (n : S2x1024.Idx → EReal)

/-- A row of the state-space output, its slabs side by side. -/
def slabRow (r : Fin 32768) (k : Fin 512) : EReal := s (ix3 ⟨k.val / 128, by have h := k.isLt; omega⟩ r ⟨k.val % 128, by omega⟩)

/-- The reference's gated projection of the state-space output. -/
theorem project_apply (r : Fin 32768) (d : Fin 1024) :
    val_main_v4 (F := Ideal) s wg (ix2 r d) = dotRow (slabRow s r) (fun k => wg (ix3 0 k d)) := by
  rw [val_main_v4_apply]
  refine Finset.sum_congr rfl fun k _ => ?_
  rw [val_main_v1_apply, val_main_v0_apply, val_main_v3_apply, val_main_v2_apply]
  have hr := r.isLt; have hk := k.isLt; have hd := d.isLt
  refine congrArg₂ (· * ·) (congrArg s (funext fun a => Fin.ext ?_)) (congrArg wg (funext fun a => Fin.ext ?_))
  · match a with
    | ⟨0, _⟩ => show (r.val * 512 + k.val) / 128 % 4 = k.val / 128; omega
    | ⟨1, _⟩ => show (r.val * 512 + k.val) / 512 = r.val; omega
    | ⟨2, _⟩ => show (r.val * 512 + k.val) % 128 = k.val % 128; omega
  · match a with
    | ⟨0, _⟩ => rfl
    | ⟨1, _⟩ => show (k.val * 1024 + d.val) / 1024 % 512 = k.val; omega
    | ⟨2, _⟩ => show (k.val * 1024 + d.val) % 1024 = d.val; omega

/-- The reference's gated unit: its spelled-out logistic is the logistic. -/
theorem glu_apply (r : Fin 32768) (f : Fin 512) :
    val_main_v14 (F := Ideal) s wg (ix2 r f) = gluOf (slabRow s r) (fun k d => wg (ix3 0 k d)) f := by
  have hf := f.isLt
  have h5 : val_main_v5 (F := Ideal) s wg (ix2 r f) = dotRow (slabRow s r) (fun k => wg (ix3 0 k ⟨f.val, by omega⟩)) := by
    rw [val_main_v5_apply]
    refine Eq.trans (congrArg _ ?_) (project_apply s wg r ⟨f.val, by omega⟩)
    funext a; match a with | ⟨0, _⟩ => rfl | ⟨1, _⟩ => rfl
  have h6 : val_main_v6 (F := Ideal) s wg (ix2 r f) = dotRow (slabRow s r) (fun k => wg (ix3 0 k ⟨512 + f.val, by omega⟩)) := by
    rw [val_main_v6_apply]
    refine Eq.trans (congrArg _ ?_) (project_apply s wg r ⟨512 + f.val, by omega⟩)
    funext a; match a with | ⟨0, _⟩ => rfl | ⟨1, _⟩ => rfl
  rw [val_main_v14_apply, val_main_v13_apply, val_main_v12_apply, val_main_cst_0_apply, val_main_v11_apply, val_main_v10_apply,
    val_main_cst_apply, val_main_v9_apply, val_main_v8_apply, h5, h6]
  show dotRow _ _ * Ideal.div (Ideal.ofBits .f32 0x3F800000#32) (Ideal.ofBits .f32 0x3F800000#32 + Ideal.exp (-(dotRow _ _))) = _
  rw [Ideal.ofBits_one_f32]
  rfl

/-- The reference's branches: the attention's row, the gated unit, the retention's row. -/
def branchRow (r : Fin 32768) (b : Fin 3) : Fin 512 → EReal :=
  match b with
  | ⟨0, _⟩ => fun f => a0 (ix2 r f)
  | ⟨1, _⟩ => gluOf (slabRow s r) (fun k d => wg (ix3 0 k d))
  | ⟨2, _⟩ => fun f => a2 (ix2 r f)

/-- An entry of the stacked branches. -/
theorem stack_apply (r : Fin 32768) (b : Fin 3) (f : Fin 512) :
    val_main_v19 (F := Ideal) a0 s a2 wg (ix3 r b f) = branchRow a0 s a2 wg r b f := by
  unfold val_main_v19
  match b with
  | ⟨0, _⟩ =>
    refine (concatenate_apply_piece (t := S32768x3x512) 1 _ _ (ix3 r (0 : Fin 3) f) 0 (Nat.le_of_ble_eq_true rfl) S32768x1x512 (val_main_v16 (F := Ideal) a0) rfl rfl 0 rfl (ix3 r (0 : Fin 1) f) ?_ rfl).trans ?_
    · intro b hb
      match b with
      | ⟨0, _⟩ => rfl
      | ⟨1, _⟩ => exact absurd rfl hb
      | ⟨2, _⟩ => rfl
    · rw [val_main_v16_apply, val_main_v7_apply]
      exact congrArg a0 (funext fun a => match a with | ⟨0, _⟩ => rfl | ⟨1, _⟩ => rfl)
  | ⟨1, _⟩ =>
    refine (concatenate_apply_piece (t := S32768x3x512) 1 _ _ (ix3 r (1 : Fin 3) f) 1 (Nat.le_of_ble_eq_true rfl) S32768x1x512 (val_main_v17 (F := Ideal) s wg) rfl rfl 1 rfl (ix3 r (0 : Fin 1) f) ?_ rfl).trans ?_
    · intro b hb
      match b with
      | ⟨0, _⟩ => rfl
      | ⟨1, _⟩ => exact absurd rfl hb
      | ⟨2, _⟩ => rfl
    · rw [val_main_v17_apply]
      refine Eq.trans (congrArg _ ?_) (glu_apply s wg r f)
      exact (funext fun a => match a with | ⟨0, _⟩ => rfl | ⟨1, _⟩ => rfl)
  | ⟨2, _⟩ =>
    refine (concatenate_apply_piece (t := S32768x3x512) 1 _ _ (ix3 r (2 : Fin 3) f) 2 (Nat.le_of_ble_eq_true rfl) S32768x1x512 (val_main_v18 (F := Ideal) a2) rfl rfl 2 rfl (ix3 r (0 : Fin 1) f) ?_ rfl).trans ?_
    · intro b hb
      match b with
      | ⟨0, _⟩ => rfl
      | ⟨1, _⟩ => exact absurd rfl hb
      | ⟨2, _⟩ => rfl
    · rw [val_main_v18_apply, val_main_v15_apply]
      exact congrArg a2 (funext fun a => match a with | ⟨0, _⟩ => rfl | ⟨1, _⟩ => rfl)

/-- A branch's product with its matrix. -/
theorem branch_apply (r : Fin 32768) (b : Fin 3) (d : Fin 1024) :
    val_main_v23 (F := Ideal) a0 s a2 wg wb (ix3 r b d) = dotRow (branchRow a0 s a2 wg r b) (fun f => wb (ix4 0 b f d)) := by
  rw [val_main_v23_apply, val_main_v22_apply]
  refine Finset.sum_congr rfl fun k _ => ?_
  rw [val_main_v21_apply, val_main_v20_apply]
  have hb := b.isLt; have hk := k.isLt; have hd := d.isLt
  refine (mul_comm _ _).trans (congrArg₂ (· * ·) (Eq.trans (congrArg _ ?_) (stack_apply a0 s a2 wg r b k)) (congrArg wb (funext fun a => Fin.ext ?_)))
  · funext a; match a with | ⟨0, _⟩ => rfl | ⟨1, _⟩ => rfl | ⟨2, _⟩ => rfl
  · match a with
    | ⟨0, _⟩ => rfl
    | ⟨1, _⟩ => show ((b.val * 512 + k.val) * 1024 + d.val) / 524288 % 3 = b.val; omega
    | ⟨2, _⟩ => show ((b.val * 512 + k.val) * 1024 + d.val) / 1024 % 512 = k.val; omega
    | ⟨3, _⟩ => show ((b.val * 512 + k.val) * 1024 + d.val) % 1024 = d.val; omega

/-- A gate: the spelled-out logistic is the logistic. -/
theorem gate_apply (r : Fin 32768) (b : Fin 3) (d : Fin 1024) (C : Fin 3072) (hC : C.val = b.val * 1024 + d.val) :
    val_main_v31 (F := Ideal) g (ix3 r b d) = Ideal.logistic (g (ix2 r C)) := by
  have e : idx_main_v31 (ix3 r b d) = ix2 r C := by
    have hr := r.isLt; have hb := b.isLt; have hd := d.isLt
    funext a; apply Fin.ext
    match a with
    | ⟨0, _⟩ => show ((r.val * 3 + b.val) * 1024 + d.val) / 3072 = r.val; omega
    | ⟨1, _⟩ => show ((r.val * 3 + b.val) * 1024 + d.val) % 3072 = C.val; omega
  rw [val_main_v31_apply, e, val_main_v30_apply, val_main_v29_apply, val_main_cst_2_apply, val_main_v28_apply, val_main_v27_apply,
    val_main_cst_1_apply, val_main_v26_apply, val_main_v25_apply, val_main_v24_apply]
  show Ideal.div (Ideal.ofBits .f32 0x3F800000#32) (Ideal.ofBits .f32 0x3F800000#32 + Ideal.exp (-(g (ix2 r C)))) = _
  rw [Ideal.ofBits_one_f32]
  rfl

/-- The gated branches, summed. -/
theorem mix_apply (r : Fin 32768) (d : Fin 1024) :
    val_main_v33 (F := Ideal) a0 s a2 g wg wb (ix2 r d)
      = mixOf (fun f => a0 (ix2 r f)) (gluOf (slabRow s r) (fun k d => wg (ix3 0 k d))) (fun f => a2 (ix2 r f)) (fun c => g (ix2 r c))
          (fun b f d => wb (ix4 0 b f d)) d := by
  have hd := d.isLt
  rw [val_main_v33_apply, val_main_cst_3_apply]
  refine (congrArg (· + _) zero_f32).trans ((zero_add _).trans ?_)
  have term (b : Fin 3) (C : Fin 3072) (hC : C.val = b.val * 1024 + d.val) : val_main_v32 (F := Ideal) a0 s a2 g wg wb (idx_main_v33 (ix2 r d) b)
      = Ideal.logistic (g (ix2 r C)) * dotRow (branchRow a0 s a2 wg r b) (fun f => wb (ix4 0 b f d)) := by
    have e : idx_main_v33 (ix2 r d) b = ix3 r b d := by
      funext a; match a with | ⟨0, _⟩ => rfl | ⟨1, _⟩ => rfl | ⟨2, _⟩ => rfl
    rw [e, val_main_v32_apply, gate_apply g r b d C hC, branch_apply]
    rfl
  rw [Fin.sum_univ_three, term 0 ⟨d.val, by omega⟩ (by show d.val = 0 * 1024 + d.val; omega), term 1 ⟨1024 + d.val, by omega⟩ (by show 1024 + d.val = 1 * 1024 + d.val; omega),
    term 2 ⟨2048 + d.val, by omega⟩ (by show 2048 + d.val = 2 * 1024 + d.val; omega)]
  rfl

/-- An entry of the reference's merged rows. -/
theorem merged_apply (r : Fin 32768) (d : Fin 1024) :
    val_main_v37 (F := Ideal) a0 s a2 g h wg wb wo (ix2 r d) = mergedRow a0 s a2 g h wg wb wo r d := by
  rw [val_main_v37_apply, val_main_v36_apply]
  refine congrArg (h (ix2 r d) + ·) (Finset.sum_congr rfl fun k _ => ?_)
  rw [val_main_v35_apply, val_main_v34_apply]
  have hk := k.isLt; have hd := d.isLt
  refine congrArg₂ (· * ·) (Eq.trans (congrArg _ ?_) (mix_apply a0 s a2 g wg wb r k)) (congrArg wo (funext fun a => Fin.ext ?_))
  · funext a; match a with | ⟨0, _⟩ => rfl | ⟨1, _⟩ => rfl
  · match a with
    | ⟨0, _⟩ => rfl
    | ⟨1, _⟩ => show (k.val * 1024 + d.val) / 1024 % 1024 = k.val; omega
    | ⟨2, _⟩ => show (k.val * 1024 + d.val) % 1024 = d.val; omega

/-- The factor that the reference normalises a merged row by. -/
theorem scale_apply (r : Fin 32768) :
    val_main_v45 (F := Ideal) a0 s a2 g h wg wb wo (ix2 r (0 : Fin 1)) = scaleOf (mergedRow a0 s a2 g h wg wb wo r) := by
  have hs : val_main_v40 (F := Ideal) a0 s a2 g h wg wb wo (ix2 r (0 : Fin 1))
      = ∑ k : Fin 1024, mergedRow a0 s a2 g h wg wb wo r k * mergedRow a0 s a2 g h wg wb wo r k := by
    rw [val_main_v40_apply, val_main_v39_apply, val_main_cst_4_apply]
    refine (congrArg (· + _) zero_f32).trans ((zero_add _).trans ?_)
    refine Finset.sum_congr rfl fun k _ => ?_
    have e : idx_main_v39 (idx_main_v40 (ix2 r (0 : Fin 1))) k = ix2 r k := by
      funext a; match a with | ⟨0, _⟩ => rfl | ⟨1, _⟩ => rfl
    rw [e, val_main_v38_apply, merged_apply]
    rfl
  rw [val_main_v45_apply, val_main_v44_apply, val_main_v42_apply, val_main_v41_apply, val_main_cst_5_apply, val_main_v43_apply,
    val_main_cst_6_apply, hs]
  rfl

/-- The reference's merged rows. -/
theorem merged_eq : val_main_v37 (F := Ideal) a0 s a2 g h wg wb wo = merged a0 s a2 g h wg wb wo :=
  funext fun y => (congrArg _ (eq_ix2 y)).trans (merged_apply a0 s a2 g h wg wb wo (y 0) (y 1))

/-- The reference's normalised rows. -/
theorem normed_eq : val_main_v53 (F := Ideal) a0 s a2 g h wg wb wo n = normed a0 s a2 g h wg wb wo n := by
  have entry (r : Fin 32768) (d : Fin 1024) : val_main_v52 (F := Ideal) a0 s a2 g h wg wb wo n (ix2 r d)
      = normRow (mergedRow a0 s a2 g h wg wb wo r) (fun d => n (ix2 0 d)) d := by
    have e46 : idx_main_v46 (ix2 r d) = ix2 r (0 : Fin 1) := by
      funext a; match a with | ⟨0, _⟩ => rfl | ⟨1, _⟩ => rfl
    have en : idx_main_v48 (idx_main_v49 (idx_main_v50 (idx_main_v51 (ix2 r d)))) = ix2 (0 : Fin 2) d := by
      have hd := d.isLt
      funext a; apply Fin.ext
      match a with
      | ⟨0, _⟩ => rfl
      | ⟨1, _⟩ => show d.val % 1024 = d.val; omega
    rw [val_main_v52_apply, val_main_v47_apply, val_main_v46_apply, val_main_v51_apply, val_main_v50_apply, val_main_v49_apply,
      val_main_v48_apply, e46, en, scale_apply, merged_apply]
    rfl
  exact funext fun y => (congrArg (val_main_v53 (F := Ideal) a0 s a2 g h wg wb wo n) (eq_ix2 y)).trans (entry (y 0) (y 1))

end Cert.Reference4Ideal.Merge
-- ==== Proof.MergeClaim.lean ====
/-
  The merge's claims: the frames, and the equation. From memories that agree on the thirteen arguments, the kernel's first
  two result arrays and the reference's end equal.
-/
module

public import proofs.«01_k».proof.Proof.MergeReference
public import proofs.«01_k».proof.Proof.Gen.Kernel4.Frame
public import proofs.«01_k».proof.Proof.Gen.Reference4Ideal.Run
public import proofs.«01_k».proof.Proof.Gen.Reference4Ideal
public import proofs.«01_k».proof.Defs

@[expose] public section

set_option maxRecDepth 16384

noncomputable section

namespace Cert.Kernel4Ideal.Merge

open Idealize.ShloMosaic Idealize.ShloMosaic.TcCoe
open Idealize.SL.Sem

/-- Every execution of the merge ends, with its arguments unchanged and every counter at zero. -/
theorem frame_kernel : Cert.quiescent_Kernel4 := fun m ρ _ => Cert.Kernel4.Gen.frame (F := Bits) m ρ

/-- The same for the merge over the extended reals. -/
theorem frame_kernelIdeal : Cert.quiescent_Kernel4Ideal := fun m ρ _ => Cert.Kernel4Ideal.Gen.frame (F := Ideal) m ρ

/-- The same for the merge's reference. -/
theorem frame_referenceIdeal : Cert.quiescent_Reference4Ideal := by
  intro m ρ _
  exact (θ_run Cert.Reference4Ideal.defs _ _).mono
    (fun r h => ⟨fun c => (h c).2.2, Idealize.ShloMosaic.sem_eq_zero_of_no_sems (by decide) r.2⟩)
    (Cert.Reference4Ideal.Value.run (F := Ideal) m ρ)

set_option maxHeartbeats 1000000 in
/-- The merge and its reference end at the same two arrays. -/
theorem algebraic : Cert.algebraic_Kernel4Ideal_Reference4Ideal := by
  intro m ρ m' ρ' _ hagree
  refine ⟨fun c => runMerged m c, fun c => runNormed m c, ?_, ?_⟩
  · exact (θ_run Cert.Kernel4Ideal.defs _ _).mono
      (fun r h c => ⟨(h c).1.trans (array14_eq m c), (h c).2.1.trans (array15_eq m c), (h c).2.2.2.2.2⟩)
      (Cert.Kernel4Ideal.Value.run_blocks (F := Ideal) m ρ)
  · refine (θ_run Cert.Reference4Ideal.defs _ _).mono
      (fun r h c => ⟨(h c).1.trans ?_, (h c).2.1.trans ?_, (h c).2.2⟩)
      (Cert.Reference4Ideal.Value.run (F := Ideal) m' ρ')
    · obtain ⟨h0, h1, h2, h3, h4, h5, h6, h7, _⟩ := hagree c
      rw [h0, h1, h2, h3, h4, h5, h6, h7]
      exact (Cert.Reference4Ideal.Read.val_main_v37_eq (F := Ideal) _ _ _ _ _ _ _ _).trans (Cert.Reference4Ideal.Merge.merged_eq _ _ _ _ _ _ _ _)
    · obtain ⟨h0, h1, h2, h3, h4, h5, h6, h7, h8, _⟩ := hagree c
      refine (Cert.Reference4Ideal.Read.val_main_v53_eq (F := Ideal) m' c).trans ?_
      rw [h0, h1, h2, h3, h4, h5, h6, h7, h8]
      exact Cert.Reference4Ideal.Merge.normed_eq _ _ _ _ _ _ _ _ _

end Cert.Kernel4Ideal.Merge
-- ==== Proof.lean ====
/-
  The claims: the experts' feed-forward, the input projection, the stick-breaking attention and the merge, each with its frames, the
  step to the extended reals, and the equation with its reference.
-/
module

public import proofs.«01_k».proof.Defs
public import proofs.«01_k».proof.Proof.ExpertsFrame
public import proofs.«01_k».proof.Proof.ExpertsClaim
public import proofs.«01_k».proof.Proof.InprojClaim
public import proofs.«01_k».proof.Proof.AttnFrame
public import proofs.«01_k».proof.Proof.AttnClaim
public import proofs.«01_k».proof.Proof.MergeClaim
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_in_range
public import proofs.«01_k».proof.Proof.Gen.Pre_finite

@[expose] public section

noncomputable section

namespace Cert.Proof

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_in_range.Gen.facts, Cert.Pre_finite.Gen.facts,
  Cert.KernelIdeal.Experts.frame_kernel, Cert.KernelIdeal.Experts.frame_kernelIdeal, Cert.KernelIdeal.Experts.frame_referenceIdeal,
  Cert.Kernel2Ideal.Inproj.frame_kernel, Cert.Kernel2Ideal.Inproj.frame_kernelIdeal, Cert.Kernel2Ideal.Inproj.frame_referenceIdeal,
  Cert.Kernel3Ideal.Attention.frame_kernel, Cert.Kernel3Ideal.Attention.frame_kernelIdeal, Cert.Kernel3Ideal.Attention.frame_kernelIdeal_finite, Cert.Kernel3Ideal.Attention.frame_referenceIdeal, Cert.Kernel3Ideal.Attention.frame_referenceIdeal_finite,
  Cert.Kernel4Ideal.Merge.frame_kernel, Cert.Kernel4Ideal.Merge.frame_kernelIdeal, Cert.Kernel4Ideal.Merge.frame_referenceIdeal,
  trivial, Cert.KernelIdeal.Experts.algebraic, trivial, Cert.Kernel2Ideal.Inproj.algebraic, Cert.Kernel3Ideal.Attention.preserves, Cert.Kernel3Ideal.Attention.algebraic, trivial, Cert.Kernel4Ideal.Merge.algebraic⟩

end Cert.Proof

end
